-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![16384, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 2048]⟩ ⟨2, ![512, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S16x2048 : Shape := ⟨2, ![16, 2048]⟩
abbrev S512x768 : Shape := ⟨2, ![512, 768]⟩
abbrev S512x640 : Shape := ⟨2, ![512, 640]⟩
abbrev S256x768 : Shape := ⟨2, ![256, 768]⟩
abbrev S128x768 : Shape := ⟨2, ![128, 768]⟩
abbrev S64x768 : Shape := ⟨2, ![64, 768]⟩
abbrev S32x768 : Shape := ⟨2, ![32, 768]⟩
abbrev S16x768 : Shape := ⟨2, ![16, 768]⟩
abbrev S256x640 : Shape := ⟨2, ![256, 640]⟩
abbrev S128x640 : Shape := ⟨2, ![128, 640]⟩
abbrev S64x640 : Shape := ⟨2, ![64, 640]⟩
abbrev S32x640 : Shape := ⟨2, ![32, 640]⟩
abbrev S16x640 : Shape := ⟨2, ![16, 640]⟩
abbrev S3x5 : Shape := ⟨2, ![3, 5]⟩
abbrev S_ : Shape := ⟨0, ![]⟩
abbrev S1x512 : Shape := ⟨2, ![1, 512]⟩
abbrev S1x1 : Shape := ⟨2, ![1, 1]⟩

abbrev nBuf : Space → Nat
  | .hbm => 3
  | .vmem => 22
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S16x2048, .f32⟩
  | .local _ .vmem, ⟨0, _⟩ => ⟨S512x512, .f32⟩
  | .local _ .vmem, ⟨1, _⟩ => ⟨S512x2048, .f32⟩
  | .local _ .vmem, ⟨2, _⟩ => ⟨S16x2048, .f32⟩
  | .local _ .vmem, ⟨3, _⟩ => ⟨S512x768, .f32⟩
  | .local _ .vmem, ⟨4, _⟩ => ⟨S512x640, .f32⟩
  | .local _ .vmem, ⟨5, _⟩ => ⟨S512x640, .f32⟩
  | .local _ .vmem, ⟨6, _⟩ => ⟨S512x512, .f32⟩
  | .local _ .vmem, ⟨7, _⟩ => ⟨S256x768, .f32⟩
  | .local _ .vmem, ⟨8, _⟩ => ⟨S128x768, .f32⟩
  | .local _ .vmem, ⟨9, _⟩ => ⟨S64x768, .f32⟩
  | .local _ .vmem, ⟨10, _⟩ => ⟨S32x768, .f32⟩
  | .local _ .vmem, ⟨11, _⟩ => ⟨S16x768, .f32⟩
  | .local _ .vmem, ⟨12, _⟩ => ⟨S256x640, .f32⟩
  | .local _ .vmem, ⟨13, _⟩ => ⟨S128x640, .f32⟩
  | .local _ .vmem, ⟨14, _⟩ => ⟨S64x640, .f32⟩
  | .local _ .vmem, ⟨15, _⟩ => ⟨S32x640, .f32⟩
  | .local _ .vmem, ⟨16, _⟩ => ⟨S16x640, .f32⟩
  | .local _ .vmem, ⟨17, _⟩ => ⟨S256x640, .f32⟩
  | .local _ .vmem, ⟨18, _⟩ => ⟨S128x640, .f32⟩
  | .local _ .vmem, ⟨19, _⟩ => ⟨S64x640, .f32⟩
  | .local _ .vmem, ⟨20, _⟩ => ⟨S32x640, .f32⟩
  | .local _ .vmem, ⟨21, _⟩ => ⟨S16x640, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 2 → Bool
  | ⟨0, _⟩ => false
  | ⟨1, _⟩ => true
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_206 : BitVec 32 := 0#32
  let c8_i32_64 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c1_i32_31 : BitVec 32 := 1#32
  let v72 : BitVec 32 := Scalar.xori v71 c1_i32_31
  let c0_i32_33 : BitVec 32 := 0#32
  let v74 : BitVec 1 := Scalar.cmpi .sgt v72 c0_i32_33
  let v75 : BitVec 32 := Scalar.extui v74
  let c0_i32_34 : BitVec 32 := 0#32
  let v76 : BitVec 1 := Scalar.cmpi .slt v72 c0_i32_34
  let v77 : BitVec 32 := Scalar.extui v76
  let v78 : BitVec 32 := Scalar.subi v75 v77
  let c8_i32_32 : BitVec 32 := 8#32
  let c0_i32_35 : BitVec 32 := 0#32
  let v79 : BitVec 1 := Scalar.cmpi .sgt c8_i32_32 c0_i32_35
  let v80 : BitVec 32 := Scalar.extui v79
  let c0_i32_36 : BitVec 32 := 0#32
  let v81 : BitVec 1 := Scalar.cmpi .slt c8_i32_32 c0_i32_36
  let v82 : BitVec 32 := Scalar.extui v81
  let v83 : BitVec 32 := Scalar.subi v80 v82
  let v84 : BitVec 1 := Scalar.cmpi .ne v78 v83
  let v85 : BitVec 32 := Scalar.remsi v72 c8_i32_32
  let c0_i32_37 : BitVec 32 := 0#32
  let v86 : BitVec 1 := Scalar.cmpi .ne v85 c0_i32_37
  let v87 : BitVec 1 := Scalar.andi v84 v86
  let v73 : BitVec 32 := Scalar.divsi v72 c8_i32_32
  let c1_i32_38 : BitVec 32 := 1#32
  let v88 : BitVec 32 := Scalar.subi v73 c1_i32_38
  let v89 : BitVec 32 := Scalar.select v87 v88 v73
  let v138 : BitVec 32 := Scalar.muli c8_i32_64 v89
  let c2_i32_65 : BitVec 32 := 2#32
  let c8_i32_39 : BitVec 32 := 8#32
  let c0_i32_40 : BitVec 32 := 0#32
  let v90 : BitVec 1 := Scalar.cmpi .eq c8_i32_39 c0_i32_40
  let c1_i32_41 : BitVec 32 := 1#32
  let v91 : BitVec 32 := Scalar.select v90 c1_i32_41 c8_i32_39
  let v92 : BitVec 32 := Scalar.remsi v72 v91
  let c0_i32_43 : BitVec 32 := 0#32
  let v94 : BitVec 1 := Scalar.cmpi .slt v92 c0_i32_43
  let c0_i32_44 : BitVec 32 := 0#32
  let v95 : BitVec 1 := Scalar.cmpi .slt v91 c0_i32_44
  let v96 : BitVec 1 := Scalar.xori v94 v95
  let c0_i32_42 : BitVec 32 := 0#32
  let v93 : BitVec 1 := Scalar.cmpi .ne v92 c0_i32_42
  let v97 : BitVec 1 := Scalar.andi v96 v93
  let v98 : BitVec 32 := Scalar.addi v92 v91
  let v99 : BitVec 32 := Scalar.select v97 v98 v92
  let c0_i32_46 : BitVec 32 := 0#32
  let v101 : BitVec 1 := Scalar.cmpi .sgt v99 c0_i32_46
  let v102 : BitVec 32 := Scalar.extui v101
  let c0_i32_47 : BitVec 32 := 0#32
  let v103 : BitVec 1 := Scalar.cmpi .slt v99 c0_i32_47
  let v104 : BitVec 32 := Scalar.extui v103
  let v105 : BitVec 32 := Scalar.subi v102 v104
  let c2_i32_45 : BitVec 32 := 2#32
  let c0_i32_48 : BitVec 32 := 0#32
  let v106 : BitVec 1 := Scalar.cmpi .sgt c2_i32_45 c0_i32_48
  let v107 : BitVec 32 := Scalar.extui v106
  let c0_i32_49 : BitVec 32 := 0#32
  let v108 : BitVec 1 := Scalar.cmpi .slt c2_i32_45 c0_i32_49
  let v109 : BitVec 32 := Scalar.extui v108
  let v110 : BitVec 32 := Scalar.subi v107 v109
  let v111 : BitVec 1 := Scalar.cmpi .ne v105 v110
  let v112 : BitVec 32 := Scalar.remsi v99 c2_i32_45
  let c0_i32_50 : BitVec 32 := 0#32
  let v113 : BitVec 1 := Scalar.cmpi .ne v112 c0_i32_50
  let v114 : BitVec 1 := Scalar.andi v111 v113
  let v100 : BitVec 32 := Scalar.divsi v99 c2_i32_45
  let c1_i32_51 : BitVec 32 := 1#32
  let v115 : BitVec 32 := Scalar.subi v100 c1_i32_51
  let v116 : BitVec 32 := Scalar.select v114 v115 v100
  let v139 : BitVec 32 := Scalar.muli c2_i32_65 v116
  let v140 : BitVec 32 := Scalar.addi v138 v139
  let c2_i32_52 : BitVec 32 := 2#32
  let c0_i32_53 : BitVec 32 := 0#32
  let v117 : BitVec 1 := Scalar.cmpi .eq c2_i32_52 c0_i32_53
  let c1_i32_54 : BitVec 32 := 1#32
  let v118 : BitVec 32 := Scalar.select v117 c1_i32_54 c2_i32_52
  let v119 : BitVec 32 := Scalar.remsi v99 v118
  let c0_i32_56 : BitVec 32 := 0#32
  let v121 : BitVec 1 := Scalar.cmpi .slt v119 c0_i32_56
  let c0_i32_57 : BitVec 32 := 0#32
  let v122 : BitVec 1 := Scalar.cmpi .slt v118 c0_i32_57
  let v123 : BitVec 1 := Scalar.xori v121 v122
  let c0_i32_55 : BitVec 32 := 0#32
  let v120 : BitVec 1 := Scalar.cmpi .ne v119 c0_i32_55
  let v124 : BitVec 1 := Scalar.andi v123 v120
  let v125 : BitVec 32 := Scalar.addi v119 v118
  let v126 : BitVec 32 := Scalar.select v124 v125 v119
  let c2_i32_58 : BitVec 32 := 2#32
  let c0_i32_59 : BitVec 32 := 0#32
  let v127 : BitVec 1 := Scalar.cmpi .eq c2_i32_58 c0_i32_59
  let c1_i32_60 : BitVec 32 := 1#32
  let v128 : BitVec 32 := Scalar.select v127 c1_i32_60 c2_i32_58
  let v129 : BitVec 32 := Scalar.remsi v116 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let v137 : BitVec 32 := Scalar.xori v126 v136
  let v141 : BitVec 32 := Scalar.addi v140 v137
  let c1_i32_205 : BitVec 32 := 1#32
  let v423 : BitVec 32 := Scalar.muli v141 c1_i32_205
  let v424 : BitVec 32 := Scalar.addi c0_i32_206 v423
  v424.toNat
def k0_dev2 (d0 : Dev nD) : Nat :=
  let c0_i32_209 : BitVec 32 := 0#32
  let c8_i32_99 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c2_i32_66 : BitVec 32 := 2#32
  let v142 : BitVec 32 := Scalar.xori v71 c2_i32_66
  let c0_i32_68 : BitVec 32 := 0#32
  let v144 : BitVec 1 := Scalar.cmpi .sgt v142 c0_i32_68
  let v145 : BitVec 32 := Scalar.extui v144
  let c0_i32_69 : BitVec 32 := 0#32
  let v146 : BitVec 1 := Scalar.cmpi .slt v142 c0_i32_69
  let v147 : BitVec 32 := Scalar.extui v146
  let v148 : BitVec 32 := Scalar.subi v145 v147
  let c8_i32_67 : BitVec 32 := 8#32
  let c0_i32_70 : BitVec 32 := 0#32
  let v149 : BitVec 1 := Scalar.cmpi .sgt c8_i32_67 c0_i32_70
  let v150 : BitVec 32 := Scalar.extui v149
  let c0_i32_71 : BitVec 32 := 0#32
  let v151 : BitVec 1 := Scalar.cmpi .slt c8_i32_67 c0_i32_71
  let v152 : BitVec 32 := Scalar.extui v151
  let v153 : BitVec 32 := Scalar.subi v150 v152
  let v154 : BitVec 1 := Scalar.cmpi .ne v148 v153
  let v155 : BitVec 32 := Scalar.remsi v142 c8_i32_67
  let c0_i32_72 : BitVec 32 := 0#32
  let v156 : BitVec 1 := Scalar.cmpi .ne v155 c0_i32_72
  let v157 : BitVec 1 := Scalar.andi v154 v156
  let v143 : BitVec 32 := Scalar.divsi v142 c8_i32_67
  let c1_i32_73 : BitVec 32 := 1#32
  let v158 : BitVec 32 := Scalar.subi v143 c1_i32_73
  let v159 : BitVec 32 := Scalar.select v157 v158 v143
  let v208 : BitVec 32 := Scalar.muli c8_i32_99 v159
  let c2_i32_100 : BitVec 32 := 2#32
  let c8_i32_74 : BitVec 32 := 8#32
  let c0_i32_75 : BitVec 32 := 0#32
  let v160 : BitVec 1 := Scalar.cmpi .eq c8_i32_74 c0_i32_75
  let c1_i32_76 : BitVec 32 := 1#32
  let v161 : BitVec 32 := Scalar.select v160 c1_i32_76 c8_i32_74
  let v162 : BitVec 32 := Scalar.remsi v142 v161
  let c0_i32_78 : BitVec 32 := 0#32
  let v164 : BitVec 1 := Scalar.cmpi .slt v162 c0_i32_78
  let c0_i32_79 : BitVec 32 := 0#32
  let v165 : BitVec 1 := Scalar.cmpi .slt v161 c0_i32_79
  let v166 : BitVec 1 := Scalar.xori v164 v165
  let c0_i32_77 : BitVec 32 := 0#32
  let v163 : BitVec 1 := Scalar.cmpi .ne v162 c0_i32_77
  let v167 : BitVec 1 := Scalar.andi v166 v163
  let v168 : BitVec 32 := Scalar.addi v162 v161
  let v169 : BitVec 32 := Scalar.select v167 v168 v162
  let c0_i32_81 : BitVec 32 := 0#32
  let v171 : BitVec 1 := Scalar.cmpi .sgt v169 c0_i32_81
  let v172 : BitVec 32 := Scalar.extui v171
  let c0_i32_82 : BitVec 32 := 0#32
  let v173 : BitVec 1 := Scalar.cmpi .slt v169 c0_i32_82
  let v174 : BitVec 32 := Scalar.extui v173
  let v175 : BitVec 32 := Scalar.subi v172 v174
  let c2_i32_80 : BitVec 32 := 2#32
  let c0_i32_83 : BitVec 32 := 0#32
  let v176 : BitVec 1 := Scalar.cmpi .sgt c2_i32_80 c0_i32_83
  let v177 : BitVec 32 := Scalar.extui v176
  let c0_i32_84 : BitVec 32 := 0#32
  let v178 : BitVec 1 := Scalar.cmpi .slt c2_i32_80 c0_i32_84
  let v179 : BitVec 32 := Scalar.extui v178
  let v180 : BitVec 32 := Scalar.subi v177 v179
  let v181 : BitVec 1 := Scalar.cmpi .ne v175 v180
  let v182 : BitVec 32 := Scalar.remsi v169 c2_i32_80
  let c0_i32_85 : BitVec 32 := 0#32
  let v183 : BitVec 1 := Scalar.cmpi .ne v182 c0_i32_85
  let v184 : BitVec 1 := Scalar.andi v181 v183
  let v170 : BitVec 32 := Scalar.divsi v169 c2_i32_80
  let c1_i32_86 : BitVec 32 := 1#32
  let v185 : BitVec 32 := Scalar.subi v170 c1_i32_86
  let v186 : BitVec 32 := Scalar.select v184 v185 v170
  let v209 : BitVec 32 := Scalar.muli c2_i32_100 v186
  let v210 : BitVec 32 := Scalar.addi v208 v209
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v169 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c2_i32_93 : BitVec 32 := 2#32
  let c0_i32_94 : BitVec 32 := 0#32
  let v197 : BitVec 1 := Scalar.cmpi .eq c2_i32_93 c0_i32_94
  let c1_i32_95 : BitVec 32 := 1#32
  let v198 : BitVec 32 := Scalar.select v197 c1_i32_95 c2_i32_93
  let v199 : BitVec 32 := Scalar.remsi v186 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let v207 : BitVec 32 := Scalar.xori v196 v206
  let v211 : BitVec 32 := Scalar.addi v210 v207
  let c1_i32_208 : BitVec 32 := 1#32
  let v425 : BitVec 32 := Scalar.muli v211 c1_i32_208
  let v426 : BitVec 32 := Scalar.addi c0_i32_209 v425
  v426.toNat
def k0_dev3 (d0 : Dev nD) : Nat :=
  let c0_i32_212 : BitVec 32 := 0#32
  let c8_i32_133 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c4_i32 : BitVec 32 := 4#32
  let v212 : BitVec 32 := Scalar.xori v71 c4_i32
  let c0_i32_102 : BitVec 32 := 0#32
  let v214 : BitVec 1 := Scalar.cmpi .sgt v212 c0_i32_102
  let v215 : BitVec 32 := Scalar.extui v214
  let c0_i32_103 : BitVec 32 := 0#32
  let v216 : BitVec 1 := Scalar.cmpi .slt v212 c0_i32_103
  let v217 : BitVec 32 := Scalar.extui v216
  let v218 : BitVec 32 := Scalar.subi v215 v217
  let c8_i32_101 : BitVec 32 := 8#32
  let c0_i32_104 : BitVec 32 := 0#32
  let v219 : BitVec 1 := Scalar.cmpi .sgt c8_i32_101 c0_i32_104
  let v220 : BitVec 32 := Scalar.extui v219
  let c0_i32_105 : BitVec 32 := 0#32
  let v221 : BitVec 1 := Scalar.cmpi .slt c8_i32_101 c0_i32_105
  let v222 : BitVec 32 := Scalar.extui v221
  let v223 : BitVec 32 := Scalar.subi v220 v222
  let v224 : BitVec 1 := Scalar.cmpi .ne v218 v223
  let v225 : BitVec 32 := Scalar.remsi v212 c8_i32_101
  let c0_i32_106 : BitVec 32 := 0#32
  let v226 : BitVec 1 := Scalar.cmpi .ne v225 c0_i32_106
  let v227 : BitVec 1 := Scalar.andi v224 v226
  let v213 : BitVec 32 := Scalar.divsi v212 c8_i32_101
  let c1_i32_107 : BitVec 32 := 1#32
  let v228 : BitVec 32 := Scalar.subi v213 c1_i32_107
  let v229 : BitVec 32 := Scalar.select v227 v228 v213
  let v278 : BitVec 32 := Scalar.muli c8_i32_133 v229
  let c2_i32_134 : BitVec 32 := 2#32
  let c8_i32_108 : BitVec 32 := 8#32
  let c0_i32_109 : BitVec 32 := 0#32
  let v230 : BitVec 1 := Scalar.cmpi .eq c8_i32_108 c0_i32_109
  let c1_i32_110 : BitVec 32 := 1#32
  let v231 : BitVec 32 := Scalar.select v230 c1_i32_110 c8_i32_108
  let v232 : BitVec 32 := Scalar.remsi v212 v231
  let c0_i32_112 : BitVec 32 := 0#32
  let v234 : BitVec 1 := Scalar.cmpi .slt v232 c0_i32_112
  let c0_i32_113 : BitVec 32 := 0#32
  let v235 : BitVec 1 := Scalar.cmpi .slt v231 c0_i32_113
  let v236 : BitVec 1 := Scalar.xori v234 v235
  let c0_i32_111 : BitVec 32 := 0#32
  let v233 : BitVec 1 := Scalar.cmpi .ne v232 c0_i32_111
  let v237 : BitVec 1 := Scalar.andi v236 v233
  let v238 : BitVec 32 := Scalar.addi v232 v231
  let v239 : BitVec 32 := Scalar.select v237 v238 v232
  let c0_i32_115 : BitVec 32 := 0#32
  let v241 : BitVec 1 := Scalar.cmpi .sgt v239 c0_i32_115
  let v242 : BitVec 32 := Scalar.extui v241
  let c0_i32_116 : BitVec 32 := 0#32
  let v243 : BitVec 1 := Scalar.cmpi .slt v239 c0_i32_116
  let v244 : BitVec 32 := Scalar.extui v243
  let v245 : BitVec 32 := Scalar.subi v242 v244
  let c2_i32_114 : BitVec 32 := 2#32
  let c0_i32_117 : BitVec 32 := 0#32
  let v246 : BitVec 1 := Scalar.cmpi .sgt c2_i32_114 c0_i32_117
  let v247 : BitVec 32 := Scalar.extui v246
  let c0_i32_118 : BitVec 32 := 0#32
  let v248 : BitVec 1 := Scalar.cmpi .slt c2_i32_114 c0_i32_118
  let v249 : BitVec 32 := Scalar.extui v248
  let v250 : BitVec 32 := Scalar.subi v247 v249
  let v251 : BitVec 1 := Scalar.cmpi .ne v245 v250
  let v252 : BitVec 32 := Scalar.remsi v239 c2_i32_114
  let c0_i32_119 : BitVec 32 := 0#32
  let v253 : BitVec 1 := Scalar.cmpi .ne v252 c0_i32_119
  let v254 : BitVec 1 := Scalar.andi v251 v253
  let v240 : BitVec 32 := Scalar.divsi v239 c2_i32_114
  let c1_i32_120 : BitVec 32 := 1#32
  let v255 : BitVec 32 := Scalar.subi v240 c1_i32_120
  let v256 : BitVec 32 := Scalar.select v254 v255 v240
  let v279 : BitVec 32 := Scalar.muli c2_i32_134 v256
  let v280 : BitVec 32 := Scalar.addi v278 v279
  let c2_i32_121 : BitVec 32 := 2#32
  let c0_i32_122 : BitVec 32 := 0#32
  let v257 : BitVec 1 := Scalar.cmpi .eq c2_i32_121 c0_i32_122
  let c1_i32_123 : BitVec 32 := 1#32
  let v258 : BitVec 32 := Scalar.select v257 c1_i32_123 c2_i32_121
  let v259 : BitVec 32 := Scalar.remsi v239 v258
  let c0_i32_125 : BitVec 32 := 0#32
  let v261 : BitVec 1 := Scalar.cmpi .slt v259 c0_i32_125
  let c0_i32_126 : BitVec 32 := 0#32
  let v262 : BitVec 1 := Scalar.cmpi .slt v258 c0_i32_126
  let v263 : BitVec 1 := Scalar.xori v261 v262
  let c0_i32_124 : BitVec 32 := 0#32
  let v260 : BitVec 1 := Scalar.cmpi .ne v259 c0_i32_124
  let v264 : BitVec 1 := Scalar.andi v263 v260
  let v265 : BitVec 32 := Scalar.addi v259 v258
  let v266 : BitVec 32 := Scalar.select v264 v265 v259
  let c2_i32_127 : BitVec 32 := 2#32
  let c0_i32_128 : BitVec 32 := 0#32
  let v267 : BitVec 1 := Scalar.cmpi .eq c2_i32_127 c0_i32_128
  let c1_i32_129 : BitVec 32 := 1#32
  let v268 : BitVec 32 := Scalar.select v267 c1_i32_129 c2_i32_127
  let v269 : BitVec 32 := Scalar.remsi v256 v268
  let c0_i32_131 : BitVec 32 := 0#32
  let v271 : BitVec 1 := Scalar.cmpi .slt v269 c0_i32_131
  let c0_i32_132 : BitVec 32 := 0#32
  let v272 : BitVec 1 := Scalar.cmpi .slt v268 c0_i32_132
  let v273 : BitVec 1 := Scalar.xori v271 v272
  let c0_i32_130 : BitVec 32 := 0#32
  let v270 : BitVec 1 := Scalar.cmpi .ne v269 c0_i32_130
  let v274 : BitVec 1 := Scalar.andi v273 v270
  let v275 : BitVec 32 := Scalar.addi v269 v268
  let v276 : BitVec 32 := Scalar.select v274 v275 v269
  let v277 : BitVec 32 := Scalar.xori v266 v276
  let v281 : BitVec 32 := Scalar.addi v280 v277
  let c1_i32_211 : BitVec 32 := 1#32
  let v427 : BitVec 32 := Scalar.muli v281 c1_i32_211
  let v428 : BitVec 32 := Scalar.addi c0_i32_212 v427
  v428.toNat
def k0_dev4 (d0 : Dev nD) : Nat :=
  let c0_i32_215 : BitVec 32 := 0#32
  let c8_i32_168 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c8_i32_135 : BitVec 32 := 8#32
  let v282 : BitVec 32 := Scalar.xori v71 c8_i32_135
  let c0_i32_137 : BitVec 32 := 0#32
  let v284 : BitVec 1 := Scalar.cmpi .sgt v282 c0_i32_137
  let v285 : BitVec 32 := Scalar.extui v284
  let c0_i32_138 : BitVec 32 := 0#32
  let v286 : BitVec 1 := Scalar.cmpi .slt v282 c0_i32_138
  let v287 : BitVec 32 := Scalar.extui v286
  let v288 : BitVec 32 := Scalar.subi v285 v287
  let c8_i32_136 : BitVec 32 := 8#32
  let c0_i32_139 : BitVec 32 := 0#32
  let v289 : BitVec 1 := Scalar.cmpi .sgt c8_i32_136 c0_i32_139
  let v290 : BitVec 32 := Scalar.extui v289
  let c0_i32_140 : BitVec 32 := 0#32
  let v291 : BitVec 1 := Scalar.cmpi .slt c8_i32_136 c0_i32_140
  let v292 : BitVec 32 := Scalar.extui v291
  let v293 : BitVec 32 := Scalar.subi v290 v292
  let v294 : BitVec 1 := Scalar.cmpi .ne v288 v293
  let v295 : BitVec 32 := Scalar.remsi v282 c8_i32_136
  let c0_i32_141 : BitVec 32 := 0#32
  let v296 : BitVec 1 := Scalar.cmpi .ne v295 c0_i32_141
  let v297 : BitVec 1 := Scalar.andi v294 v296
  let v283 : BitVec 32 := Scalar.divsi v282 c8_i32_136
  let c1_i32_142 : BitVec 32 := 1#32
  let v298 : BitVec 32 := Scalar.subi v283 c1_i32_142
  let v299 : BitVec 32 := Scalar.select v297 v298 v283
  let v348 : BitVec 32 := Scalar.muli c8_i32_168 v299
  let c2_i32_169 : BitVec 32 := 2#32
  let c8_i32_143 : BitVec 32 := 8#32
  let c0_i32_144 : BitVec 32 := 0#32
  let v300 : BitVec 1 := Scalar.cmpi .eq c8_i32_143 c0_i32_144
  let c1_i32_145 : BitVec 32 := 1#32
  let v301 : BitVec 32 := Scalar.select v300 c1_i32_145 c8_i32_143
  let v302 : BitVec 32 := Scalar.remsi v282 v301
  let c0_i32_147 : BitVec 32 := 0#32
  let v304 : BitVec 1 := Scalar.cmpi .slt v302 c0_i32_147
  let c0_i32_148 : BitVec 32 := 0#32
  let v305 : BitVec 1 := Scalar.cmpi .slt v301 c0_i32_148
  let v306 : BitVec 1 := Scalar.xori v304 v305
  let c0_i32_146 : BitVec 32 := 0#32
  let v303 : BitVec 1 := Scalar.cmpi .ne v302 c0_i32_146
  let v307 : BitVec 1 := Scalar.andi v306 v303
  let v308 : BitVec 32 := Scalar.addi v302 v301
  let v309 : BitVec 32 := Scalar.select v307 v308 v302
  let c0_i32_150 : BitVec 32 := 0#32
  let v311 : BitVec 1 := Scalar.cmpi .sgt v309 c0_i32_150
  let v312 : BitVec 32 := Scalar.extui v311
  let c0_i32_151 : BitVec 32 := 0#32
  let v313 : BitVec 1 := Scalar.cmpi .slt v309 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v309 c2_i32_149
  let c0_i32_154 : BitVec 32 := 0#32
  let v323 : BitVec 1 := Scalar.cmpi .ne v322 c0_i32_154
  let v324 : BitVec 1 := Scalar.andi v321 v323
  let v310 : BitVec 32 := Scalar.divsi v309 c2_i32_149
  let c1_i32_155 : BitVec 32 := 1#32
  let v325 : BitVec 32 := Scalar.subi v310 c1_i32_155
  let v326 : BitVec 32 := Scalar.select v324 v325 v310
  let v349 : BitVec 32 := Scalar.muli c2_i32_169 v326
  let v350 : BitVec 32 := Scalar.addi v348 v349
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v309 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let c2_i32_162 : BitVec 32 := 2#32
  let c0_i32_163 : BitVec 32 := 0#32
  let v337 : BitVec 1 := Scalar.cmpi .eq c2_i32_162 c0_i32_163
  let c1_i32_164 : BitVec 32 := 1#32
  let v338 : BitVec 32 := Scalar.select v337 c1_i32_164 c2_i32_162
  let v339 : BitVec 32 := Scalar.remsi v326 v338
  let c0_i32_166 : BitVec 32 := 0#32
  let v341 : BitVec 1 := Scalar.cmpi .slt v339 c0_i32_166
  let c0_i32_167 : BitVec 32 := 0#32
  let v342 : BitVec 1 := Scalar.cmpi .slt v338 c0_i32_167
  let v343 : BitVec 1 := Scalar.xori v341 v342
  let c0_i32_165 : BitVec 32 := 0#32
  let v340 : BitVec 1 := Scalar.cmpi .ne v339 c0_i32_165
  let v344 : BitVec 1 := Scalar.andi v343 v340
  let v345 : BitVec 32 := Scalar.addi v339 v338
  let v346 : BitVec 32 := Scalar.select v344 v345 v339
  let v347 : BitVec 32 := Scalar.xori v336 v346
  let v351 : BitVec 32 := Scalar.addi v350 v347
  let c1_i32_214 : BitVec 32 := 1#32
  let v429 : BitVec 32 := Scalar.muli v351 c1_i32_214
  let v430 : BitVec 32 := Scalar.addi c0_i32_215 v429
  v430.toNat
def k0_dev5 (d0 : Dev nD) : Nat :=
  let c0_i32_218 : BitVec 32 := 0#32
  let c8_i32_202 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c16_i32 : BitVec 32 := 16#32
  let v352 : BitVec 32 := Scalar.xori v71 c16_i32
  let c0_i32_171 : BitVec 32 := 0#32
  let v354 : BitVec 1 := Scalar.cmpi .sgt v352 c0_i32_171
  let v355 : BitVec 32 := Scalar.extui v354
  let c0_i32_172 : BitVec 32 := 0#32
  let v356 : BitVec 1 := Scalar.cmpi .slt v352 c0_i32_172
  let v357 : BitVec 32 := Scalar.extui v356
  let v358 : BitVec 32 := Scalar.subi v355 v357
  let c8_i32_170 : BitVec 32 := 8#32
  let c0_i32_173 : BitVec 32 := 0#32
  let v359 : BitVec 1 := Scalar.cmpi .sgt c8_i32_170 c0_i32_173
  let v360 : BitVec 32 := Scalar.extui v359
  let c0_i32_174 : BitVec 32 := 0#32
  let v361 : BitVec 1 := Scalar.cmpi .slt c8_i32_170 c0_i32_174
  let v362 : BitVec 32 := Scalar.extui v361
  let v363 : BitVec 32 := Scalar.subi v360 v362
  let v364 : BitVec 1 := Scalar.cmpi .ne v358 v363
  let v365 : BitVec 32 := Scalar.remsi v352 c8_i32_170
  let c0_i32_175 : BitVec 32 := 0#32
  let v366 : BitVec 1 := Scalar.cmpi .ne v365 c0_i32_175
  let v367 : BitVec 1 := Scalar.andi v364 v366
  let v353 : BitVec 32 := Scalar.divsi v352 c8_i32_170
  let c1_i32_176 : BitVec 32 := 1#32
  let v368 : BitVec 32 := Scalar.subi v353 c1_i32_176
  let v369 : BitVec 32 := Scalar.select v367 v368 v353
  let v418 : BitVec 32 := Scalar.muli c8_i32_202 v369
  let c2_i32_203 : BitVec 32 := 2#32
  let c8_i32_177 : BitVec 32 := 8#32
  let c0_i32_178 : BitVec 32 := 0#32
  let v370 : BitVec 1 := Scalar.cmpi .eq c8_i32_177 c0_i32_178
  let c1_i32_179 : BitVec 32 := 1#32
  let v371 : BitVec 32 := Scalar.select v370 c1_i32_179 c8_i32_177
  let v372 : BitVec 32 := Scalar.remsi v352 v371
  let c0_i32_181 : BitVec 32 := 0#32
  let v374 : BitVec 1 := Scalar.cmpi .slt v372 c0_i32_181
  let c0_i32_182 : BitVec 32 := 0#32
  let v375 : BitVec 1 := Scalar.cmpi .slt v371 c0_i32_182
  let v376 : BitVec 1 := Scalar.xori v374 v375
  let c0_i32_180 : BitVec 32 := 0#32
  let v373 : BitVec 1 := Scalar.cmpi .ne v372 c0_i32_180
  let v377 : BitVec 1 := Scalar.andi v376 v373
  let v378 : BitVec 32 := Scalar.addi v372 v371
  let v379 : BitVec 32 := Scalar.select v377 v378 v372
  let c0_i32_184 : BitVec 32 := 0#32
  let v381 : BitVec 1 := Scalar.cmpi .sgt v379 c0_i32_184
  let v382 : BitVec 32 := Scalar.extui v381
  let c0_i32_185 : BitVec 32 := 0#32
  let v383 : BitVec 1 := Scalar.cmpi .slt v379 c0_i32_185
  let v384 : BitVec 32 := Scalar.extui v383
  let v385 : BitVec 32 := Scalar.subi v382 v384
  let c2_i32_183 : BitVec 32 := 2#32
  let c0_i32_186 : BitVec 32 := 0#32
  let v386 : BitVec 1 := Scalar.cmpi .sgt c2_i32_183 c0_i32_186
  let v387 : BitVec 32 := Scalar.extui v386
  let c0_i32_187 : BitVec 32 := 0#32
  let v388 : BitVec 1 := Scalar.cmpi .slt c2_i32_183 c0_i32_187
  let v389 : BitVec 32 := Scalar.extui v388
  let v390 : BitVec 32 := Scalar.subi v387 v389
  let v391 : BitVec 1 := Scalar.cmpi .ne v385 v390
  let v392 : BitVec 32 := Scalar.remsi v379 c2_i32_183
  let c0_i32_188 : BitVec 32 := 0#32
  let v393 : BitVec 1 := Scalar.cmpi .ne v392 c0_i32_188
  let v394 : BitVec 1 := Scalar.andi v391 v393
  let v380 : BitVec 32 := Scalar.divsi v379 c2_i32_183
  let c1_i32_189 : BitVec 32 := 1#32
  let v395 : BitVec 32 := Scalar.subi v380 c1_i32_189
  let v396 : BitVec 32 := Scalar.select v394 v395 v380
  let v419 : BitVec 32 := Scalar.muli c2_i32_203 v396
  let v420 : BitVec 32 := Scalar.addi v418 v419
  let c2_i32_190 : BitVec 32 := 2#32
  let c0_i32_191 : BitVec 32 := 0#32
  let v397 : BitVec 1 := Scalar.cmpi .eq c2_i32_190 c0_i32_191
  let c1_i32_192 : BitVec 32 := 1#32
  let v398 : BitVec 32 := Scalar.select v397 c1_i32_192 c2_i32_190
  let v399 : BitVec 32 := Scalar.remsi v379 v398
  let c0_i32_194 : BitVec 32 := 0#32
  let v401 : BitVec 1 := Scalar.cmpi .slt v399 c0_i32_194
  let c0_i32_195 : BitVec 32 := 0#32
  let v402 : BitVec 1 := Scalar.cmpi .slt v398 c0_i32_195
  let v403 : BitVec 1 := Scalar.xori v401 v402
  let c0_i32_193 : BitVec 32 := 0#32
  let v400 : BitVec 1 := Scalar.cmpi .ne v399 c0_i32_193
  let v404 : BitVec 1 := Scalar.andi v403 v400
  let v405 : BitVec 32 := Scalar.addi v399 v398
  let v406 : BitVec 32 := Scalar.select v404 v405 v399
  let c2_i32_196 : BitVec 32 := 2#32
  let c0_i32_197 : BitVec 32 := 0#32
  let v407 : BitVec 1 := Scalar.cmpi .eq c2_i32_196 c0_i32_197
  let c1_i32_198 : BitVec 32 := 1#32
  let v408 : BitVec 32 := Scalar.select v407 c1_i32_198 c2_i32_196
  let v409 : BitVec 32 := Scalar.remsi v396 v408
  let c0_i32_200 : BitVec 32 := 0#32
  let v411 : BitVec 1 := Scalar.cmpi .slt v409 c0_i32_200
  let c0_i32_201 : BitVec 32 := 0#32
  let v412 : BitVec 1 := Scalar.cmpi .slt v408 c0_i32_201
  let v413 : BitVec 1 := Scalar.xori v411 v412
  let c0_i32_199 : BitVec 32 := 0#32
  let v410 : BitVec 1 := Scalar.cmpi .ne v409 c0_i32_199
  let v414 : BitVec 1 := Scalar.andi v413 v410
  let v415 : BitVec 32 := Scalar.addi v409 v408
  let v416 : BitVec 32 := Scalar.select v414 v415 v409
  let v417 : BitVec 32 := Scalar.xori v406 v416
  let v421 : BitVec 32 := Scalar.addi v420 v417
  let c1_i32_217 : BitVec 32 := 1#32
  let v431 : BitVec 32 := Scalar.muli v421 c1_i32_217
  let v432 : BitVec 32 := Scalar.addi c0_i32_218 v431
  v432.toNat
def k0_dev6 (d0 : Dev nD) : Nat :=
  let c0_i32_353 : BitVec 32 := 0#32
  let c8_i32_99 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c2_i32_66 : BitVec 32 := 2#32
  let v142 : BitVec 32 := Scalar.xori v71 c2_i32_66
  let c0_i32_68 : BitVec 32 := 0#32
  let v144 : BitVec 1 := Scalar.cmpi .sgt v142 c0_i32_68
  let v145 : BitVec 32 := Scalar.extui v144
  let c0_i32_69 : BitVec 32 := 0#32
  let v146 : BitVec 1 := Scalar.cmpi .slt v142 c0_i32_69
  let v147 : BitVec 32 := Scalar.extui v146
  let v148 : BitVec 32 := Scalar.subi v145 v147
  let c8_i32_67 : BitVec 32 := 8#32
  let c0_i32_70 : BitVec 32 := 0#32
  let v149 : BitVec 1 := Scalar.cmpi .sgt c8_i32_67 c0_i32_70
  let v150 : BitVec 32 := Scalar.extui v149
  let c0_i32_71 : BitVec 32 := 0#32
  let v151 : BitVec 1 := Scalar.cmpi .slt c8_i32_67 c0_i32_71
  let v152 : BitVec 32 := Scalar.extui v151
  let v153 : BitVec 32 := Scalar.subi v150 v152
  let v154 : BitVec 1 := Scalar.cmpi .ne v148 v153
  let v155 : BitVec 32 := Scalar.remsi v142 c8_i32_67
  let c0_i32_72 : BitVec 32 := 0#32
  let v156 : BitVec 1 := Scalar.cmpi .ne v155 c0_i32_72
  let v157 : BitVec 1 := Scalar.andi v154 v156
  let v143 : BitVec 32 := Scalar.divsi v142 c8_i32_67
  let c1_i32_73 : BitVec 32 := 1#32
  let v158 : BitVec 32 := Scalar.subi v143 c1_i32_73
  let v159 : BitVec 32 := Scalar.select v157 v158 v143
  let v208 : BitVec 32 := Scalar.muli c8_i32_99 v159
  let c2_i32_100 : BitVec 32 := 2#32
  let c8_i32_74 : BitVec 32 := 8#32
  let c0_i32_75 : BitVec 32 := 0#32
  let v160 : BitVec 1 := Scalar.cmpi .eq c8_i32_74 c0_i32_75
  let c1_i32_76 : BitVec 32 := 1#32
  let v161 : BitVec 32 := Scalar.select v160 c1_i32_76 c8_i32_74
  let v162 : BitVec 32 := Scalar.remsi v142 v161
  let c0_i32_78 : BitVec 32 := 0#32
  let v164 : BitVec 1 := Scalar.cmpi .slt v162 c0_i32_78
  let c0_i32_79 : BitVec 32 := 0#32
  let v165 : BitVec 1 := Scalar.cmpi .slt v161 c0_i32_79
  let v166 : BitVec 1 := Scalar.xori v164 v165
  let c0_i32_77 : BitVec 32 := 0#32
  let v163 : BitVec 1 := Scalar.cmpi .ne v162 c0_i32_77
  let v167 : BitVec 1 := Scalar.andi v166 v163
  let v168 : BitVec 32 := Scalar.addi v162 v161
  let v169 : BitVec 32 := Scalar.select v167 v168 v162
  let c0_i32_81 : BitVec 32 := 0#32
  let v171 : BitVec 1 := Scalar.cmpi .sgt v169 c0_i32_81
  let v172 : BitVec 32 := Scalar.extui v171
  let c0_i32_82 : BitVec 32 := 0#32
  let v173 : BitVec 1 := Scalar.cmpi .slt v169 c0_i32_82
  let v174 : BitVec 32 := Scalar.extui v173
  let v175 : BitVec 32 := Scalar.subi v172 v174
  let c2_i32_80 : BitVec 32 := 2#32
  let c0_i32_83 : BitVec 32 := 0#32
  let v176 : BitVec 1 := Scalar.cmpi .sgt c2_i32_80 c0_i32_83
  let v177 : BitVec 32 := Scalar.extui v176
  let c0_i32_84 : BitVec 32 := 0#32
  let v178 : BitVec 1 := Scalar.cmpi .slt c2_i32_80 c0_i32_84
  let v179 : BitVec 32 := Scalar.extui v178
  let v180 : BitVec 32 := Scalar.subi v177 v179
  let v181 : BitVec 1 := Scalar.cmpi .ne v175 v180
  let v182 : BitVec 32 := Scalar.remsi v169 c2_i32_80
  let c0_i32_85 : BitVec 32 := 0#32
  let v183 : BitVec 1 := Scalar.cmpi .ne v182 c0_i32_85
  let v184 : BitVec 1 := Scalar.andi v181 v183
  let v170 : BitVec 32 := Scalar.divsi v169 c2_i32_80
  let c1_i32_86 : BitVec 32 := 1#32
  let v185 : BitVec 32 := Scalar.subi v170 c1_i32_86
  let v186 : BitVec 32 := Scalar.select v184 v185 v170
  let v209 : BitVec 32 := Scalar.muli c2_i32_100 v186
  let v210 : BitVec 32 := Scalar.addi v208 v209
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v169 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c2_i32_93 : BitVec 32 := 2#32
  let c0_i32_94 : BitVec 32 := 0#32
  let v197 : BitVec 1 := Scalar.cmpi .eq c2_i32_93 c0_i32_94
  let c1_i32_95 : BitVec 32 := 1#32
  let v198 : BitVec 32 := Scalar.select v197 c1_i32_95 c2_i32_93
  let v199 : BitVec 32 := Scalar.remsi v186 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let v207 : BitVec 32 := Scalar.xori v196 v206
  let v211 : BitVec 32 := Scalar.addi v210 v207
  let c1_i32_352 : BitVec 32 := 1#32
  let v816 : BitVec 32 := Scalar.muli v211 c1_i32_352
  let v817 : BitVec 32 := Scalar.addi c0_i32_353 v816
  v817.toNat
def k0_dev7 (d0 : Dev nD) : Nat :=
  let c0_i32_477 : BitVec 32 := 0#32
  let c8_i32_168 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c8_i32_135 : BitVec 32 := 8#32
  let v282 : BitVec 32 := Scalar.xori v71 c8_i32_135
  let c0_i32_137 : BitVec 32 := 0#32
  let v284 : BitVec 1 := Scalar.cmpi .sgt v282 c0_i32_137
  let v285 : BitVec 32 := Scalar.extui v284
  let c0_i32_138 : BitVec 32 := 0#32
  let v286 : BitVec 1 := Scalar.cmpi .slt v282 c0_i32_138
  let v287 : BitVec 32 := Scalar.extui v286
  let v288 : BitVec 32 := Scalar.subi v285 v287
  let c8_i32_136 : BitVec 32 := 8#32
  let c0_i32_139 : BitVec 32 := 0#32
  let v289 : BitVec 1 := Scalar.cmpi .sgt c8_i32_136 c0_i32_139
  let v290 : BitVec 32 := Scalar.extui v289
  let c0_i32_140 : BitVec 32 := 0#32
  let v291 : BitVec 1 := Scalar.cmpi .slt c8_i32_136 c0_i32_140
  let v292 : BitVec 32 := Scalar.extui v291
  let v293 : BitVec 32 := Scalar.subi v290 v292
  let v294 : BitVec 1 := Scalar.cmpi .ne v288 v293
  let v295 : BitVec 32 := Scalar.remsi v282 c8_i32_136
  let c0_i32_141 : BitVec 32 := 0#32
  let v296 : BitVec 1 := Scalar.cmpi .ne v295 c0_i32_141
  let v297 : BitVec 1 := Scalar.andi v294 v296
  let v283 : BitVec 32 := Scalar.divsi v282 c8_i32_136
  let c1_i32_142 : BitVec 32 := 1#32
  let v298 : BitVec 32 := Scalar.subi v283 c1_i32_142
  let v299 : BitVec 32 := Scalar.select v297 v298 v283
  let v348 : BitVec 32 := Scalar.muli c8_i32_168 v299
  let c2_i32_169 : BitVec 32 := 2#32
  let c8_i32_143 : BitVec 32 := 8#32
  let c0_i32_144 : BitVec 32 := 0#32
  let v300 : BitVec 1 := Scalar.cmpi .eq c8_i32_143 c0_i32_144
  let c1_i32_145 : BitVec 32 := 1#32
  let v301 : BitVec 32 := Scalar.select v300 c1_i32_145 c8_i32_143
  let v302 : BitVec 32 := Scalar.remsi v282 v301
  let c0_i32_147 : BitVec 32 := 0#32
  let v304 : BitVec 1 := Scalar.cmpi .slt v302 c0_i32_147
  let c0_i32_148 : BitVec 32 := 0#32
  let v305 : BitVec 1 := Scalar.cmpi .slt v301 c0_i32_148
  let v306 : BitVec 1 := Scalar.xori v304 v305
  let c0_i32_146 : BitVec 32 := 0#32
  let v303 : BitVec 1 := Scalar.cmpi .ne v302 c0_i32_146
  let v307 : BitVec 1 := Scalar.andi v306 v303
  let v308 : BitVec 32 := Scalar.addi v302 v301
  let v309 : BitVec 32 := Scalar.select v307 v308 v302
  let c0_i32_150 : BitVec 32 := 0#32
  let v311 : BitVec 1 := Scalar.cmpi .sgt v309 c0_i32_150
  let v312 : BitVec 32 := Scalar.extui v311
  let c0_i32_151 : BitVec 32 := 0#32
  let v313 : BitVec 1 := Scalar.cmpi .slt v309 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v309 c2_i32_149
  let c0_i32_154 : BitVec 32 := 0#32
  let v323 : BitVec 1 := Scalar.cmpi .ne v322 c0_i32_154
  let v324 : BitVec 1 := Scalar.andi v321 v323
  let v310 : BitVec 32 := Scalar.divsi v309 c2_i32_149
  let c1_i32_155 : BitVec 32 := 1#32
  let v325 : BitVec 32 := Scalar.subi v310 c1_i32_155
  let v326 : BitVec 32 := Scalar.select v324 v325 v310
  let v349 : BitVec 32 := Scalar.muli c2_i32_169 v326
  let v350 : BitVec 32 := Scalar.addi v348 v349
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v309 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let c2_i32_162 : BitVec 32 := 2#32
  let c0_i32_163 : BitVec 32 := 0#32
  let v337 : BitVec 1 := Scalar.cmpi .eq c2_i32_162 c0_i32_163
  let c1_i32_164 : BitVec 32 := 1#32
  let v338 : BitVec 32 := Scalar.select v337 c1_i32_164 c2_i32_162
  let v339 : BitVec 32 := Scalar.remsi v326 v338
  let c0_i32_166 : BitVec 32 := 0#32
  let v341 : BitVec 1 := Scalar.cmpi .slt v339 c0_i32_166
  let c0_i32_167 : BitVec 32 := 0#32
  let v342 : BitVec 1 := Scalar.cmpi .slt v338 c0_i32_167
  let v343 : BitVec 1 := Scalar.xori v341 v342
  let c0_i32_165 : BitVec 32 := 0#32
  let v340 : BitVec 1 := Scalar.cmpi .ne v339 c0_i32_165
  let v344 : BitVec 1 := Scalar.andi v343 v340
  let v345 : BitVec 32 := Scalar.addi v339 v338
  let v346 : BitVec 32 := Scalar.select v344 v345 v339
  let v347 : BitVec 32 := Scalar.xori v336 v346
  let v351 : BitVec 32 := Scalar.addi v350 v347
  let c1_i32_476 : BitVec 32 := 1#32
  let v1164 : BitVec 32 := Scalar.muli v351 c1_i32_476
  let v1165 : BitVec 32 := Scalar.addi c0_i32_477 v1164
  v1165.toNat
def k0_dev8 (d0 : Dev nD) : Nat :=
  let c0_i32_602 : BitVec 32 := 0#32
  let c8_i32_64 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c1_i32_31 : BitVec 32 := 1#32
  let v72 : BitVec 32 := Scalar.xori v71 c1_i32_31
  let c0_i32_33 : BitVec 32 := 0#32
  let v74 : BitVec 1 := Scalar.cmpi .sgt v72 c0_i32_33
  let v75 : BitVec 32 := Scalar.extui v74
  let c0_i32_34 : BitVec 32 := 0#32
  let v76 : BitVec 1 := Scalar.cmpi .slt v72 c0_i32_34
  let v77 : BitVec 32 := Scalar.extui v76
  let v78 : BitVec 32 := Scalar.subi v75 v77
  let c8_i32_32 : BitVec 32 := 8#32
  let c0_i32_35 : BitVec 32 := 0#32
  let v79 : BitVec 1 := Scalar.cmpi .sgt c8_i32_32 c0_i32_35
  let v80 : BitVec 32 := Scalar.extui v79
  let c0_i32_36 : BitVec 32 := 0#32
  let v81 : BitVec 1 := Scalar.cmpi .slt c8_i32_32 c0_i32_36
  let v82 : BitVec 32 := Scalar.extui v81
  let v83 : BitVec 32 := Scalar.subi v80 v82
  let v84 : BitVec 1 := Scalar.cmpi .ne v78 v83
  let v85 : BitVec 32 := Scalar.remsi v72 c8_i32_32
  let c0_i32_37 : BitVec 32 := 0#32
  let v86 : BitVec 1 := Scalar.cmpi .ne v85 c0_i32_37
  let v87 : BitVec 1 := Scalar.andi v84 v86
  let v73 : BitVec 32 := Scalar.divsi v72 c8_i32_32
  let c1_i32_38 : BitVec 32 := 1#32
  let v88 : BitVec 32 := Scalar.subi v73 c1_i32_38
  let v89 : BitVec 32 := Scalar.select v87 v88 v73
  let v138 : BitVec 32 := Scalar.muli c8_i32_64 v89
  let c2_i32_65 : BitVec 32 := 2#32
  let c8_i32_39 : BitVec 32 := 8#32
  let c0_i32_40 : BitVec 32 := 0#32
  let v90 : BitVec 1 := Scalar.cmpi .eq c8_i32_39 c0_i32_40
  let c1_i32_41 : BitVec 32 := 1#32
  let v91 : BitVec 32 := Scalar.select v90 c1_i32_41 c8_i32_39
  let v92 : BitVec 32 := Scalar.remsi v72 v91
  let c0_i32_43 : BitVec 32 := 0#32
  let v94 : BitVec 1 := Scalar.cmpi .slt v92 c0_i32_43
  let c0_i32_44 : BitVec 32 := 0#32
  let v95 : BitVec 1 := Scalar.cmpi .slt v91 c0_i32_44
  let v96 : BitVec 1 := Scalar.xori v94 v95
  let c0_i32_42 : BitVec 32 := 0#32
  let v93 : BitVec 1 := Scalar.cmpi .ne v92 c0_i32_42
  let v97 : BitVec 1 := Scalar.andi v96 v93
  let v98 : BitVec 32 := Scalar.addi v92 v91
  let v99 : BitVec 32 := Scalar.select v97 v98 v92
  let c0_i32_46 : BitVec 32 := 0#32
  let v101 : BitVec 1 := Scalar.cmpi .sgt v99 c0_i32_46
  let v102 : BitVec 32 := Scalar.extui v101
  let c0_i32_47 : BitVec 32 := 0#32
  let v103 : BitVec 1 := Scalar.cmpi .slt v99 c0_i32_47
  let v104 : BitVec 32 := Scalar.extui v103
  let v105 : BitVec 32 := Scalar.subi v102 v104
  let c2_i32_45 : BitVec 32 := 2#32
  let c0_i32_48 : BitVec 32 := 0#32
  let v106 : BitVec 1 := Scalar.cmpi .sgt c2_i32_45 c0_i32_48
  let v107 : BitVec 32 := Scalar.extui v106
  let c0_i32_49 : BitVec 32 := 0#32
  let v108 : BitVec 1 := Scalar.cmpi .slt c2_i32_45 c0_i32_49
  let v109 : BitVec 32 := Scalar.extui v108
  let v110 : BitVec 32 := Scalar.subi v107 v109
  let v111 : BitVec 1 := Scalar.cmpi .ne v105 v110
  let v112 : BitVec 32 := Scalar.remsi v99 c2_i32_45
  let c0_i32_50 : BitVec 32 := 0#32
  let v113 : BitVec 1 := Scalar.cmpi .ne v112 c0_i32_50
  let v114 : BitVec 1 := Scalar.andi v111 v113
  let v100 : BitVec 32 := Scalar.divsi v99 c2_i32_45
  let c1_i32_51 : BitVec 32 := 1#32
  let v115 : BitVec 32 := Scalar.subi v100 c1_i32_51
  let v116 : BitVec 32 := Scalar.select v114 v115 v100
  let v139 : BitVec 32 := Scalar.muli c2_i32_65 v116
  let v140 : BitVec 32 := Scalar.addi v138 v139
  let c2_i32_52 : BitVec 32 := 2#32
  let c0_i32_53 : BitVec 32 := 0#32
  let v117 : BitVec 1 := Scalar.cmpi .eq c2_i32_52 c0_i32_53
  let c1_i32_54 : BitVec 32 := 1#32
  let v118 : BitVec 32 := Scalar.select v117 c1_i32_54 c2_i32_52
  let v119 : BitVec 32 := Scalar.remsi v99 v118
  let c0_i32_56 : BitVec 32 := 0#32
  let v121 : BitVec 1 := Scalar.cmpi .slt v119 c0_i32_56
  let c0_i32_57 : BitVec 32 := 0#32
  let v122 : BitVec 1 := Scalar.cmpi .slt v118 c0_i32_57
  let v123 : BitVec 1 := Scalar.xori v121 v122
  let c0_i32_55 : BitVec 32 := 0#32
  let v120 : BitVec 1 := Scalar.cmpi .ne v119 c0_i32_55
  let v124 : BitVec 1 := Scalar.andi v123 v120
  let v125 : BitVec 32 := Scalar.addi v119 v118
  let v126 : BitVec 32 := Scalar.select v124 v125 v119
  let c2_i32_58 : BitVec 32 := 2#32
  let c0_i32_59 : BitVec 32 := 0#32
  let v127 : BitVec 1 := Scalar.cmpi .eq c2_i32_58 c0_i32_59
  let c1_i32_60 : BitVec 32 := 1#32
  let v128 : BitVec 32 := Scalar.select v127 c1_i32_60 c2_i32_58
  let v129 : BitVec 32 := Scalar.remsi v116 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let v137 : BitVec 32 := Scalar.xori v126 v136
  let v141 : BitVec 32 := Scalar.addi v140 v137
  let c1_i32_601 : BitVec 32 := 1#32
  let v1512 : BitVec 32 := Scalar.muli v141 c1_i32_601
  let v1513 : BitVec 32 := Scalar.addi c0_i32_602 v1512
  v1513.toNat
def k0_dev9 (d0 : Dev nD) : Nat :=
  let c0_i32_623 : BitVec 32 := 0#32
  let c8_i32_168 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c8_i32_135 : BitVec 32 := 8#32
  let v282 : BitVec 32 := Scalar.xori v71 c8_i32_135
  let c0_i32_137 : BitVec 32 := 0#32
  let v284 : BitVec 1 := Scalar.cmpi .sgt v282 c0_i32_137
  let v285 : BitVec 32 := Scalar.extui v284
  let c0_i32_138 : BitVec 32 := 0#32
  let v286 : BitVec 1 := Scalar.cmpi .slt v282 c0_i32_138
  let v287 : BitVec 32 := Scalar.extui v286
  let v288 : BitVec 32 := Scalar.subi v285 v287
  let c8_i32_136 : BitVec 32 := 8#32
  let c0_i32_139 : BitVec 32 := 0#32
  let v289 : BitVec 1 := Scalar.cmpi .sgt c8_i32_136 c0_i32_139
  let v290 : BitVec 32 := Scalar.extui v289
  let c0_i32_140 : BitVec 32 := 0#32
  let v291 : BitVec 1 := Scalar.cmpi .slt c8_i32_136 c0_i32_140
  let v292 : BitVec 32 := Scalar.extui v291
  let v293 : BitVec 32 := Scalar.subi v290 v292
  let v294 : BitVec 1 := Scalar.cmpi .ne v288 v293
  let v295 : BitVec 32 := Scalar.remsi v282 c8_i32_136
  let c0_i32_141 : BitVec 32 := 0#32
  let v296 : BitVec 1 := Scalar.cmpi .ne v295 c0_i32_141
  let v297 : BitVec 1 := Scalar.andi v294 v296
  let v283 : BitVec 32 := Scalar.divsi v282 c8_i32_136
  let c1_i32_142 : BitVec 32 := 1#32
  let v298 : BitVec 32 := Scalar.subi v283 c1_i32_142
  let v299 : BitVec 32 := Scalar.select v297 v298 v283
  let v348 : BitVec 32 := Scalar.muli c8_i32_168 v299
  let c2_i32_169 : BitVec 32 := 2#32
  let c8_i32_143 : BitVec 32 := 8#32
  let c0_i32_144 : BitVec 32 := 0#32
  let v300 : BitVec 1 := Scalar.cmpi .eq c8_i32_143 c0_i32_144
  let c1_i32_145 : BitVec 32 := 1#32
  let v301 : BitVec 32 := Scalar.select v300 c1_i32_145 c8_i32_143
  let v302 : BitVec 32 := Scalar.remsi v282 v301
  let c0_i32_147 : BitVec 32 := 0#32
  let v304 : BitVec 1 := Scalar.cmpi .slt v302 c0_i32_147
  let c0_i32_148 : BitVec 32 := 0#32
  let v305 : BitVec 1 := Scalar.cmpi .slt v301 c0_i32_148
  let v306 : BitVec 1 := Scalar.xori v304 v305
  let c0_i32_146 : BitVec 32 := 0#32
  let v303 : BitVec 1 := Scalar.cmpi .ne v302 c0_i32_146
  let v307 : BitVec 1 := Scalar.andi v306 v303
  let v308 : BitVec 32 := Scalar.addi v302 v301
  let v309 : BitVec 32 := Scalar.select v307 v308 v302
  let c0_i32_150 : BitVec 32 := 0#32
  let v311 : BitVec 1 := Scalar.cmpi .sgt v309 c0_i32_150
  let v312 : BitVec 32 := Scalar.extui v311
  let c0_i32_151 : BitVec 32 := 0#32
  let v313 : BitVec 1 := Scalar.cmpi .slt v309 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v309 c2_i32_149
  let c0_i32_154 : BitVec 32 := 0#32
  let v323 : BitVec 1 := Scalar.cmpi .ne v322 c0_i32_154
  let v324 : BitVec 1 := Scalar.andi v321 v323
  let v310 : BitVec 32 := Scalar.divsi v309 c2_i32_149
  let c1_i32_155 : BitVec 32 := 1#32
  let v325 : BitVec 32 := Scalar.subi v310 c1_i32_155
  let v326 : BitVec 32 := Scalar.select v324 v325 v310
  let v349 : BitVec 32 := Scalar.muli c2_i32_169 v326
  let v350 : BitVec 32 := Scalar.addi v348 v349
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v309 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let c2_i32_162 : BitVec 32 := 2#32
  let c0_i32_163 : BitVec 32 := 0#32
  let v337 : BitVec 1 := Scalar.cmpi .eq c2_i32_162 c0_i32_163
  let c1_i32_164 : BitVec 32 := 1#32
  let v338 : BitVec 32 := Scalar.select v337 c1_i32_164 c2_i32_162
  let v339 : BitVec 32 := Scalar.remsi v326 v338
  let c0_i32_166 : BitVec 32 := 0#32
  let v341 : BitVec 1 := Scalar.cmpi .slt v339 c0_i32_166
  let c0_i32_167 : BitVec 32 := 0#32
  let v342 : BitVec 1 := Scalar.cmpi .slt v338 c0_i32_167
  let v343 : BitVec 1 := Scalar.xori v341 v342
  let c0_i32_165 : BitVec 32 := 0#32
  let v340 : BitVec 1 := Scalar.cmpi .ne v339 c0_i32_165
  let v344 : BitVec 1 := Scalar.andi v343 v340
  let v345 : BitVec 32 := Scalar.addi v339 v338
  let v346 : BitVec 32 := Scalar.select v344 v345 v339
  let v347 : BitVec 32 := Scalar.xori v336 v346
  let v351 : BitVec 32 := Scalar.addi v350 v347
  let c1_i32_622 : BitVec 32 := 1#32
  let v1530 : BitVec 32 := Scalar.muli v351 c1_i32_622
  let v1531 : BitVec 32 := Scalar.addi c0_i32_623 v1530
  v1531.toNat
def k0_dev10 (d0 : Dev nD) : Nat :=
  let c0_i32_650 : BitVec 32 := 0#32
  let c8_i32_64 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c1_i32_31 : BitVec 32 := 1#32
  let v72 : BitVec 32 := Scalar.xori v71 c1_i32_31
  let c0_i32_33 : BitVec 32 := 0#32
  let v74 : BitVec 1 := Scalar.cmpi .sgt v72 c0_i32_33
  let v75 : BitVec 32 := Scalar.extui v74
  let c0_i32_34 : BitVec 32 := 0#32
  let v76 : BitVec 1 := Scalar.cmpi .slt v72 c0_i32_34
  let v77 : BitVec 32 := Scalar.extui v76
  let v78 : BitVec 32 := Scalar.subi v75 v77
  let c8_i32_32 : BitVec 32 := 8#32
  let c0_i32_35 : BitVec 32 := 0#32
  let v79 : BitVec 1 := Scalar.cmpi .sgt c8_i32_32 c0_i32_35
  let v80 : BitVec 32 := Scalar.extui v79
  let c0_i32_36 : BitVec 32 := 0#32
  let v81 : BitVec 1 := Scalar.cmpi .slt c8_i32_32 c0_i32_36
  let v82 : BitVec 32 := Scalar.extui v81
  let v83 : BitVec 32 := Scalar.subi v80 v82
  let v84 : BitVec 1 := Scalar.cmpi .ne v78 v83
  let v85 : BitVec 32 := Scalar.remsi v72 c8_i32_32
  let c0_i32_37 : BitVec 32 := 0#32
  let v86 : BitVec 1 := Scalar.cmpi .ne v85 c0_i32_37
  let v87 : BitVec 1 := Scalar.andi v84 v86
  let v73 : BitVec 32 := Scalar.divsi v72 c8_i32_32
  let c1_i32_38 : BitVec 32 := 1#32
  let v88 : BitVec 32 := Scalar.subi v73 c1_i32_38
  let v89 : BitVec 32 := Scalar.select v87 v88 v73
  let v138 : BitVec 32 := Scalar.muli c8_i32_64 v89
  let c2_i32_65 : BitVec 32 := 2#32
  let c8_i32_39 : BitVec 32 := 8#32
  let c0_i32_40 : BitVec 32 := 0#32
  let v90 : BitVec 1 := Scalar.cmpi .eq c8_i32_39 c0_i32_40
  let c1_i32_41 : BitVec 32 := 1#32
  let v91 : BitVec 32 := Scalar.select v90 c1_i32_41 c8_i32_39
  let v92 : BitVec 32 := Scalar.remsi v72 v91
  let c0_i32_43 : BitVec 32 := 0#32
  let v94 : BitVec 1 := Scalar.cmpi .slt v92 c0_i32_43
  let c0_i32_44 : BitVec 32 := 0#32
  let v95 : BitVec 1 := Scalar.cmpi .slt v91 c0_i32_44
  let v96 : BitVec 1 := Scalar.xori v94 v95
  let c0_i32_42 : BitVec 32 := 0#32
  let v93 : BitVec 1 := Scalar.cmpi .ne v92 c0_i32_42
  let v97 : BitVec 1 := Scalar.andi v96 v93
  let v98 : BitVec 32 := Scalar.addi v92 v91
  let v99 : BitVec 32 := Scalar.select v97 v98 v92
  let c0_i32_46 : BitVec 32 := 0#32
  let v101 : BitVec 1 := Scalar.cmpi .sgt v99 c0_i32_46
  let v102 : BitVec 32 := Scalar.extui v101
  let c0_i32_47 : BitVec 32 := 0#32
  let v103 : BitVec 1 := Scalar.cmpi .slt v99 c0_i32_47
  let v104 : BitVec 32 := Scalar.extui v103
  let v105 : BitVec 32 := Scalar.subi v102 v104
  let c2_i32_45 : BitVec 32 := 2#32
  let c0_i32_48 : BitVec 32 := 0#32
  let v106 : BitVec 1 := Scalar.cmpi .sgt c2_i32_45 c0_i32_48
  let v107 : BitVec 32 := Scalar.extui v106
  let c0_i32_49 : BitVec 32 := 0#32
  let v108 : BitVec 1 := Scalar.cmpi .slt c2_i32_45 c0_i32_49
  let v109 : BitVec 32 := Scalar.extui v108
  let v110 : BitVec 32 := Scalar.subi v107 v109
  let v111 : BitVec 1 := Scalar.cmpi .ne v105 v110
  let v112 : BitVec 32 := Scalar.remsi v99 c2_i32_45
  let c0_i32_50 : BitVec 32 := 0#32
  let v113 : BitVec 1 := Scalar.cmpi .ne v112 c0_i32_50
  let v114 : BitVec 1 := Scalar.andi v111 v113
  let v100 : BitVec 32 := Scalar.divsi v99 c2_i32_45
  let c1_i32_51 : BitVec 32 := 1#32
  let v115 : BitVec 32 := Scalar.subi v100 c1_i32_51
  let v116 : BitVec 32 := Scalar.select v114 v115 v100
  let v139 : BitVec 32 := Scalar.muli c2_i32_65 v116
  let v140 : BitVec 32 := Scalar.addi v138 v139
  let c2_i32_52 : BitVec 32 := 2#32
  let c0_i32_53 : BitVec 32 := 0#32
  let v117 : BitVec 1 := Scalar.cmpi .eq c2_i32_52 c0_i32_53
  let c1_i32_54 : BitVec 32 := 1#32
  let v118 : BitVec 32 := Scalar.select v117 c1_i32_54 c2_i32_52
  let v119 : BitVec 32 := Scalar.remsi v99 v118
  let c0_i32_56 : BitVec 32 := 0#32
  let v121 : BitVec 1 := Scalar.cmpi .slt v119 c0_i32_56
  let c0_i32_57 : BitVec 32 := 0#32
  let v122 : BitVec 1 := Scalar.cmpi .slt v118 c0_i32_57
  let v123 : BitVec 1 := Scalar.xori v121 v122
  let c0_i32_55 : BitVec 32 := 0#32
  let v120 : BitVec 1 := Scalar.cmpi .ne v119 c0_i32_55
  let v124 : BitVec 1 := Scalar.andi v123 v120
  let v125 : BitVec 32 := Scalar.addi v119 v118
  let v126 : BitVec 32 := Scalar.select v124 v125 v119
  let c2_i32_58 : BitVec 32 := 2#32
  let c0_i32_59 : BitVec 32 := 0#32
  let v127 : BitVec 1 := Scalar.cmpi .eq c2_i32_58 c0_i32_59
  let c1_i32_60 : BitVec 32 := 1#32
  let v128 : BitVec 32 := Scalar.select v127 c1_i32_60 c2_i32_58
  let v129 : BitVec 32 := Scalar.remsi v116 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let v137 : BitVec 32 := Scalar.xori v126 v136
  let v141 : BitVec 32 := Scalar.addi v140 v137
  let c1_i32_649 : BitVec 32 := 1#32
  let v1554 : BitVec 32 := Scalar.muli v141 c1_i32_649
  let v1555 : BitVec 32 := Scalar.addi c0_i32_650 v1554
  v1555.toNat
def k0_dev11 (d0 : Dev nD) : Nat :=
  let c0_i32_678 : BitVec 32 := 0#32
  let c8_i32_99 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c2_i32_66 : BitVec 32 := 2#32
  let v142 : BitVec 32 := Scalar.xori v71 c2_i32_66
  let c0_i32_68 : BitVec 32 := 0#32
  let v144 : BitVec 1 := Scalar.cmpi .sgt v142 c0_i32_68
  let v145 : BitVec 32 := Scalar.extui v144
  let c0_i32_69 : BitVec 32 := 0#32
  let v146 : BitVec 1 := Scalar.cmpi .slt v142 c0_i32_69
  let v147 : BitVec 32 := Scalar.extui v146
  let v148 : BitVec 32 := Scalar.subi v145 v147
  let c8_i32_67 : BitVec 32 := 8#32
  let c0_i32_70 : BitVec 32 := 0#32
  let v149 : BitVec 1 := Scalar.cmpi .sgt c8_i32_67 c0_i32_70
  let v150 : BitVec 32 := Scalar.extui v149
  let c0_i32_71 : BitVec 32 := 0#32
  let v151 : BitVec 1 := Scalar.cmpi .slt c8_i32_67 c0_i32_71
  let v152 : BitVec 32 := Scalar.extui v151
  let v153 : BitVec 32 := Scalar.subi v150 v152
  let v154 : BitVec 1 := Scalar.cmpi .ne v148 v153
  let v155 : BitVec 32 := Scalar.remsi v142 c8_i32_67
  let c0_i32_72 : BitVec 32 := 0#32
  let v156 : BitVec 1 := Scalar.cmpi .ne v155 c0_i32_72
  let v157 : BitVec 1 := Scalar.andi v154 v156
  let v143 : BitVec 32 := Scalar.divsi v142 c8_i32_67
  let c1_i32_73 : BitVec 32 := 1#32
  let v158 : BitVec 32 := Scalar.subi v143 c1_i32_73
  let v159 : BitVec 32 := Scalar.select v157 v158 v143
  let v208 : BitVec 32 := Scalar.muli c8_i32_99 v159
  let c2_i32_100 : BitVec 32 := 2#32
  let c8_i32_74 : BitVec 32 := 8#32
  let c0_i32_75 : BitVec 32 := 0#32
  let v160 : BitVec 1 := Scalar.cmpi .eq c8_i32_74 c0_i32_75
  let c1_i32_76 : BitVec 32 := 1#32
  let v161 : BitVec 32 := Scalar.select v160 c1_i32_76 c8_i32_74
  let v162 : BitVec 32 := Scalar.remsi v142 v161
  let c0_i32_78 : BitVec 32 := 0#32
  let v164 : BitVec 1 := Scalar.cmpi .slt v162 c0_i32_78
  let c0_i32_79 : BitVec 32 := 0#32
  let v165 : BitVec 1 := Scalar.cmpi .slt v161 c0_i32_79
  let v166 : BitVec 1 := Scalar.xori v164 v165
  let c0_i32_77 : BitVec 32 := 0#32
  let v163 : BitVec 1 := Scalar.cmpi .ne v162 c0_i32_77
  let v167 : BitVec 1 := Scalar.andi v166 v163
  let v168 : BitVec 32 := Scalar.addi v162 v161
  let v169 : BitVec 32 := Scalar.select v167 v168 v162
  let c0_i32_81 : BitVec 32 := 0#32
  let v171 : BitVec 1 := Scalar.cmpi .sgt v169 c0_i32_81
  let v172 : BitVec 32 := Scalar.extui v171
  let c0_i32_82 : BitVec 32 := 0#32
  let v173 : BitVec 1 := Scalar.cmpi .slt v169 c0_i32_82
  let v174 : BitVec 32 := Scalar.extui v173
  let v175 : BitVec 32 := Scalar.subi v172 v174
  let c2_i32_80 : BitVec 32 := 2#32
  let c0_i32_83 : BitVec 32 := 0#32
  let v176 : BitVec 1 := Scalar.cmpi .sgt c2_i32_80 c0_i32_83
  let v177 : BitVec 32 := Scalar.extui v176
  let c0_i32_84 : BitVec 32 := 0#32
  let v178 : BitVec 1 := Scalar.cmpi .slt c2_i32_80 c0_i32_84
  let v179 : BitVec 32 := Scalar.extui v178
  let v180 : BitVec 32 := Scalar.subi v177 v179
  let v181 : BitVec 1 := Scalar.cmpi .ne v175 v180
  let v182 : BitVec 32 := Scalar.remsi v169 c2_i32_80
  let c0_i32_85 : BitVec 32 := 0#32
  let v183 : BitVec 1 := Scalar.cmpi .ne v182 c0_i32_85
  let v184 : BitVec 1 := Scalar.andi v181 v183
  let v170 : BitVec 32 := Scalar.divsi v169 c2_i32_80
  let c1_i32_86 : BitVec 32 := 1#32
  let v185 : BitVec 32 := Scalar.subi v170 c1_i32_86
  let v186 : BitVec 32 := Scalar.select v184 v185 v170
  let v209 : BitVec 32 := Scalar.muli c2_i32_100 v186
  let v210 : BitVec 32 := Scalar.addi v208 v209
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v169 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c2_i32_93 : BitVec 32 := 2#32
  let c0_i32_94 : BitVec 32 := 0#32
  let v197 : BitVec 1 := Scalar.cmpi .eq c2_i32_93 c0_i32_94
  let c1_i32_95 : BitVec 32 := 1#32
  let v198 : BitVec 32 := Scalar.select v197 c1_i32_95 c2_i32_93
  let v199 : BitVec 32 := Scalar.remsi v186 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let v207 : BitVec 32 := Scalar.xori v196 v206
  let v211 : BitVec 32 := Scalar.addi v210 v207
  let c1_i32_677 : BitVec 32 := 1#32
  let v1578 : BitVec 32 := Scalar.muli v211 c1_i32_677
  let v1579 : BitVec 32 := Scalar.addi c0_i32_678 v1578
  v1579.toNat
def k0_dev12 (d0 : Dev nD) : Nat :=
  let c0_i32_705 : BitVec 32 := 0#32
  let c8_i32_64 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c1_i32_31 : BitVec 32 := 1#32
  let v72 : BitVec 32 := Scalar.xori v71 c1_i32_31
  let c0_i32_33 : BitVec 32 := 0#32
  let v74 : BitVec 1 := Scalar.cmpi .sgt v72 c0_i32_33
  let v75 : BitVec 32 := Scalar.extui v74
  let c0_i32_34 : BitVec 32 := 0#32
  let v76 : BitVec 1 := Scalar.cmpi .slt v72 c0_i32_34
  let v77 : BitVec 32 := Scalar.extui v76
  let v78 : BitVec 32 := Scalar.subi v75 v77
  let c8_i32_32 : BitVec 32 := 8#32
  let c0_i32_35 : BitVec 32 := 0#32
  let v79 : BitVec 1 := Scalar.cmpi .sgt c8_i32_32 c0_i32_35
  let v80 : BitVec 32 := Scalar.extui v79
  let c0_i32_36 : BitVec 32 := 0#32
  let v81 : BitVec 1 := Scalar.cmpi .slt c8_i32_32 c0_i32_36
  let v82 : BitVec 32 := Scalar.extui v81
  let v83 : BitVec 32 := Scalar.subi v80 v82
  let v84 : BitVec 1 := Scalar.cmpi .ne v78 v83
  let v85 : BitVec 32 := Scalar.remsi v72 c8_i32_32
  let c0_i32_37 : BitVec 32 := 0#32
  let v86 : BitVec 1 := Scalar.cmpi .ne v85 c0_i32_37
  let v87 : BitVec 1 := Scalar.andi v84 v86
  let v73 : BitVec 32 := Scalar.divsi v72 c8_i32_32
  let c1_i32_38 : BitVec 32 := 1#32
  let v88 : BitVec 32 := Scalar.subi v73 c1_i32_38
  let v89 : BitVec 32 := Scalar.select v87 v88 v73
  let v138 : BitVec 32 := Scalar.muli c8_i32_64 v89
  let c2_i32_65 : BitVec 32 := 2#32
  let c8_i32_39 : BitVec 32 := 8#32
  let c0_i32_40 : BitVec 32 := 0#32
  let v90 : BitVec 1 := Scalar.cmpi .eq c8_i32_39 c0_i32_40
  let c1_i32_41 : BitVec 32 := 1#32
  let v91 : BitVec 32 := Scalar.select v90 c1_i32_41 c8_i32_39
  let v92 : BitVec 32 := Scalar.remsi v72 v91
  let c0_i32_43 : BitVec 32 := 0#32
  let v94 : BitVec 1 := Scalar.cmpi .slt v92 c0_i32_43
  let c0_i32_44 : BitVec 32 := 0#32
  let v95 : BitVec 1 := Scalar.cmpi .slt v91 c0_i32_44
  let v96 : BitVec 1 := Scalar.xori v94 v95
  let c0_i32_42 : BitVec 32 := 0#32
  let v93 : BitVec 1 := Scalar.cmpi .ne v92 c0_i32_42
  let v97 : BitVec 1 := Scalar.andi v96 v93
  let v98 : BitVec 32 := Scalar.addi v92 v91
  let v99 : BitVec 32 := Scalar.select v97 v98 v92
  let c0_i32_46 : BitVec 32 := 0#32
  let v101 : BitVec 1 := Scalar.cmpi .sgt v99 c0_i32_46
  let v102 : BitVec 32 := Scalar.extui v101
  let c0_i32_47 : BitVec 32 := 0#32
  let v103 : BitVec 1 := Scalar.cmpi .slt v99 c0_i32_47
  let v104 : BitVec 32 := Scalar.extui v103
  let v105 : BitVec 32 := Scalar.subi v102 v104
  let c2_i32_45 : BitVec 32 := 2#32
  let c0_i32_48 : BitVec 32 := 0#32
  let v106 : BitVec 1 := Scalar.cmpi .sgt c2_i32_45 c0_i32_48
  let v107 : BitVec 32 := Scalar.extui v106
  let c0_i32_49 : BitVec 32 := 0#32
  let v108 : BitVec 1 := Scalar.cmpi .slt c2_i32_45 c0_i32_49
  let v109 : BitVec 32 := Scalar.extui v108
  let v110 : BitVec 32 := Scalar.subi v107 v109
  let v111 : BitVec 1 := Scalar.cmpi .ne v105 v110
  let v112 : BitVec 32 := Scalar.remsi v99 c2_i32_45
  let c0_i32_50 : BitVec 32 := 0#32
  let v113 : BitVec 1 := Scalar.cmpi .ne v112 c0_i32_50
  let v114 : BitVec 1 := Scalar.andi v111 v113
  let v100 : BitVec 32 := Scalar.divsi v99 c2_i32_45
  let c1_i32_51 : BitVec 32 := 1#32
  let v115 : BitVec 32 := Scalar.subi v100 c1_i32_51
  let v116 : BitVec 32 := Scalar.select v114 v115 v100
  let v139 : BitVec 32 := Scalar.muli c2_i32_65 v116
  let v140 : BitVec 32 := Scalar.addi v138 v139
  let c2_i32_52 : BitVec 32 := 2#32
  let c0_i32_53 : BitVec 32 := 0#32
  let v117 : BitVec 1 := Scalar.cmpi .eq c2_i32_52 c0_i32_53
  let c1_i32_54 : BitVec 32 := 1#32
  let v118 : BitVec 32 := Scalar.select v117 c1_i32_54 c2_i32_52
  let v119 : BitVec 32 := Scalar.remsi v99 v118
  let c0_i32_56 : BitVec 32 := 0#32
  let v121 : BitVec 1 := Scalar.cmpi .slt v119 c0_i32_56
  let c0_i32_57 : BitVec 32 := 0#32
  let v122 : BitVec 1 := Scalar.cmpi .slt v118 c0_i32_57
  let v123 : BitVec 1 := Scalar.xori v121 v122
  let c0_i32_55 : BitVec 32 := 0#32
  let v120 : BitVec 1 := Scalar.cmpi .ne v119 c0_i32_55
  let v124 : BitVec 1 := Scalar.andi v123 v120
  let v125 : BitVec 32 := Scalar.addi v119 v118
  let v126 : BitVec 32 := Scalar.select v124 v125 v119
  let c2_i32_58 : BitVec 32 := 2#32
  let c0_i32_59 : BitVec 32 := 0#32
  let v127 : BitVec 1 := Scalar.cmpi .eq c2_i32_58 c0_i32_59
  let c1_i32_60 : BitVec 32 := 1#32
  let v128 : BitVec 32 := Scalar.select v127 c1_i32_60 c2_i32_58
  let v129 : BitVec 32 := Scalar.remsi v116 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let v137 : BitVec 32 := Scalar.xori v126 v136
  let v141 : BitVec 32 := Scalar.addi v140 v137
  let c1_i32_704 : BitVec 32 := 1#32
  let v1602 : BitVec 32 := Scalar.muli v141 c1_i32_704
  let v1603 : BitVec 32 := Scalar.addi c0_i32_705 v1602
  v1603.toNat
def k0_dev13 (d0 : Dev nD) : Nat :=
  let c0_i32_732 : BitVec 32 := 0#32
  let c8_i32_99 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c2_i32_66 : BitVec 32 := 2#32
  let v142 : BitVec 32 := Scalar.xori v71 c2_i32_66
  let c0_i32_68 : BitVec 32 := 0#32
  let v144 : BitVec 1 := Scalar.cmpi .sgt v142 c0_i32_68
  let v145 : BitVec 32 := Scalar.extui v144
  let c0_i32_69 : BitVec 32 := 0#32
  let v146 : BitVec 1 := Scalar.cmpi .slt v142 c0_i32_69
  let v147 : BitVec 32 := Scalar.extui v146
  let v148 : BitVec 32 := Scalar.subi v145 v147
  let c8_i32_67 : BitVec 32 := 8#32
  let c0_i32_70 : BitVec 32 := 0#32
  let v149 : BitVec 1 := Scalar.cmpi .sgt c8_i32_67 c0_i32_70
  let v150 : BitVec 32 := Scalar.extui v149
  let c0_i32_71 : BitVec 32 := 0#32
  let v151 : BitVec 1 := Scalar.cmpi .slt c8_i32_67 c0_i32_71
  let v152 : BitVec 32 := Scalar.extui v151
  let v153 : BitVec 32 := Scalar.subi v150 v152
  let v154 : BitVec 1 := Scalar.cmpi .ne v148 v153
  let v155 : BitVec 32 := Scalar.remsi v142 c8_i32_67
  let c0_i32_72 : BitVec 32 := 0#32
  let v156 : BitVec 1 := Scalar.cmpi .ne v155 c0_i32_72
  let v157 : BitVec 1 := Scalar.andi v154 v156
  let v143 : BitVec 32 := Scalar.divsi v142 c8_i32_67
  let c1_i32_73 : BitVec 32 := 1#32
  let v158 : BitVec 32 := Scalar.subi v143 c1_i32_73
  let v159 : BitVec 32 := Scalar.select v157 v158 v143
  let v208 : BitVec 32 := Scalar.muli c8_i32_99 v159
  let c2_i32_100 : BitVec 32 := 2#32
  let c8_i32_74 : BitVec 32 := 8#32
  let c0_i32_75 : BitVec 32 := 0#32
  let v160 : BitVec 1 := Scalar.cmpi .eq c8_i32_74 c0_i32_75
  let c1_i32_76 : BitVec 32 := 1#32
  let v161 : BitVec 32 := Scalar.select v160 c1_i32_76 c8_i32_74
  let v162 : BitVec 32 := Scalar.remsi v142 v161
  let c0_i32_78 : BitVec 32 := 0#32
  let v164 : BitVec 1 := Scalar.cmpi .slt v162 c0_i32_78
  let c0_i32_79 : BitVec 32 := 0#32
  let v165 : BitVec 1 := Scalar.cmpi .slt v161 c0_i32_79
  let v166 : BitVec 1 := Scalar.xori v164 v165
  let c0_i32_77 : BitVec 32 := 0#32
  let v163 : BitVec 1 := Scalar.cmpi .ne v162 c0_i32_77
  let v167 : BitVec 1 := Scalar.andi v166 v163
  let v168 : BitVec 32 := Scalar.addi v162 v161
  let v169 : BitVec 32 := Scalar.select v167 v168 v162
  let c0_i32_81 : BitVec 32 := 0#32
  let v171 : BitVec 1 := Scalar.cmpi .sgt v169 c0_i32_81
  let v172 : BitVec 32 := Scalar.extui v171
  let c0_i32_82 : BitVec 32 := 0#32
  let v173 : BitVec 1 := Scalar.cmpi .slt v169 c0_i32_82
  let v174 : BitVec 32 := Scalar.extui v173
  let v175 : BitVec 32 := Scalar.subi v172 v174
  let c2_i32_80 : BitVec 32 := 2#32
  let c0_i32_83 : BitVec 32 := 0#32
  let v176 : BitVec 1 := Scalar.cmpi .sgt c2_i32_80 c0_i32_83
  let v177 : BitVec 32 := Scalar.extui v176
  let c0_i32_84 : BitVec 32 := 0#32
  let v178 : BitVec 1 := Scalar.cmpi .slt c2_i32_80 c0_i32_84
  let v179 : BitVec 32 := Scalar.extui v178
  let v180 : BitVec 32 := Scalar.subi v177 v179
  let v181 : BitVec 1 := Scalar.cmpi .ne v175 v180
  let v182 : BitVec 32 := Scalar.remsi v169 c2_i32_80
  let c0_i32_85 : BitVec 32 := 0#32
  let v183 : BitVec 1 := Scalar.cmpi .ne v182 c0_i32_85
  let v184 : BitVec 1 := Scalar.andi v181 v183
  let v170 : BitVec 32 := Scalar.divsi v169 c2_i32_80
  let c1_i32_86 : BitVec 32 := 1#32
  let v185 : BitVec 32 := Scalar.subi v170 c1_i32_86
  let v186 : BitVec 32 := Scalar.select v184 v185 v170
  let v209 : BitVec 32 := Scalar.muli c2_i32_100 v186
  let v210 : BitVec 32 := Scalar.addi v208 v209
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v169 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c2_i32_93 : BitVec 32 := 2#32
  let c0_i32_94 : BitVec 32 := 0#32
  let v197 : BitVec 1 := Scalar.cmpi .eq c2_i32_93 c0_i32_94
  let c1_i32_95 : BitVec 32 := 1#32
  let v198 : BitVec 32 := Scalar.select v197 c1_i32_95 c2_i32_93
  let v199 : BitVec 32 := Scalar.remsi v186 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let v207 : BitVec 32 := Scalar.xori v196 v206
  let v211 : BitVec 32 := Scalar.addi v210 v207
  let c1_i32_731 : BitVec 32 := 1#32
  let v1626 : BitVec 32 := Scalar.muli v211 c1_i32_731
  let v1627 : BitVec 32 := Scalar.addi c0_i32_732 v1626
  v1627.toNat
def k0_dev14 (d0 : Dev nD) : Nat :=
  let c0_i32_760 : BitVec 32 := 0#32
  let c8_i32_168 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c8_i32_135 : BitVec 32 := 8#32
  let v282 : BitVec 32 := Scalar.xori v71 c8_i32_135
  let c0_i32_137 : BitVec 32 := 0#32
  let v284 : BitVec 1 := Scalar.cmpi .sgt v282 c0_i32_137
  let v285 : BitVec 32 := Scalar.extui v284
  let c0_i32_138 : BitVec 32 := 0#32
  let v286 : BitVec 1 := Scalar.cmpi .slt v282 c0_i32_138
  let v287 : BitVec 32 := Scalar.extui v286
  let v288 : BitVec 32 := Scalar.subi v285 v287
  let c8_i32_136 : BitVec 32 := 8#32
  let c0_i32_139 : BitVec 32 := 0#32
  let v289 : BitVec 1 := Scalar.cmpi .sgt c8_i32_136 c0_i32_139
  let v290 : BitVec 32 := Scalar.extui v289
  let c0_i32_140 : BitVec 32 := 0#32
  let v291 : BitVec 1 := Scalar.cmpi .slt c8_i32_136 c0_i32_140
  let v292 : BitVec 32 := Scalar.extui v291
  let v293 : BitVec 32 := Scalar.subi v290 v292
  let v294 : BitVec 1 := Scalar.cmpi .ne v288 v293
  let v295 : BitVec 32 := Scalar.remsi v282 c8_i32_136
  let c0_i32_141 : BitVec 32 := 0#32
  let v296 : BitVec 1 := Scalar.cmpi .ne v295 c0_i32_141
  let v297 : BitVec 1 := Scalar.andi v294 v296
  let v283 : BitVec 32 := Scalar.divsi v282 c8_i32_136
  let c1_i32_142 : BitVec 32 := 1#32
  let v298 : BitVec 32 := Scalar.subi v283 c1_i32_142
  let v299 : BitVec 32 := Scalar.select v297 v298 v283
  let v348 : BitVec 32 := Scalar.muli c8_i32_168 v299
  let c2_i32_169 : BitVec 32 := 2#32
  let c8_i32_143 : BitVec 32 := 8#32
  let c0_i32_144 : BitVec 32 := 0#32
  let v300 : BitVec 1 := Scalar.cmpi .eq c8_i32_143 c0_i32_144
  let c1_i32_145 : BitVec 32 := 1#32
  let v301 : BitVec 32 := Scalar.select v300 c1_i32_145 c8_i32_143
  let v302 : BitVec 32 := Scalar.remsi v282 v301
  let c0_i32_147 : BitVec 32 := 0#32
  let v304 : BitVec 1 := Scalar.cmpi .slt v302 c0_i32_147
  let c0_i32_148 : BitVec 32 := 0#32
  let v305 : BitVec 1 := Scalar.cmpi .slt v301 c0_i32_148
  let v306 : BitVec 1 := Scalar.xori v304 v305
  let c0_i32_146 : BitVec 32 := 0#32
  let v303 : BitVec 1 := Scalar.cmpi .ne v302 c0_i32_146
  let v307 : BitVec 1 := Scalar.andi v306 v303
  let v308 : BitVec 32 := Scalar.addi v302 v301
  let v309 : BitVec 32 := Scalar.select v307 v308 v302
  let c0_i32_150 : BitVec 32 := 0#32
  let v311 : BitVec 1 := Scalar.cmpi .sgt v309 c0_i32_150
  let v312 : BitVec 32 := Scalar.extui v311
  let c0_i32_151 : BitVec 32 := 0#32
  let v313 : BitVec 1 := Scalar.cmpi .slt v309 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v309 c2_i32_149
  let c0_i32_154 : BitVec 32 := 0#32
  let v323 : BitVec 1 := Scalar.cmpi .ne v322 c0_i32_154
  let v324 : BitVec 1 := Scalar.andi v321 v323
  let v310 : BitVec 32 := Scalar.divsi v309 c2_i32_149
  let c1_i32_155 : BitVec 32 := 1#32
  let v325 : BitVec 32 := Scalar.subi v310 c1_i32_155
  let v326 : BitVec 32 := Scalar.select v324 v325 v310
  let v349 : BitVec 32 := Scalar.muli c2_i32_169 v326
  let v350 : BitVec 32 := Scalar.addi v348 v349
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v309 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let c2_i32_162 : BitVec 32 := 2#32
  let c0_i32_163 : BitVec 32 := 0#32
  let v337 : BitVec 1 := Scalar.cmpi .eq c2_i32_162 c0_i32_163
  let c1_i32_164 : BitVec 32 := 1#32
  let v338 : BitVec 32 := Scalar.select v337 c1_i32_164 c2_i32_162
  let v339 : BitVec 32 := Scalar.remsi v326 v338
  let c0_i32_166 : BitVec 32 := 0#32
  let v341 : BitVec 1 := Scalar.cmpi .slt v339 c0_i32_166
  let c0_i32_167 : BitVec 32 := 0#32
  let v342 : BitVec 1 := Scalar.cmpi .slt v338 c0_i32_167
  let v343 : BitVec 1 := Scalar.xori v341 v342
  let c0_i32_165 : BitVec 32 := 0#32
  let v340 : BitVec 1 := Scalar.cmpi .ne v339 c0_i32_165
  let v344 : BitVec 1 := Scalar.andi v343 v340
  let v345 : BitVec 32 := Scalar.addi v339 v338
  let v346 : BitVec 32 := Scalar.select v344 v345 v339
  let v347 : BitVec 32 := Scalar.xori v336 v346
  let v351 : BitVec 32 := Scalar.addi v350 v347
  let c1_i32_759 : BitVec 32 := 1#32
  let v1650 : BitVec 32 := Scalar.muli v351 c1_i32_759
  let v1651 : BitVec 32 := Scalar.addi c0_i32_760 v1650
  v1651.toNat
def k0_dev15 (d0 : Dev nD) : Nat :=
  let c0_i32_786 : BitVec 32 := 0#32
  let c8_i32_133 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c4_i32 : BitVec 32 := 4#32
  let v212 : BitVec 32 := Scalar.xori v71 c4_i32
  let c0_i32_102 : BitVec 32 := 0#32
  let v214 : BitVec 1 := Scalar.cmpi .sgt v212 c0_i32_102
  let v215 : BitVec 32 := Scalar.extui v214
  let c0_i32_103 : BitVec 32 := 0#32
  let v216 : BitVec 1 := Scalar.cmpi .slt v212 c0_i32_103
  let v217 : BitVec 32 := Scalar.extui v216
  let v218 : BitVec 32 := Scalar.subi v215 v217
  let c8_i32_101 : BitVec 32 := 8#32
  let c0_i32_104 : BitVec 32 := 0#32
  let v219 : BitVec 1 := Scalar.cmpi .sgt c8_i32_101 c0_i32_104
  let v220 : BitVec 32 := Scalar.extui v219
  let c0_i32_105 : BitVec 32 := 0#32
  let v221 : BitVec 1 := Scalar.cmpi .slt c8_i32_101 c0_i32_105
  let v222 : BitVec 32 := Scalar.extui v221
  let v223 : BitVec 32 := Scalar.subi v220 v222
  let v224 : BitVec 1 := Scalar.cmpi .ne v218 v223
  let v225 : BitVec 32 := Scalar.remsi v212 c8_i32_101
  let c0_i32_106 : BitVec 32 := 0#32
  let v226 : BitVec 1 := Scalar.cmpi .ne v225 c0_i32_106
  let v227 : BitVec 1 := Scalar.andi v224 v226
  let v213 : BitVec 32 := Scalar.divsi v212 c8_i32_101
  let c1_i32_107 : BitVec 32 := 1#32
  let v228 : BitVec 32 := Scalar.subi v213 c1_i32_107
  let v229 : BitVec 32 := Scalar.select v227 v228 v213
  let v278 : BitVec 32 := Scalar.muli c8_i32_133 v229
  let c2_i32_134 : BitVec 32 := 2#32
  let c8_i32_108 : BitVec 32 := 8#32
  let c0_i32_109 : BitVec 32 := 0#32
  let v230 : BitVec 1 := Scalar.cmpi .eq c8_i32_108 c0_i32_109
  let c1_i32_110 : BitVec 32 := 1#32
  let v231 : BitVec 32 := Scalar.select v230 c1_i32_110 c8_i32_108
  let v232 : BitVec 32 := Scalar.remsi v212 v231
  let c0_i32_112 : BitVec 32 := 0#32
  let v234 : BitVec 1 := Scalar.cmpi .slt v232 c0_i32_112
  let c0_i32_113 : BitVec 32 := 0#32
  let v235 : BitVec 1 := Scalar.cmpi .slt v231 c0_i32_113
  let v236 : BitVec 1 := Scalar.xori v234 v235
  let c0_i32_111 : BitVec 32 := 0#32
  let v233 : BitVec 1 := Scalar.cmpi .ne v232 c0_i32_111
  let v237 : BitVec 1 := Scalar.andi v236 v233
  let v238 : BitVec 32 := Scalar.addi v232 v231
  let v239 : BitVec 32 := Scalar.select v237 v238 v232
  let c0_i32_115 : BitVec 32 := 0#32
  let v241 : BitVec 1 := Scalar.cmpi .sgt v239 c0_i32_115
  let v242 : BitVec 32 := Scalar.extui v241
  let c0_i32_116 : BitVec 32 := 0#32
  let v243 : BitVec 1 := Scalar.cmpi .slt v239 c0_i32_116
  let v244 : BitVec 32 := Scalar.extui v243
  let v245 : BitVec 32 := Scalar.subi v242 v244
  let c2_i32_114 : BitVec 32 := 2#32
  let c0_i32_117 : BitVec 32 := 0#32
  let v246 : BitVec 1 := Scalar.cmpi .sgt c2_i32_114 c0_i32_117
  let v247 : BitVec 32 := Scalar.extui v246
  let c0_i32_118 : BitVec 32 := 0#32
  let v248 : BitVec 1 := Scalar.cmpi .slt c2_i32_114 c0_i32_118
  let v249 : BitVec 32 := Scalar.extui v248
  let v250 : BitVec 32 := Scalar.subi v247 v249
  let v251 : BitVec 1 := Scalar.cmpi .ne v245 v250
  let v252 : BitVec 32 := Scalar.remsi v239 c2_i32_114
  let c0_i32_119 : BitVec 32 := 0#32
  let v253 : BitVec 1 := Scalar.cmpi .ne v252 c0_i32_119
  let v254 : BitVec 1 := Scalar.andi v251 v253
  let v240 : BitVec 32 := Scalar.divsi v239 c2_i32_114
  let c1_i32_120 : BitVec 32 := 1#32
  let v255 : BitVec 32 := Scalar.subi v240 c1_i32_120
  let v256 : BitVec 32 := Scalar.select v254 v255 v240
  let v279 : BitVec 32 := Scalar.muli c2_i32_134 v256
  let v280 : BitVec 32 := Scalar.addi v278 v279
  let c2_i32_121 : BitVec 32 := 2#32
  let c0_i32_122 : BitVec 32 := 0#32
  let v257 : BitVec 1 := Scalar.cmpi .eq c2_i32_121 c0_i32_122
  let c1_i32_123 : BitVec 32 := 1#32
  let v258 : BitVec 32 := Scalar.select v257 c1_i32_123 c2_i32_121
  let v259 : BitVec 32 := Scalar.remsi v239 v258
  let c0_i32_125 : BitVec 32 := 0#32
  let v261 : BitVec 1 := Scalar.cmpi .slt v259 c0_i32_125
  let c0_i32_126 : BitVec 32 := 0#32
  let v262 : BitVec 1 := Scalar.cmpi .slt v258 c0_i32_126
  let v263 : BitVec 1 := Scalar.xori v261 v262
  let c0_i32_124 : BitVec 32 := 0#32
  let v260 : BitVec 1 := Scalar.cmpi .ne v259 c0_i32_124
  let v264 : BitVec 1 := Scalar.andi v263 v260
  let v265 : BitVec 32 := Scalar.addi v259 v258
  let v266 : BitVec 32 := Scalar.select v264 v265 v259
  let c2_i32_127 : BitVec 32 := 2#32
  let c0_i32_128 : BitVec 32 := 0#32
  let v267 : BitVec 1 := Scalar.cmpi .eq c2_i32_127 c0_i32_128
  let c1_i32_129 : BitVec 32 := 1#32
  let v268 : BitVec 32 := Scalar.select v267 c1_i32_129 c2_i32_127
  let v269 : BitVec 32 := Scalar.remsi v256 v268
  let c0_i32_131 : BitVec 32 := 0#32
  let v271 : BitVec 1 := Scalar.cmpi .slt v269 c0_i32_131
  let c0_i32_132 : BitVec 32 := 0#32
  let v272 : BitVec 1 := Scalar.cmpi .slt v268 c0_i32_132
  let v273 : BitVec 1 := Scalar.xori v271 v272
  let c0_i32_130 : BitVec 32 := 0#32
  let v270 : BitVec 1 := Scalar.cmpi .ne v269 c0_i32_130
  let v274 : BitVec 1 := Scalar.andi v273 v270
  let v275 : BitVec 32 := Scalar.addi v269 v268
  let v276 : BitVec 32 := Scalar.select v274 v275 v269
  let v277 : BitVec 32 := Scalar.xori v266 v276
  let v281 : BitVec 32 := Scalar.addi v280 v277
  let c1_i32_785 : BitVec 32 := 1#32
  let v1674 : BitVec 32 := Scalar.muli v281 c1_i32_785
  let v1675 : BitVec 32 := Scalar.addi c0_i32_786 v1674
  v1675.toNat
def k0_dev16 (d0 : Dev nD) : Nat :=
  let c0_i32_814 : BitVec 32 := 0#32
  let c8_i32_202 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c16_i32 : BitVec 32 := 16#32
  let v352 : BitVec 32 := Scalar.xori v71 c16_i32
  let c0_i32_171 : BitVec 32 := 0#32
  let v354 : BitVec 1 := Scalar.cmpi .sgt v352 c0_i32_171
  let v355 : BitVec 32 := Scalar.extui v354
  let c0_i32_172 : BitVec 32 := 0#32
  let v356 : BitVec 1 := Scalar.cmpi .slt v352 c0_i32_172
  let v357 : BitVec 32 := Scalar.extui v356
  let v358 : BitVec 32 := Scalar.subi v355 v357
  let c8_i32_170 : BitVec 32 := 8#32
  let c0_i32_173 : BitVec 32 := 0#32
  let v359 : BitVec 1 := Scalar.cmpi .sgt c8_i32_170 c0_i32_173
  let v360 : BitVec 32 := Scalar.extui v359
  let c0_i32_174 : BitVec 32 := 0#32
  let v361 : BitVec 1 := Scalar.cmpi .slt c8_i32_170 c0_i32_174
  let v362 : BitVec 32 := Scalar.extui v361
  let v363 : BitVec 32 := Scalar.subi v360 v362
  let v364 : BitVec 1 := Scalar.cmpi .ne v358 v363
  let v365 : BitVec 32 := Scalar.remsi v352 c8_i32_170
  let c0_i32_175 : BitVec 32 := 0#32
  let v366 : BitVec 1 := Scalar.cmpi .ne v365 c0_i32_175
  let v367 : BitVec 1 := Scalar.andi v364 v366
  let v353 : BitVec 32 := Scalar.divsi v352 c8_i32_170
  let c1_i32_176 : BitVec 32 := 1#32
  let v368 : BitVec 32 := Scalar.subi v353 c1_i32_176
  let v369 : BitVec 32 := Scalar.select v367 v368 v353
  let v418 : BitVec 32 := Scalar.muli c8_i32_202 v369
  let c2_i32_203 : BitVec 32 := 2#32
  let c8_i32_177 : BitVec 32 := 8#32
  let c0_i32_178 : BitVec 32 := 0#32
  let v370 : BitVec 1 := Scalar.cmpi .eq c8_i32_177 c0_i32_178
  let c1_i32_179 : BitVec 32 := 1#32
  let v371 : BitVec 32 := Scalar.select v370 c1_i32_179 c8_i32_177
  let v372 : BitVec 32 := Scalar.remsi v352 v371
  let c0_i32_181 : BitVec 32 := 0#32
  let v374 : BitVec 1 := Scalar.cmpi .slt v372 c0_i32_181
  let c0_i32_182 : BitVec 32 := 0#32
  let v375 : BitVec 1 := Scalar.cmpi .slt v371 c0_i32_182
  let v376 : BitVec 1 := Scalar.xori v374 v375
  let c0_i32_180 : BitVec 32 := 0#32
  let v373 : BitVec 1 := Scalar.cmpi .ne v372 c0_i32_180
  let v377 : BitVec 1 := Scalar.andi v376 v373
  let v378 : BitVec 32 := Scalar.addi v372 v371
  let v379 : BitVec 32 := Scalar.select v377 v378 v372
  let c0_i32_184 : BitVec 32 := 0#32
  let v381 : BitVec 1 := Scalar.cmpi .sgt v379 c0_i32_184
  let v382 : BitVec 32 := Scalar.extui v381
  let c0_i32_185 : BitVec 32 := 0#32
  let v383 : BitVec 1 := Scalar.cmpi .slt v379 c0_i32_185
  let v384 : BitVec 32 := Scalar.extui v383
  let v385 : BitVec 32 := Scalar.subi v382 v384
  let c2_i32_183 : BitVec 32 := 2#32
  let c0_i32_186 : BitVec 32 := 0#32
  let v386 : BitVec 1 := Scalar.cmpi .sgt c2_i32_183 c0_i32_186
  let v387 : BitVec 32 := Scalar.extui v386
  let c0_i32_187 : BitVec 32 := 0#32
  let v388 : BitVec 1 := Scalar.cmpi .slt c2_i32_183 c0_i32_187
  let v389 : BitVec 32 := Scalar.extui v388
  let v390 : BitVec 32 := Scalar.subi v387 v389
  let v391 : BitVec 1 := Scalar.cmpi .ne v385 v390
  let v392 : BitVec 32 := Scalar.remsi v379 c2_i32_183
  let c0_i32_188 : BitVec 32 := 0#32
  let v393 : BitVec 1 := Scalar.cmpi .ne v392 c0_i32_188
  let v394 : BitVec 1 := Scalar.andi v391 v393
  let v380 : BitVec 32 := Scalar.divsi v379 c2_i32_183
  let c1_i32_189 : BitVec 32 := 1#32
  let v395 : BitVec 32 := Scalar.subi v380 c1_i32_189
  let v396 : BitVec 32 := Scalar.select v394 v395 v380
  let v419 : BitVec 32 := Scalar.muli c2_i32_203 v396
  let v420 : BitVec 32 := Scalar.addi v418 v419
  let c2_i32_190 : BitVec 32 := 2#32
  let c0_i32_191 : BitVec 32 := 0#32
  let v397 : BitVec 1 := Scalar.cmpi .eq c2_i32_190 c0_i32_191
  let c1_i32_192 : BitVec 32 := 1#32
  let v398 : BitVec 32 := Scalar.select v397 c1_i32_192 c2_i32_190
  let v399 : BitVec 32 := Scalar.remsi v379 v398
  let c0_i32_194 : BitVec 32 := 0#32
  let v401 : BitVec 1 := Scalar.cmpi .slt v399 c0_i32_194
  let c0_i32_195 : BitVec 32 := 0#32
  let v402 : BitVec 1 := Scalar.cmpi .slt v398 c0_i32_195
  let v403 : BitVec 1 := Scalar.xori v401 v402
  let c0_i32_193 : BitVec 32 := 0#32
  let v400 : BitVec 1 := Scalar.cmpi .ne v399 c0_i32_193
  let v404 : BitVec 1 := Scalar.andi v403 v400
  let v405 : BitVec 32 := Scalar.addi v399 v398
  let v406 : BitVec 32 := Scalar.select v404 v405 v399
  let c2_i32_196 : BitVec 32 := 2#32
  let c0_i32_197 : BitVec 32 := 0#32
  let v407 : BitVec 1 := Scalar.cmpi .eq c2_i32_196 c0_i32_197
  let c1_i32_198 : BitVec 32 := 1#32
  let v408 : BitVec 32 := Scalar.select v407 c1_i32_198 c2_i32_196
  let v409 : BitVec 32 := Scalar.remsi v396 v408
  let c0_i32_200 : BitVec 32 := 0#32
  let v411 : BitVec 1 := Scalar.cmpi .slt v409 c0_i32_200
  let c0_i32_201 : BitVec 32 := 0#32
  let v412 : BitVec 1 := Scalar.cmpi .slt v408 c0_i32_201
  let v413 : BitVec 1 := Scalar.xori v411 v412
  let c0_i32_199 : BitVec 32 := 0#32
  let v410 : BitVec 1 := Scalar.cmpi .ne v409 c0_i32_199
  let v414 : BitVec 1 := Scalar.andi v413 v410
  let v415 : BitVec 32 := Scalar.addi v409 v408
  let v416 : BitVec 32 := Scalar.select v414 v415 v409
  let v417 : BitVec 32 := Scalar.xori v406 v416
  let v421 : BitVec 32 := Scalar.addi v420 v417
  let c1_i32_813 : BitVec 32 := 1#32
  let v1698 : BitVec 32 := Scalar.muli v421 c1_i32_813
  let v1699 : BitVec 32 := Scalar.addi c0_i32_814 v1698
  v1699.toNat
def k0_dev17 (d0 : Dev nD) : Nat :=
  let c0_i32_842 : BitVec 32 := 0#32
  let c8_i32_202 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c16_i32 : BitVec 32 := 16#32
  let v352 : BitVec 32 := Scalar.xori v71 c16_i32
  let c0_i32_171 : BitVec 32 := 0#32
  let v354 : BitVec 1 := Scalar.cmpi .sgt v352 c0_i32_171
  let v355 : BitVec 32 := Scalar.extui v354
  let c0_i32_172 : BitVec 32 := 0#32
  let v356 : BitVec 1 := Scalar.cmpi .slt v352 c0_i32_172
  let v357 : BitVec 32 := Scalar.extui v356
  let v358 : BitVec 32 := Scalar.subi v355 v357
  let c8_i32_170 : BitVec 32 := 8#32
  let c0_i32_173 : BitVec 32 := 0#32
  let v359 : BitVec 1 := Scalar.cmpi .sgt c8_i32_170 c0_i32_173
  let v360 : BitVec 32 := Scalar.extui v359
  let c0_i32_174 : BitVec 32 := 0#32
  let v361 : BitVec 1 := Scalar.cmpi .slt c8_i32_170 c0_i32_174
  let v362 : BitVec 32 := Scalar.extui v361
  let v363 : BitVec 32 := Scalar.subi v360 v362
  let v364 : BitVec 1 := Scalar.cmpi .ne v358 v363
  let v365 : BitVec 32 := Scalar.remsi v352 c8_i32_170
  let c0_i32_175 : BitVec 32 := 0#32
  let v366 : BitVec 1 := Scalar.cmpi .ne v365 c0_i32_175
  let v367 : BitVec 1 := Scalar.andi v364 v366
  let v353 : BitVec 32 := Scalar.divsi v352 c8_i32_170
  let c1_i32_176 : BitVec 32 := 1#32
  let v368 : BitVec 32 := Scalar.subi v353 c1_i32_176
  let v369 : BitVec 32 := Scalar.select v367 v368 v353
  let v418 : BitVec 32 := Scalar.muli c8_i32_202 v369
  let c2_i32_203 : BitVec 32 := 2#32
  let c8_i32_177 : BitVec 32 := 8#32
  let c0_i32_178 : BitVec 32 := 0#32
  let v370 : BitVec 1 := Scalar.cmpi .eq c8_i32_177 c0_i32_178
  let c1_i32_179 : BitVec 32 := 1#32
  let v371 : BitVec 32 := Scalar.select v370 c1_i32_179 c8_i32_177
  let v372 : BitVec 32 := Scalar.remsi v352 v371
  let c0_i32_181 : BitVec 32 := 0#32
  let v374 : BitVec 1 := Scalar.cmpi .slt v372 c0_i32_181
  let c0_i32_182 : BitVec 32 := 0#32
  let v375 : BitVec 1 := Scalar.cmpi .slt v371 c0_i32_182
  let v376 : BitVec 1 := Scalar.xori v374 v375
  let c0_i32_180 : BitVec 32 := 0#32
  let v373 : BitVec 1 := Scalar.cmpi .ne v372 c0_i32_180
  let v377 : BitVec 1 := Scalar.andi v376 v373
  let v378 : BitVec 32 := Scalar.addi v372 v371
  let v379 : BitVec 32 := Scalar.select v377 v378 v372
  let c0_i32_184 : BitVec 32 := 0#32
  let v381 : BitVec 1 := Scalar.cmpi .sgt v379 c0_i32_184
  let v382 : BitVec 32 := Scalar.extui v381
  let c0_i32_185 : BitVec 32 := 0#32
  let v383 : BitVec 1 := Scalar.cmpi .slt v379 c0_i32_185
  let v384 : BitVec 32 := Scalar.extui v383
  let v385 : BitVec 32 := Scalar.subi v382 v384
  let c2_i32_183 : BitVec 32 := 2#32
  let c0_i32_186 : BitVec 32 := 0#32
  let v386 : BitVec 1 := Scalar.cmpi .sgt c2_i32_183 c0_i32_186
  let v387 : BitVec 32 := Scalar.extui v386
  let c0_i32_187 : BitVec 32 := 0#32
  let v388 : BitVec 1 := Scalar.cmpi .slt c2_i32_183 c0_i32_187
  let v389 : BitVec 32 := Scalar.extui v388
  let v390 : BitVec 32 := Scalar.subi v387 v389
  let v391 : BitVec 1 := Scalar.cmpi .ne v385 v390
  let v392 : BitVec 32 := Scalar.remsi v379 c2_i32_183
  let c0_i32_188 : BitVec 32 := 0#32
  let v393 : BitVec 1 := Scalar.cmpi .ne v392 c0_i32_188
  let v394 : BitVec 1 := Scalar.andi v391 v393
  let v380 : BitVec 32 := Scalar.divsi v379 c2_i32_183
  let c1_i32_189 : BitVec 32 := 1#32
  let v395 : BitVec 32 := Scalar.subi v380 c1_i32_189
  let v396 : BitVec 32 := Scalar.select v394 v395 v380
  let v419 : BitVec 32 := Scalar.muli c2_i32_203 v396
  let v420 : BitVec 32 := Scalar.addi v418 v419
  let c2_i32_190 : BitVec 32 := 2#32
  let c0_i32_191 : BitVec 32 := 0#32
  let v397 : BitVec 1 := Scalar.cmpi .eq c2_i32_190 c0_i32_191
  let c1_i32_192 : BitVec 32 := 1#32
  let v398 : BitVec 32 := Scalar.select v397 c1_i32_192 c2_i32_190
  let v399 : BitVec 32 := Scalar.remsi v379 v398
  let c0_i32_194 : BitVec 32 := 0#32
  let v401 : BitVec 1 := Scalar.cmpi .slt v399 c0_i32_194
  let c0_i32_195 : BitVec 32 := 0#32
  let v402 : BitVec 1 := Scalar.cmpi .slt v398 c0_i32_195
  let v403 : BitVec 1 := Scalar.xori v401 v402
  let c0_i32_193 : BitVec 32 := 0#32
  let v400 : BitVec 1 := Scalar.cmpi .ne v399 c0_i32_193
  let v404 : BitVec 1 := Scalar.andi v403 v400
  let v405 : BitVec 32 := Scalar.addi v399 v398
  let v406 : BitVec 32 := Scalar.select v404 v405 v399
  let c2_i32_196 : BitVec 32 := 2#32
  let c0_i32_197 : BitVec 32 := 0#32
  let v407 : BitVec 1 := Scalar.cmpi .eq c2_i32_196 c0_i32_197
  let c1_i32_198 : BitVec 32 := 1#32
  let v408 : BitVec 32 := Scalar.select v407 c1_i32_198 c2_i32_196
  let v409 : BitVec 32 := Scalar.remsi v396 v408
  let c0_i32_200 : BitVec 32 := 0#32
  let v411 : BitVec 1 := Scalar.cmpi .slt v409 c0_i32_200
  let c0_i32_201 : BitVec 32 := 0#32
  let v412 : BitVec 1 := Scalar.cmpi .slt v408 c0_i32_201
  let v413 : BitVec 1 := Scalar.xori v411 v412
  let c0_i32_199 : BitVec 32 := 0#32
  let v410 : BitVec 1 := Scalar.cmpi .ne v409 c0_i32_199
  let v414 : BitVec 1 := Scalar.andi v413 v410
  let v415 : BitVec 32 := Scalar.addi v409 v408
  let v416 : BitVec 32 := Scalar.select v414 v415 v409
  let v417 : BitVec 32 := Scalar.xori v406 v416
  let v421 : BitVec 32 := Scalar.addi v420 v417
  let c1_i32_841 : BitVec 32 := 1#32
  let v1722 : BitVec 32 := Scalar.muli v421 c1_i32_841
  let v1723 : BitVec 32 := Scalar.addi c0_i32_842 v1722
  v1723.toNat
def k0_dev18 (d0 : Dev nD) : Nat :=
  let c0_i32_869 : BitVec 32 := 0#32
  let c8_i32_202 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c16_i32 : BitVec 32 := 16#32
  let v352 : BitVec 32 := Scalar.xori v71 c16_i32
  let c0_i32_171 : BitVec 32 := 0#32
  let v354 : BitVec 1 := Scalar.cmpi .sgt v352 c0_i32_171
  let v355 : BitVec 32 := Scalar.extui v354
  let c0_i32_172 : BitVec 32 := 0#32
  let v356 : BitVec 1 := Scalar.cmpi .slt v352 c0_i32_172
  let v357 : BitVec 32 := Scalar.extui v356
  let v358 : BitVec 32 := Scalar.subi v355 v357
  let c8_i32_170 : BitVec 32 := 8#32
  let c0_i32_173 : BitVec 32 := 0#32
  let v359 : BitVec 1 := Scalar.cmpi .sgt c8_i32_170 c0_i32_173
  let v360 : BitVec 32 := Scalar.extui v359
  let c0_i32_174 : BitVec 32 := 0#32
  let v361 : BitVec 1 := Scalar.cmpi .slt c8_i32_170 c0_i32_174
  let v362 : BitVec 32 := Scalar.extui v361
  let v363 : BitVec 32 := Scalar.subi v360 v362
  let v364 : BitVec 1 := Scalar.cmpi .ne v358 v363
  let v365 : BitVec 32 := Scalar.remsi v352 c8_i32_170
  let c0_i32_175 : BitVec 32 := 0#32
  let v366 : BitVec 1 := Scalar.cmpi .ne v365 c0_i32_175
  let v367 : BitVec 1 := Scalar.andi v364 v366
  let v353 : BitVec 32 := Scalar.divsi v352 c8_i32_170
  let c1_i32_176 : BitVec 32 := 1#32
  let v368 : BitVec 32 := Scalar.subi v353 c1_i32_176
  let v369 : BitVec 32 := Scalar.select v367 v368 v353
  let v418 : BitVec 32 := Scalar.muli c8_i32_202 v369
  let c2_i32_203 : BitVec 32 := 2#32
  let c8_i32_177 : BitVec 32 := 8#32
  let c0_i32_178 : BitVec 32 := 0#32
  let v370 : BitVec 1 := Scalar.cmpi .eq c8_i32_177 c0_i32_178
  let c1_i32_179 : BitVec 32 := 1#32
  let v371 : BitVec 32 := Scalar.select v370 c1_i32_179 c8_i32_177
  let v372 : BitVec 32 := Scalar.remsi v352 v371
  let c0_i32_181 : BitVec 32 := 0#32
  let v374 : BitVec 1 := Scalar.cmpi .slt v372 c0_i32_181
  let c0_i32_182 : BitVec 32 := 0#32
  let v375 : BitVec 1 := Scalar.cmpi .slt v371 c0_i32_182
  let v376 : BitVec 1 := Scalar.xori v374 v375
  let c0_i32_180 : BitVec 32 := 0#32
  let v373 : BitVec 1 := Scalar.cmpi .ne v372 c0_i32_180
  let v377 : BitVec 1 := Scalar.andi v376 v373
  let v378 : BitVec 32 := Scalar.addi v372 v371
  let v379 : BitVec 32 := Scalar.select v377 v378 v372
  let c0_i32_184 : BitVec 32 := 0#32
  let v381 : BitVec 1 := Scalar.cmpi .sgt v379 c0_i32_184
  let v382 : BitVec 32 := Scalar.extui v381
  let c0_i32_185 : BitVec 32 := 0#32
  let v383 : BitVec 1 := Scalar.cmpi .slt v379 c0_i32_185
  let v384 : BitVec 32 := Scalar.extui v383
  let v385 : BitVec 32 := Scalar.subi v382 v384
  let c2_i32_183 : BitVec 32 := 2#32
  let c0_i32_186 : BitVec 32 := 0#32
  let v386 : BitVec 1 := Scalar.cmpi .sgt c2_i32_183 c0_i32_186
  let v387 : BitVec 32 := Scalar.extui v386
  let c0_i32_187 : BitVec 32 := 0#32
  let v388 : BitVec 1 := Scalar.cmpi .slt c2_i32_183 c0_i32_187
  let v389 : BitVec 32 := Scalar.extui v388
  let v390 : BitVec 32 := Scalar.subi v387 v389
  let v391 : BitVec 1 := Scalar.cmpi .ne v385 v390
  let v392 : BitVec 32 := Scalar.remsi v379 c2_i32_183
  let c0_i32_188 : BitVec 32 := 0#32
  let v393 : BitVec 1 := Scalar.cmpi .ne v392 c0_i32_188
  let v394 : BitVec 1 := Scalar.andi v391 v393
  let v380 : BitVec 32 := Scalar.divsi v379 c2_i32_183
  let c1_i32_189 : BitVec 32 := 1#32
  let v395 : BitVec 32 := Scalar.subi v380 c1_i32_189
  let v396 : BitVec 32 := Scalar.select v394 v395 v380
  let v419 : BitVec 32 := Scalar.muli c2_i32_203 v396
  let v420 : BitVec 32 := Scalar.addi v418 v419
  let c2_i32_190 : BitVec 32 := 2#32
  let c0_i32_191 : BitVec 32 := 0#32
  let v397 : BitVec 1 := Scalar.cmpi .eq c2_i32_190 c0_i32_191
  let c1_i32_192 : BitVec 32 := 1#32
  let v398 : BitVec 32 := Scalar.select v397 c1_i32_192 c2_i32_190
  let v399 : BitVec 32 := Scalar.remsi v379 v398
  let c0_i32_194 : BitVec 32 := 0#32
  let v401 : BitVec 1 := Scalar.cmpi .slt v399 c0_i32_194
  let c0_i32_195 : BitVec 32 := 0#32
  let v402 : BitVec 1 := Scalar.cmpi .slt v398 c0_i32_195
  let v403 : BitVec 1 := Scalar.xori v401 v402
  let c0_i32_193 : BitVec 32 := 0#32
  let v400 : BitVec 1 := Scalar.cmpi .ne v399 c0_i32_193
  let v404 : BitVec 1 := Scalar.andi v403 v400
  let v405 : BitVec 32 := Scalar.addi v399 v398
  let v406 : BitVec 32 := Scalar.select v404 v405 v399
  let c2_i32_196 : BitVec 32 := 2#32
  let c0_i32_197 : BitVec 32 := 0#32
  let v407 : BitVec 1 := Scalar.cmpi .eq c2_i32_196 c0_i32_197
  let c1_i32_198 : BitVec 32 := 1#32
  let v408 : BitVec 32 := Scalar.select v407 c1_i32_198 c2_i32_196
  let v409 : BitVec 32 := Scalar.remsi v396 v408
  let c0_i32_200 : BitVec 32 := 0#32
  let v411 : BitVec 1 := Scalar.cmpi .slt v409 c0_i32_200
  let c0_i32_201 : BitVec 32 := 0#32
  let v412 : BitVec 1 := Scalar.cmpi .slt v408 c0_i32_201
  let v413 : BitVec 1 := Scalar.xori v411 v412
  let c0_i32_199 : BitVec 32 := 0#32
  let v410 : BitVec 1 := Scalar.cmpi .ne v409 c0_i32_199
  let v414 : BitVec 1 := Scalar.andi v413 v410
  let v415 : BitVec 32 := Scalar.addi v409 v408
  let v416 : BitVec 32 := Scalar.select v414 v415 v409
  let v417 : BitVec 32 := Scalar.xori v406 v416
  let v421 : BitVec 32 := Scalar.addi v420 v417
  let c1_i32_868 : BitVec 32 := 1#32
  let v1746 : BitVec 32 := Scalar.muli v421 c1_i32_868
  let v1747 : BitVec 32 := Scalar.addi c0_i32_869 v1746
  v1747.toNat
def k0_dev19 (d0 : Dev nD) : Nat :=
  let c0_i32_897 : BitVec 32 := 0#32
  let c8_i32_133 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c4_i32 : BitVec 32 := 4#32
  let v212 : BitVec 32 := Scalar.xori v71 c4_i32
  let c0_i32_102 : BitVec 32 := 0#32
  let v214 : BitVec 1 := Scalar.cmpi .sgt v212 c0_i32_102
  let v215 : BitVec 32 := Scalar.extui v214
  let c0_i32_103 : BitVec 32 := 0#32
  let v216 : BitVec 1 := Scalar.cmpi .slt v212 c0_i32_103
  let v217 : BitVec 32 := Scalar.extui v216
  let v218 : BitVec 32 := Scalar.subi v215 v217
  let c8_i32_101 : BitVec 32 := 8#32
  let c0_i32_104 : BitVec 32 := 0#32
  let v219 : BitVec 1 := Scalar.cmpi .sgt c8_i32_101 c0_i32_104
  let v220 : BitVec 32 := Scalar.extui v219
  let c0_i32_105 : BitVec 32 := 0#32
  let v221 : BitVec 1 := Scalar.cmpi .slt c8_i32_101 c0_i32_105
  let v222 : BitVec 32 := Scalar.extui v221
  let v223 : BitVec 32 := Scalar.subi v220 v222
  let v224 : BitVec 1 := Scalar.cmpi .ne v218 v223
  let v225 : BitVec 32 := Scalar.remsi v212 c8_i32_101
  let c0_i32_106 : BitVec 32 := 0#32
  let v226 : BitVec 1 := Scalar.cmpi .ne v225 c0_i32_106
  let v227 : BitVec 1 := Scalar.andi v224 v226
  let v213 : BitVec 32 := Scalar.divsi v212 c8_i32_101
  let c1_i32_107 : BitVec 32 := 1#32
  let v228 : BitVec 32 := Scalar.subi v213 c1_i32_107
  let v229 : BitVec 32 := Scalar.select v227 v228 v213
  let v278 : BitVec 32 := Scalar.muli c8_i32_133 v229
  let c2_i32_134 : BitVec 32 := 2#32
  let c8_i32_108 : BitVec 32 := 8#32
  let c0_i32_109 : BitVec 32 := 0#32
  let v230 : BitVec 1 := Scalar.cmpi .eq c8_i32_108 c0_i32_109
  let c1_i32_110 : BitVec 32 := 1#32
  let v231 : BitVec 32 := Scalar.select v230 c1_i32_110 c8_i32_108
  let v232 : BitVec 32 := Scalar.remsi v212 v231
  let c0_i32_112 : BitVec 32 := 0#32
  let v234 : BitVec 1 := Scalar.cmpi .slt v232 c0_i32_112
  let c0_i32_113 : BitVec 32 := 0#32
  let v235 : BitVec 1 := Scalar.cmpi .slt v231 c0_i32_113
  let v236 : BitVec 1 := Scalar.xori v234 v235
  let c0_i32_111 : BitVec 32 := 0#32
  let v233 : BitVec 1 := Scalar.cmpi .ne v232 c0_i32_111
  let v237 : BitVec 1 := Scalar.andi v236 v233
  let v238 : BitVec 32 := Scalar.addi v232 v231
  let v239 : BitVec 32 := Scalar.select v237 v238 v232
  let c0_i32_115 : BitVec 32 := 0#32
  let v241 : BitVec 1 := Scalar.cmpi .sgt v239 c0_i32_115
  let v242 : BitVec 32 := Scalar.extui v241
  let c0_i32_116 : BitVec 32 := 0#32
  let v243 : BitVec 1 := Scalar.cmpi .slt v239 c0_i32_116
  let v244 : BitVec 32 := Scalar.extui v243
  let v245 : BitVec 32 := Scalar.subi v242 v244
  let c2_i32_114 : BitVec 32 := 2#32
  let c0_i32_117 : BitVec 32 := 0#32
  let v246 : BitVec 1 := Scalar.cmpi .sgt c2_i32_114 c0_i32_117
  let v247 : BitVec 32 := Scalar.extui v246
  let c0_i32_118 : BitVec 32 := 0#32
  let v248 : BitVec 1 := Scalar.cmpi .slt c2_i32_114 c0_i32_118
  let v249 : BitVec 32 := Scalar.extui v248
  let v250 : BitVec 32 := Scalar.subi v247 v249
  let v251 : BitVec 1 := Scalar.cmpi .ne v245 v250
  let v252 : BitVec 32 := Scalar.remsi v239 c2_i32_114
  let c0_i32_119 : BitVec 32 := 0#32
  let v253 : BitVec 1 := Scalar.cmpi .ne v252 c0_i32_119
  let v254 : BitVec 1 := Scalar.andi v251 v253
  let v240 : BitVec 32 := Scalar.divsi v239 c2_i32_114
  let c1_i32_120 : BitVec 32 := 1#32
  let v255 : BitVec 32 := Scalar.subi v240 c1_i32_120
  let v256 : BitVec 32 := Scalar.select v254 v255 v240
  let v279 : BitVec 32 := Scalar.muli c2_i32_134 v256
  let v280 : BitVec 32 := Scalar.addi v278 v279
  let c2_i32_121 : BitVec 32 := 2#32
  let c0_i32_122 : BitVec 32 := 0#32
  let v257 : BitVec 1 := Scalar.cmpi .eq c2_i32_121 c0_i32_122
  let c1_i32_123 : BitVec 32 := 1#32
  let v258 : BitVec 32 := Scalar.select v257 c1_i32_123 c2_i32_121
  let v259 : BitVec 32 := Scalar.remsi v239 v258
  let c0_i32_125 : BitVec 32 := 0#32
  let v261 : BitVec 1 := Scalar.cmpi .slt v259 c0_i32_125
  let c0_i32_126 : BitVec 32 := 0#32
  let v262 : BitVec 1 := Scalar.cmpi .slt v258 c0_i32_126
  let v263 : BitVec 1 := Scalar.xori v261 v262
  let c0_i32_124 : BitVec 32 := 0#32
  let v260 : BitVec 1 := Scalar.cmpi .ne v259 c0_i32_124
  let v264 : BitVec 1 := Scalar.andi v263 v260
  let v265 : BitVec 32 := Scalar.addi v259 v258
  let v266 : BitVec 32 := Scalar.select v264 v265 v259
  let c2_i32_127 : BitVec 32 := 2#32
  let c0_i32_128 : BitVec 32 := 0#32
  let v267 : BitVec 1 := Scalar.cmpi .eq c2_i32_127 c0_i32_128
  let c1_i32_129 : BitVec 32 := 1#32
  let v268 : BitVec 32 := Scalar.select v267 c1_i32_129 c2_i32_127
  let v269 : BitVec 32 := Scalar.remsi v256 v268
  let c0_i32_131 : BitVec 32 := 0#32
  let v271 : BitVec 1 := Scalar.cmpi .slt v269 c0_i32_131
  let c0_i32_132 : BitVec 32 := 0#32
  let v272 : BitVec 1 := Scalar.cmpi .slt v268 c0_i32_132
  let v273 : BitVec 1 := Scalar.xori v271 v272
  let c0_i32_130 : BitVec 32 := 0#32
  let v270 : BitVec 1 := Scalar.cmpi .ne v269 c0_i32_130
  let v274 : BitVec 1 := Scalar.andi v273 v270
  let v275 : BitVec 32 := Scalar.addi v269 v268
  let v276 : BitVec 32 := Scalar.select v274 v275 v269
  let v277 : BitVec 32 := Scalar.xori v266 v276
  let v281 : BitVec 32 := Scalar.addi v280 v277
  let c1_i32_896 : BitVec 32 := 1#32
  let v1770 : BitVec 32 := Scalar.muli v281 c1_i32_896
  let v1771 : BitVec 32 := Scalar.addi c0_i32_897 v1770
  v1771.toNat
def k0_dev20 (d0 : Dev nD) : Nat :=
  let c0_i32_925 : BitVec 32 := 0#32
  let c8_i32_133 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c4_i32 : BitVec 32 := 4#32
  let v212 : BitVec 32 := Scalar.xori v71 c4_i32
  let c0_i32_102 : BitVec 32 := 0#32
  let v214 : BitVec 1 := Scalar.cmpi .sgt v212 c0_i32_102
  let v215 : BitVec 32 := Scalar.extui v214
  let c0_i32_103 : BitVec 32 := 0#32
  let v216 : BitVec 1 := Scalar.cmpi .slt v212 c0_i32_103
  let v217 : BitVec 32 := Scalar.extui v216
  let v218 : BitVec 32 := Scalar.subi v215 v217
  let c8_i32_101 : BitVec 32 := 8#32
  let c0_i32_104 : BitVec 32 := 0#32
  let v219 : BitVec 1 := Scalar.cmpi .sgt c8_i32_101 c0_i32_104
  let v220 : BitVec 32 := Scalar.extui v219
  let c0_i32_105 : BitVec 32 := 0#32
  let v221 : BitVec 1 := Scalar.cmpi .slt c8_i32_101 c0_i32_105
  let v222 : BitVec 32 := Scalar.extui v221
  let v223 : BitVec 32 := Scalar.subi v220 v222
  let v224 : BitVec 1 := Scalar.cmpi .ne v218 v223
  let v225 : BitVec 32 := Scalar.remsi v212 c8_i32_101
  let c0_i32_106 : BitVec 32 := 0#32
  let v226 : BitVec 1 := Scalar.cmpi .ne v225 c0_i32_106
  let v227 : BitVec 1 := Scalar.andi v224 v226
  let v213 : BitVec 32 := Scalar.divsi v212 c8_i32_101
  let c1_i32_107 : BitVec 32 := 1#32
  let v228 : BitVec 32 := Scalar.subi v213 c1_i32_107
  let v229 : BitVec 32 := Scalar.select v227 v228 v213
  let v278 : BitVec 32 := Scalar.muli c8_i32_133 v229
  let c2_i32_134 : BitVec 32 := 2#32
  let c8_i32_108 : BitVec 32 := 8#32
  let c0_i32_109 : BitVec 32 := 0#32
  let v230 : BitVec 1 := Scalar.cmpi .eq c8_i32_108 c0_i32_109
  let c1_i32_110 : BitVec 32 := 1#32
  let v231 : BitVec 32 := Scalar.select v230 c1_i32_110 c8_i32_108
  let v232 : BitVec 32 := Scalar.remsi v212 v231
  let c0_i32_112 : BitVec 32 := 0#32
  let v234 : BitVec 1 := Scalar.cmpi .slt v232 c0_i32_112
  let c0_i32_113 : BitVec 32 := 0#32
  let v235 : BitVec 1 := Scalar.cmpi .slt v231 c0_i32_113
  let v236 : BitVec 1 := Scalar.xori v234 v235
  let c0_i32_111 : BitVec 32 := 0#32
  let v233 : BitVec 1 := Scalar.cmpi .ne v232 c0_i32_111
  let v237 : BitVec 1 := Scalar.andi v236 v233
  let v238 : BitVec 32 := Scalar.addi v232 v231
  let v239 : BitVec 32 := Scalar.select v237 v238 v232
  let c0_i32_115 : BitVec 32 := 0#32
  let v241 : BitVec 1 := Scalar.cmpi .sgt v239 c0_i32_115
  let v242 : BitVec 32 := Scalar.extui v241
  let c0_i32_116 : BitVec 32 := 0#32
  let v243 : BitVec 1 := Scalar.cmpi .slt v239 c0_i32_116
  let v244 : BitVec 32 := Scalar.extui v243
  let v245 : BitVec 32 := Scalar.subi v242 v244
  let c2_i32_114 : BitVec 32 := 2#32
  let c0_i32_117 : BitVec 32 := 0#32
  let v246 : BitVec 1 := Scalar.cmpi .sgt c2_i32_114 c0_i32_117
  let v247 : BitVec 32 := Scalar.extui v246
  let c0_i32_118 : BitVec 32 := 0#32
  let v248 : BitVec 1 := Scalar.cmpi .slt c2_i32_114 c0_i32_118
  let v249 : BitVec 32 := Scalar.extui v248
  let v250 : BitVec 32 := Scalar.subi v247 v249
  let v251 : BitVec 1 := Scalar.cmpi .ne v245 v250
  let v252 : BitVec 32 := Scalar.remsi v239 c2_i32_114
  let c0_i32_119 : BitVec 32 := 0#32
  let v253 : BitVec 1 := Scalar.cmpi .ne v252 c0_i32_119
  let v254 : BitVec 1 := Scalar.andi v251 v253
  let v240 : BitVec 32 := Scalar.divsi v239 c2_i32_114
  let c1_i32_120 : BitVec 32 := 1#32
  let v255 : BitVec 32 := Scalar.subi v240 c1_i32_120
  let v256 : BitVec 32 := Scalar.select v254 v255 v240
  let v279 : BitVec 32 := Scalar.muli c2_i32_134 v256
  let v280 : BitVec 32 := Scalar.addi v278 v279
  let c2_i32_121 : BitVec 32 := 2#32
  let c0_i32_122 : BitVec 32 := 0#32
  let v257 : BitVec 1 := Scalar.cmpi .eq c2_i32_121 c0_i32_122
  let c1_i32_123 : BitVec 32 := 1#32
  let v258 : BitVec 32 := Scalar.select v257 c1_i32_123 c2_i32_121
  let v259 : BitVec 32 := Scalar.remsi v239 v258
  let c0_i32_125 : BitVec 32 := 0#32
  let v261 : BitVec 1 := Scalar.cmpi .slt v259 c0_i32_125
  let c0_i32_126 : BitVec 32 := 0#32
  let v262 : BitVec 1 := Scalar.cmpi .slt v258 c0_i32_126
  let v263 : BitVec 1 := Scalar.xori v261 v262
  let c0_i32_124 : BitVec 32 := 0#32
  let v260 : BitVec 1 := Scalar.cmpi .ne v259 c0_i32_124
  let v264 : BitVec 1 := Scalar.andi v263 v260
  let v265 : BitVec 32 := Scalar.addi v259 v258
  let v266 : BitVec 32 := Scalar.select v264 v265 v259
  let c2_i32_127 : BitVec 32 := 2#32
  let c0_i32_128 : BitVec 32 := 0#32
  let v267 : BitVec 1 := Scalar.cmpi .eq c2_i32_127 c0_i32_128
  let c1_i32_129 : BitVec 32 := 1#32
  let v268 : BitVec 32 := Scalar.select v267 c1_i32_129 c2_i32_127
  let v269 : BitVec 32 := Scalar.remsi v256 v268
  let c0_i32_131 : BitVec 32 := 0#32
  let v271 : BitVec 1 := Scalar.cmpi .slt v269 c0_i32_131
  let c0_i32_132 : BitVec 32 := 0#32
  let v272 : BitVec 1 := Scalar.cmpi .slt v268 c0_i32_132
  let v273 : BitVec 1 := Scalar.xori v271 v272
  let c0_i32_130 : BitVec 32 := 0#32
  let v270 : BitVec 1 := Scalar.cmpi .ne v269 c0_i32_130
  let v274 : BitVec 1 := Scalar.andi v273 v270
  let v275 : BitVec 32 := Scalar.addi v269 v268
  let v276 : BitVec 32 := Scalar.select v274 v275 v269
  let v277 : BitVec 32 := Scalar.xori v266 v276
  let v281 : BitVec 32 := Scalar.addi v280 v277
  let c1_i32_924 : BitVec 32 := 1#32
  let v1794 : BitVec 32 := Scalar.muli v281 c1_i32_924
  let v1795 : BitVec 32 := Scalar.addi c0_i32_925 v1794
  v1795.toNat
def k0_dev21 (d0 : Dev nD) : Nat :=
  let c0_i32_1095_r0 : BitVec 32 := 0#32
  let c8_i32_64 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c1_i32_31 : BitVec 32 := 1#32
  let v72 : BitVec 32 := Scalar.xori v71 c1_i32_31
  let c0_i32_33 : BitVec 32 := 0#32
  let v74 : BitVec 1 := Scalar.cmpi .sgt v72 c0_i32_33
  let v75 : BitVec 32 := Scalar.extui v74
  let c0_i32_34 : BitVec 32 := 0#32
  let v76 : BitVec 1 := Scalar.cmpi .slt v72 c0_i32_34
  let v77 : BitVec 32 := Scalar.extui v76
  let v78 : BitVec 32 := Scalar.subi v75 v77
  let c8_i32_32 : BitVec 32 := 8#32
  let c0_i32_35 : BitVec 32 := 0#32
  let v79 : BitVec 1 := Scalar.cmpi .sgt c8_i32_32 c0_i32_35
  let v80 : BitVec 32 := Scalar.extui v79
  let c0_i32_36 : BitVec 32 := 0#32
  let v81 : BitVec 1 := Scalar.cmpi .slt c8_i32_32 c0_i32_36
  let v82 : BitVec 32 := Scalar.extui v81
  let v83 : BitVec 32 := Scalar.subi v80 v82
  let v84 : BitVec 1 := Scalar.cmpi .ne v78 v83
  let v85 : BitVec 32 := Scalar.remsi v72 c8_i32_32
  let c0_i32_37 : BitVec 32 := 0#32
  let v86 : BitVec 1 := Scalar.cmpi .ne v85 c0_i32_37
  let v87 : BitVec 1 := Scalar.andi v84 v86
  let v73 : BitVec 32 := Scalar.divsi v72 c8_i32_32
  let c1_i32_38 : BitVec 32 := 1#32
  let v88 : BitVec 32 := Scalar.subi v73 c1_i32_38
  let v89 : BitVec 32 := Scalar.select v87 v88 v73
  let v138 : BitVec 32 := Scalar.muli c8_i32_64 v89
  let c2_i32_65 : BitVec 32 := 2#32
  let c8_i32_39 : BitVec 32 := 8#32
  let c0_i32_40 : BitVec 32 := 0#32
  let v90 : BitVec 1 := Scalar.cmpi .eq c8_i32_39 c0_i32_40
  let c1_i32_41 : BitVec 32 := 1#32
  let v91 : BitVec 32 := Scalar.select v90 c1_i32_41 c8_i32_39
  let v92 : BitVec 32 := Scalar.remsi v72 v91
  let c0_i32_43 : BitVec 32 := 0#32
  let v94 : BitVec 1 := Scalar.cmpi .slt v92 c0_i32_43
  let c0_i32_44 : BitVec 32 := 0#32
  let v95 : BitVec 1 := Scalar.cmpi .slt v91 c0_i32_44
  let v96 : BitVec 1 := Scalar.xori v94 v95
  let c0_i32_42 : BitVec 32 := 0#32
  let v93 : BitVec 1 := Scalar.cmpi .ne v92 c0_i32_42
  let v97 : BitVec 1 := Scalar.andi v96 v93
  let v98 : BitVec 32 := Scalar.addi v92 v91
  let v99 : BitVec 32 := Scalar.select v97 v98 v92
  let c0_i32_46 : BitVec 32 := 0#32
  let v101 : BitVec 1 := Scalar.cmpi .sgt v99 c0_i32_46
  let v102 : BitVec 32 := Scalar.extui v101
  let c0_i32_47 : BitVec 32 := 0#32
  let v103 : BitVec 1 := Scalar.cmpi .slt v99 c0_i32_47
  let v104 : BitVec 32 := Scalar.extui v103
  let v105 : BitVec 32 := Scalar.subi v102 v104
  let c2_i32_45 : BitVec 32 := 2#32
  let c0_i32_48 : BitVec 32 := 0#32
  let v106 : BitVec 1 := Scalar.cmpi .sgt c2_i32_45 c0_i32_48
  let v107 : BitVec 32 := Scalar.extui v106
  let c0_i32_49 : BitVec 32 := 0#32
  let v108 : BitVec 1 := Scalar.cmpi .slt c2_i32_45 c0_i32_49
  let v109 : BitVec 32 := Scalar.extui v108
  let v110 : BitVec 32 := Scalar.subi v107 v109
  let v111 : BitVec 1 := Scalar.cmpi .ne v105 v110
  let v112 : BitVec 32 := Scalar.remsi v99 c2_i32_45
  let c0_i32_50 : BitVec 32 := 0#32
  let v113 : BitVec 1 := Scalar.cmpi .ne v112 c0_i32_50
  let v114 : BitVec 1 := Scalar.andi v111 v113
  let v100 : BitVec 32 := Scalar.divsi v99 c2_i32_45
  let c1_i32_51 : BitVec 32 := 1#32
  let v115 : BitVec 32 := Scalar.subi v100 c1_i32_51
  let v116 : BitVec 32 := Scalar.select v114 v115 v100
  let v139 : BitVec 32 := Scalar.muli c2_i32_65 v116
  let v140 : BitVec 32 := Scalar.addi v138 v139
  let c2_i32_52 : BitVec 32 := 2#32
  let c0_i32_53 : BitVec 32 := 0#32
  let v117 : BitVec 1 := Scalar.cmpi .eq c2_i32_52 c0_i32_53
  let c1_i32_54 : BitVec 32 := 1#32
  let v118 : BitVec 32 := Scalar.select v117 c1_i32_54 c2_i32_52
  let v119 : BitVec 32 := Scalar.remsi v99 v118
  let c0_i32_56 : BitVec 32 := 0#32
  let v121 : BitVec 1 := Scalar.cmpi .slt v119 c0_i32_56
  let c0_i32_57 : BitVec 32 := 0#32
  let v122 : BitVec 1 := Scalar.cmpi .slt v118 c0_i32_57
  let v123 : BitVec 1 := Scalar.xori v121 v122
  let c0_i32_55 : BitVec 32 := 0#32
  let v120 : BitVec 1 := Scalar.cmpi .ne v119 c0_i32_55
  let v124 : BitVec 1 := Scalar.andi v123 v120
  let v125 : BitVec 32 := Scalar.addi v119 v118
  let v126 : BitVec 32 := Scalar.select v124 v125 v119
  let c2_i32_58 : BitVec 32 := 2#32
  let c0_i32_59 : BitVec 32 := 0#32
  let v127 : BitVec 1 := Scalar.cmpi .eq c2_i32_58 c0_i32_59
  let c1_i32_60 : BitVec 32 := 1#32
  let v128 : BitVec 32 := Scalar.select v127 c1_i32_60 c2_i32_58
  let v129 : BitVec 32 := Scalar.remsi v116 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let v137 : BitVec 32 := Scalar.xori v126 v136
  let v141 : BitVec 32 := Scalar.addi v140 v137
  let c1_i32_1094_r0 : BitVec 32 := 1#32
  let v1892_r0 : BitVec 32 := Scalar.muli v141 c1_i32_1094_r0
  let v1893_r0 : BitVec 32 := Scalar.addi c0_i32_1095_r0 v1892_r0
  v1893_r0.toNat
def k0_dev22 (d0 : Dev nD) : Nat :=
  let c0_i32_1098_r0 : BitVec 32 := 0#32
  let c8_i32_99 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c2_i32_66 : BitVec 32 := 2#32
  let v142 : BitVec 32 := Scalar.xori v71 c2_i32_66
  let c0_i32_68 : BitVec 32 := 0#32
  let v144 : BitVec 1 := Scalar.cmpi .sgt v142 c0_i32_68
  let v145 : BitVec 32 := Scalar.extui v144
  let c0_i32_69 : BitVec 32 := 0#32
  let v146 : BitVec 1 := Scalar.cmpi .slt v142 c0_i32_69
  let v147 : BitVec 32 := Scalar.extui v146
  let v148 : BitVec 32 := Scalar.subi v145 v147
  let c8_i32_67 : BitVec 32 := 8#32
  let c0_i32_70 : BitVec 32 := 0#32
  let v149 : BitVec 1 := Scalar.cmpi .sgt c8_i32_67 c0_i32_70
  let v150 : BitVec 32 := Scalar.extui v149
  let c0_i32_71 : BitVec 32 := 0#32
  let v151 : BitVec 1 := Scalar.cmpi .slt c8_i32_67 c0_i32_71
  let v152 : BitVec 32 := Scalar.extui v151
  let v153 : BitVec 32 := Scalar.subi v150 v152
  let v154 : BitVec 1 := Scalar.cmpi .ne v148 v153
  let v155 : BitVec 32 := Scalar.remsi v142 c8_i32_67
  let c0_i32_72 : BitVec 32 := 0#32
  let v156 : BitVec 1 := Scalar.cmpi .ne v155 c0_i32_72
  let v157 : BitVec 1 := Scalar.andi v154 v156
  let v143 : BitVec 32 := Scalar.divsi v142 c8_i32_67
  let c1_i32_73 : BitVec 32 := 1#32
  let v158 : BitVec 32 := Scalar.subi v143 c1_i32_73
  let v159 : BitVec 32 := Scalar.select v157 v158 v143
  let v208 : BitVec 32 := Scalar.muli c8_i32_99 v159
  let c2_i32_100 : BitVec 32 := 2#32
  let c8_i32_74 : BitVec 32 := 8#32
  let c0_i32_75 : BitVec 32 := 0#32
  let v160 : BitVec 1 := Scalar.cmpi .eq c8_i32_74 c0_i32_75
  let c1_i32_76 : BitVec 32 := 1#32
  let v161 : BitVec 32 := Scalar.select v160 c1_i32_76 c8_i32_74
  let v162 : BitVec 32 := Scalar.remsi v142 v161
  let c0_i32_78 : BitVec 32 := 0#32
  let v164 : BitVec 1 := Scalar.cmpi .slt v162 c0_i32_78
  let c0_i32_79 : BitVec 32 := 0#32
  let v165 : BitVec 1 := Scalar.cmpi .slt v161 c0_i32_79
  let v166 : BitVec 1 := Scalar.xori v164 v165
  let c0_i32_77 : BitVec 32 := 0#32
  let v163 : BitVec 1 := Scalar.cmpi .ne v162 c0_i32_77
  let v167 : BitVec 1 := Scalar.andi v166 v163
  let v168 : BitVec 32 := Scalar.addi v162 v161
  let v169 : BitVec 32 := Scalar.select v167 v168 v162
  let c0_i32_81 : BitVec 32 := 0#32
  let v171 : BitVec 1 := Scalar.cmpi .sgt v169 c0_i32_81
  let v172 : BitVec 32 := Scalar.extui v171
  let c0_i32_82 : BitVec 32 := 0#32
  let v173 : BitVec 1 := Scalar.cmpi .slt v169 c0_i32_82
  let v174 : BitVec 32 := Scalar.extui v173
  let v175 : BitVec 32 := Scalar.subi v172 v174
  let c2_i32_80 : BitVec 32 := 2#32
  let c0_i32_83 : BitVec 32 := 0#32
  let v176 : BitVec 1 := Scalar.cmpi .sgt c2_i32_80 c0_i32_83
  let v177 : BitVec 32 := Scalar.extui v176
  let c0_i32_84 : BitVec 32 := 0#32
  let v178 : BitVec 1 := Scalar.cmpi .slt c2_i32_80 c0_i32_84
  let v179 : BitVec 32 := Scalar.extui v178
  let v180 : BitVec 32 := Scalar.subi v177 v179
  let v181 : BitVec 1 := Scalar.cmpi .ne v175 v180
  let v182 : BitVec 32 := Scalar.remsi v169 c2_i32_80
  let c0_i32_85 : BitVec 32 := 0#32
  let v183 : BitVec 1 := Scalar.cmpi .ne v182 c0_i32_85
  let v184 : BitVec 1 := Scalar.andi v181 v183
  let v170 : BitVec 32 := Scalar.divsi v169 c2_i32_80
  let c1_i32_86 : BitVec 32 := 1#32
  let v185 : BitVec 32 := Scalar.subi v170 c1_i32_86
  let v186 : BitVec 32 := Scalar.select v184 v185 v170
  let v209 : BitVec 32 := Scalar.muli c2_i32_100 v186
  let v210 : BitVec 32 := Scalar.addi v208 v209
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v169 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c2_i32_93 : BitVec 32 := 2#32
  let c0_i32_94 : BitVec 32 := 0#32
  let v197 : BitVec 1 := Scalar.cmpi .eq c2_i32_93 c0_i32_94
  let c1_i32_95 : BitVec 32 := 1#32
  let v198 : BitVec 32 := Scalar.select v197 c1_i32_95 c2_i32_93
  let v199 : BitVec 32 := Scalar.remsi v186 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let v207 : BitVec 32 := Scalar.xori v196 v206
  let v211 : BitVec 32 := Scalar.addi v210 v207
  let c1_i32_1097_r0 : BitVec 32 := 1#32
  let v1894_r0 : BitVec 32 := Scalar.muli v211 c1_i32_1097_r0
  let v1895_r0 : BitVec 32 := Scalar.addi c0_i32_1098_r0 v1894_r0
  v1895_r0.toNat
def k0_dev23 (d0 : Dev nD) : Nat :=
  let c0_i32_1101_r0 : BitVec 32 := 0#32
  let c8_i32_133 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c4_i32 : BitVec 32 := 4#32
  let v212 : BitVec 32 := Scalar.xori v71 c4_i32
  let c0_i32_102 : BitVec 32 := 0#32
  let v214 : BitVec 1 := Scalar.cmpi .sgt v212 c0_i32_102
  let v215 : BitVec 32 := Scalar.extui v214
  let c0_i32_103 : BitVec 32 := 0#32
  let v216 : BitVec 1 := Scalar.cmpi .slt v212 c0_i32_103
  let v217 : BitVec 32 := Scalar.extui v216
  let v218 : BitVec 32 := Scalar.subi v215 v217
  let c8_i32_101 : BitVec 32 := 8#32
  let c0_i32_104 : BitVec 32 := 0#32
  let v219 : BitVec 1 := Scalar.cmpi .sgt c8_i32_101 c0_i32_104
  let v220 : BitVec 32 := Scalar.extui v219
  let c0_i32_105 : BitVec 32 := 0#32
  let v221 : BitVec 1 := Scalar.cmpi .slt c8_i32_101 c0_i32_105
  let v222 : BitVec 32 := Scalar.extui v221
  let v223 : BitVec 32 := Scalar.subi v220 v222
  let v224 : BitVec 1 := Scalar.cmpi .ne v218 v223
  let v225 : BitVec 32 := Scalar.remsi v212 c8_i32_101
  let c0_i32_106 : BitVec 32 := 0#32
  let v226 : BitVec 1 := Scalar.cmpi .ne v225 c0_i32_106
  let v227 : BitVec 1 := Scalar.andi v224 v226
  let v213 : BitVec 32 := Scalar.divsi v212 c8_i32_101
  let c1_i32_107 : BitVec 32 := 1#32
  let v228 : BitVec 32 := Scalar.subi v213 c1_i32_107
  let v229 : BitVec 32 := Scalar.select v227 v228 v213
  let v278 : BitVec 32 := Scalar.muli c8_i32_133 v229
  let c2_i32_134 : BitVec 32 := 2#32
  let c8_i32_108 : BitVec 32 := 8#32
  let c0_i32_109 : BitVec 32 := 0#32
  let v230 : BitVec 1 := Scalar.cmpi .eq c8_i32_108 c0_i32_109
  let c1_i32_110 : BitVec 32 := 1#32
  let v231 : BitVec 32 := Scalar.select v230 c1_i32_110 c8_i32_108
  let v232 : BitVec 32 := Scalar.remsi v212 v231
  let c0_i32_112 : BitVec 32 := 0#32
  let v234 : BitVec 1 := Scalar.cmpi .slt v232 c0_i32_112
  let c0_i32_113 : BitVec 32 := 0#32
  let v235 : BitVec 1 := Scalar.cmpi .slt v231 c0_i32_113
  let v236 : BitVec 1 := Scalar.xori v234 v235
  let c0_i32_111 : BitVec 32 := 0#32
  let v233 : BitVec 1 := Scalar.cmpi .ne v232 c0_i32_111
  let v237 : BitVec 1 := Scalar.andi v236 v233
  let v238 : BitVec 32 := Scalar.addi v232 v231
  let v239 : BitVec 32 := Scalar.select v237 v238 v232
  let c0_i32_115 : BitVec 32 := 0#32
  let v241 : BitVec 1 := Scalar.cmpi .sgt v239 c0_i32_115
  let v242 : BitVec 32 := Scalar.extui v241
  let c0_i32_116 : BitVec 32 := 0#32
  let v243 : BitVec 1 := Scalar.cmpi .slt v239 c0_i32_116
  let v244 : BitVec 32 := Scalar.extui v243
  let v245 : BitVec 32 := Scalar.subi v242 v244
  let c2_i32_114 : BitVec 32 := 2#32
  let c0_i32_117 : BitVec 32 := 0#32
  let v246 : BitVec 1 := Scalar.cmpi .sgt c2_i32_114 c0_i32_117
  let v247 : BitVec 32 := Scalar.extui v246
  let c0_i32_118 : BitVec 32 := 0#32
  let v248 : BitVec 1 := Scalar.cmpi .slt c2_i32_114 c0_i32_118
  let v249 : BitVec 32 := Scalar.extui v248
  let v250 : BitVec 32 := Scalar.subi v247 v249
  let v251 : BitVec 1 := Scalar.cmpi .ne v245 v250
  let v252 : BitVec 32 := Scalar.remsi v239 c2_i32_114
  let c0_i32_119 : BitVec 32 := 0#32
  let v253 : BitVec 1 := Scalar.cmpi .ne v252 c0_i32_119
  let v254 : BitVec 1 := Scalar.andi v251 v253
  let v240 : BitVec 32 := Scalar.divsi v239 c2_i32_114
  let c1_i32_120 : BitVec 32 := 1#32
  let v255 : BitVec 32 := Scalar.subi v240 c1_i32_120
  let v256 : BitVec 32 := Scalar.select v254 v255 v240
  let v279 : BitVec 32 := Scalar.muli c2_i32_134 v256
  let v280 : BitVec 32 := Scalar.addi v278 v279
  let c2_i32_121 : BitVec 32 := 2#32
  let c0_i32_122 : BitVec 32 := 0#32
  let v257 : BitVec 1 := Scalar.cmpi .eq c2_i32_121 c0_i32_122
  let c1_i32_123 : BitVec 32 := 1#32
  let v258 : BitVec 32 := Scalar.select v257 c1_i32_123 c2_i32_121
  let v259 : BitVec 32 := Scalar.remsi v239 v258
  let c0_i32_125 : BitVec 32 := 0#32
  let v261 : BitVec 1 := Scalar.cmpi .slt v259 c0_i32_125
  let c0_i32_126 : BitVec 32 := 0#32
  let v262 : BitVec 1 := Scalar.cmpi .slt v258 c0_i32_126
  let v263 : BitVec 1 := Scalar.xori v261 v262
  let c0_i32_124 : BitVec 32 := 0#32
  let v260 : BitVec 1 := Scalar.cmpi .ne v259 c0_i32_124
  let v264 : BitVec 1 := Scalar.andi v263 v260
  let v265 : BitVec 32 := Scalar.addi v259 v258
  let v266 : BitVec 32 := Scalar.select v264 v265 v259
  let c2_i32_127 : BitVec 32 := 2#32
  let c0_i32_128 : BitVec 32 := 0#32
  let v267 : BitVec 1 := Scalar.cmpi .eq c2_i32_127 c0_i32_128
  let c1_i32_129 : BitVec 32 := 1#32
  let v268 : BitVec 32 := Scalar.select v267 c1_i32_129 c2_i32_127
  let v269 : BitVec 32 := Scalar.remsi v256 v268
  let c0_i32_131 : BitVec 32 := 0#32
  let v271 : BitVec 1 := Scalar.cmpi .slt v269 c0_i32_131
  let c0_i32_132 : BitVec 32 := 0#32
  let v272 : BitVec 1 := Scalar.cmpi .slt v268 c0_i32_132
  let v273 : BitVec 1 := Scalar.xori v271 v272
  let c0_i32_130 : BitVec 32 := 0#32
  let v270 : BitVec 1 := Scalar.cmpi .ne v269 c0_i32_130
  let v274 : BitVec 1 := Scalar.andi v273 v270
  let v275 : BitVec 32 := Scalar.addi v269 v268
  let v276 : BitVec 32 := Scalar.select v274 v275 v269
  let v277 : BitVec 32 := Scalar.xori v266 v276
  let v281 : BitVec 32 := Scalar.addi v280 v277
  let c1_i32_1100_r0 : BitVec 32 := 1#32
  let v1896_r0 : BitVec 32 := Scalar.muli v281 c1_i32_1100_r0
  let v1897_r0 : BitVec 32 := Scalar.addi c0_i32_1101_r0 v1896_r0
  v1897_r0.toNat
def k0_dev24 (d0 : Dev nD) : Nat :=
  let c0_i32_1104_r0 : BitVec 32 := 0#32
  let c8_i32_168 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c8_i32_135 : BitVec 32 := 8#32
  let v282 : BitVec 32 := Scalar.xori v71 c8_i32_135
  let c0_i32_137 : BitVec 32 := 0#32
  let v284 : BitVec 1 := Scalar.cmpi .sgt v282 c0_i32_137
  let v285 : BitVec 32 := Scalar.extui v284
  let c0_i32_138 : BitVec 32 := 0#32
  let v286 : BitVec 1 := Scalar.cmpi .slt v282 c0_i32_138
  let v287 : BitVec 32 := Scalar.extui v286
  let v288 : BitVec 32 := Scalar.subi v285 v287
  let c8_i32_136 : BitVec 32 := 8#32
  let c0_i32_139 : BitVec 32 := 0#32
  let v289 : BitVec 1 := Scalar.cmpi .sgt c8_i32_136 c0_i32_139
  let v290 : BitVec 32 := Scalar.extui v289
  let c0_i32_140 : BitVec 32 := 0#32
  let v291 : BitVec 1 := Scalar.cmpi .slt c8_i32_136 c0_i32_140
  let v292 : BitVec 32 := Scalar.extui v291
  let v293 : BitVec 32 := Scalar.subi v290 v292
  let v294 : BitVec 1 := Scalar.cmpi .ne v288 v293
  let v295 : BitVec 32 := Scalar.remsi v282 c8_i32_136
  let c0_i32_141 : BitVec 32 := 0#32
  let v296 : BitVec 1 := Scalar.cmpi .ne v295 c0_i32_141
  let v297 : BitVec 1 := Scalar.andi v294 v296
  let v283 : BitVec 32 := Scalar.divsi v282 c8_i32_136
  let c1_i32_142 : BitVec 32 := 1#32
  let v298 : BitVec 32 := Scalar.subi v283 c1_i32_142
  let v299 : BitVec 32 := Scalar.select v297 v298 v283
  let v348 : BitVec 32 := Scalar.muli c8_i32_168 v299
  let c2_i32_169 : BitVec 32 := 2#32
  let c8_i32_143 : BitVec 32 := 8#32
  let c0_i32_144 : BitVec 32 := 0#32
  let v300 : BitVec 1 := Scalar.cmpi .eq c8_i32_143 c0_i32_144
  let c1_i32_145 : BitVec 32 := 1#32
  let v301 : BitVec 32 := Scalar.select v300 c1_i32_145 c8_i32_143
  let v302 : BitVec 32 := Scalar.remsi v282 v301
  let c0_i32_147 : BitVec 32 := 0#32
  let v304 : BitVec 1 := Scalar.cmpi .slt v302 c0_i32_147
  let c0_i32_148 : BitVec 32 := 0#32
  let v305 : BitVec 1 := Scalar.cmpi .slt v301 c0_i32_148
  let v306 : BitVec 1 := Scalar.xori v304 v305
  let c0_i32_146 : BitVec 32 := 0#32
  let v303 : BitVec 1 := Scalar.cmpi .ne v302 c0_i32_146
  let v307 : BitVec 1 := Scalar.andi v306 v303
  let v308 : BitVec 32 := Scalar.addi v302 v301
  let v309 : BitVec 32 := Scalar.select v307 v308 v302
  let c0_i32_150 : BitVec 32 := 0#32
  let v311 : BitVec 1 := Scalar.cmpi .sgt v309 c0_i32_150
  let v312 : BitVec 32 := Scalar.extui v311
  let c0_i32_151 : BitVec 32 := 0#32
  let v313 : BitVec 1 := Scalar.cmpi .slt v309 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v309 c2_i32_149
  let c0_i32_154 : BitVec 32 := 0#32
  let v323 : BitVec 1 := Scalar.cmpi .ne v322 c0_i32_154
  let v324 : BitVec 1 := Scalar.andi v321 v323
  let v310 : BitVec 32 := Scalar.divsi v309 c2_i32_149
  let c1_i32_155 : BitVec 32 := 1#32
  let v325 : BitVec 32 := Scalar.subi v310 c1_i32_155
  let v326 : BitVec 32 := Scalar.select v324 v325 v310
  let v349 : BitVec 32 := Scalar.muli c2_i32_169 v326
  let v350 : BitVec 32 := Scalar.addi v348 v349
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v309 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let c2_i32_162 : BitVec 32 := 2#32
  let c0_i32_163 : BitVec 32 := 0#32
  let v337 : BitVec 1 := Scalar.cmpi .eq c2_i32_162 c0_i32_163
  let c1_i32_164 : BitVec 32 := 1#32
  let v338 : BitVec 32 := Scalar.select v337 c1_i32_164 c2_i32_162
  let v339 : BitVec 32 := Scalar.remsi v326 v338
  let c0_i32_166 : BitVec 32 := 0#32
  let v341 : BitVec 1 := Scalar.cmpi .slt v339 c0_i32_166
  let c0_i32_167 : BitVec 32 := 0#32
  let v342 : BitVec 1 := Scalar.cmpi .slt v338 c0_i32_167
  let v343 : BitVec 1 := Scalar.xori v341 v342
  let c0_i32_165 : BitVec 32 := 0#32
  let v340 : BitVec 1 := Scalar.cmpi .ne v339 c0_i32_165
  let v344 : BitVec 1 := Scalar.andi v343 v340
  let v345 : BitVec 32 := Scalar.addi v339 v338
  let v346 : BitVec 32 := Scalar.select v344 v345 v339
  let v347 : BitVec 32 := Scalar.xori v336 v346
  let v351 : BitVec 32 := Scalar.addi v350 v347
  let c1_i32_1103_r0 : BitVec 32 := 1#32
  let v1898_r0 : BitVec 32 := Scalar.muli v351 c1_i32_1103_r0
  let v1899_r0 : BitVec 32 := Scalar.addi c0_i32_1104_r0 v1898_r0
  v1899_r0.toNat
def k0_dev25 (d0 : Dev nD) : Nat :=
  let c0_i32_1107_r0 : BitVec 32 := 0#32
  let c8_i32_202 : BitVec 32 := 8#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v69 : BitVec 32 := Scalar.muli c2_i32_30 v46
  let v70 : BitVec 32 := Scalar.addi v68 v69
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v71 : BitVec 32 := Scalar.addi v70 v67
  let c16_i32 : BitVec 32 := 16#32
  let v352 : BitVec 32 := Scalar.xori v71 c16_i32
  let c0_i32_171 : BitVec 32 := 0#32
  let v354 : BitVec 1 := Scalar.cmpi .sgt v352 c0_i32_171
  let v355 : BitVec 32 := Scalar.extui v354
  let c0_i32_172 : BitVec 32 := 0#32
  let v356 : BitVec 1 := Scalar.cmpi .slt v352 c0_i32_172
  let v357 : BitVec 32 := Scalar.extui v356
  let v358 : BitVec 32 := Scalar.subi v355 v357
  let c8_i32_170 : BitVec 32 := 8#32
  let c0_i32_173 : BitVec 32 := 0#32
  let v359 : BitVec 1 := Scalar.cmpi .sgt c8_i32_170 c0_i32_173
  let v360 : BitVec 32 := Scalar.extui v359
  let c0_i32_174 : BitVec 32 := 0#32
  let v361 : BitVec 1 := Scalar.cmpi .slt c8_i32_170 c0_i32_174
  let v362 : BitVec 32 := Scalar.extui v361
  let v363 : BitVec 32 := Scalar.subi v360 v362
  let v364 : BitVec 1 := Scalar.cmpi .ne v358 v363
  let v365 : BitVec 32 := Scalar.remsi v352 c8_i32_170
  let c0_i32_175 : BitVec 32 := 0#32
  let v366 : BitVec 1 := Scalar.cmpi .ne v365 c0_i32_175
  let v367 : BitVec 1 := Scalar.andi v364 v366
  let v353 : BitVec 32 := Scalar.divsi v352 c8_i32_170
  let c1_i32_176 : BitVec 32 := 1#32
  let v368 : BitVec 32 := Scalar.subi v353 c1_i32_176
  let v369 : BitVec 32 := Scalar.select v367 v368 v353
  let v418 : BitVec 32 := Scalar.muli c8_i32_202 v369
  let c2_i32_203 : BitVec 32 := 2#32
  let c8_i32_177 : BitVec 32 := 8#32
  let c0_i32_178 : BitVec 32 := 0#32
  let v370 : BitVec 1 := Scalar.cmpi .eq c8_i32_177 c0_i32_178
  let c1_i32_179 : BitVec 32 := 1#32
  let v371 : BitVec 32 := Scalar.select v370 c1_i32_179 c8_i32_177
  let v372 : BitVec 32 := Scalar.remsi v352 v371
  let c0_i32_181 : BitVec 32 := 0#32
  let v374 : BitVec 1 := Scalar.cmpi .slt v372 c0_i32_181
  let c0_i32_182 : BitVec 32 := 0#32
  let v375 : BitVec 1 := Scalar.cmpi .slt v371 c0_i32_182
  let v376 : BitVec 1 := Scalar.xori v374 v375
  let c0_i32_180 : BitVec 32 := 0#32
  let v373 : BitVec 1 := Scalar.cmpi .ne v372 c0_i32_180
  let v377 : BitVec 1 := Scalar.andi v376 v373
  let v378 : BitVec 32 := Scalar.addi v372 v371
  let v379 : BitVec 32 := Scalar.select v377 v378 v372
  let c0_i32_184 : BitVec 32 := 0#32
  let v381 : BitVec 1 := Scalar.cmpi .sgt v379 c0_i32_184
  let v382 : BitVec 32 := Scalar.extui v381
  let c0_i32_185 : BitVec 32 := 0#32
  let v383 : BitVec 1 := Scalar.cmpi .slt v379 c0_i32_185
  let v384 : BitVec 32 := Scalar.extui v383
  let v385 : BitVec 32 := Scalar.subi v382 v384
  let c2_i32_183 : BitVec 32 := 2#32
  let c0_i32_186 : BitVec 32 := 0#32
  let v386 : BitVec 1 := Scalar.cmpi .sgt c2_i32_183 c0_i32_186
  let v387 : BitVec 32 := Scalar.extui v386
  let c0_i32_187 : BitVec 32 := 0#32
  let v388 : BitVec 1 := Scalar.cmpi .slt c2_i32_183 c0_i32_187
  let v389 : BitVec 32 := Scalar.extui v388
  let v390 : BitVec 32 := Scalar.subi v387 v389
  let v391 : BitVec 1 := Scalar.cmpi .ne v385 v390
  let v392 : BitVec 32 := Scalar.remsi v379 c2_i32_183
  let c0_i32_188 : BitVec 32 := 0#32
  let v393 : BitVec 1 := Scalar.cmpi .ne v392 c0_i32_188
  let v394 : BitVec 1 := Scalar.andi v391 v393
  let v380 : BitVec 32 := Scalar.divsi v379 c2_i32_183
  let c1_i32_189 : BitVec 32 := 1#32
  let v395 : BitVec 32 := Scalar.subi v380 c1_i32_189
  let v396 : BitVec 32 := Scalar.select v394 v395 v380
  let v419 : BitVec 32 := Scalar.muli c2_i32_203 v396
  let v420 : BitVec 32 := Scalar.addi v418 v419
  let c2_i32_190 : BitVec 32 := 2#32
  let c0_i32_191 : BitVec 32 := 0#32
  let v397 : BitVec 1 := Scalar.cmpi .eq c2_i32_190 c0_i32_191
  let c1_i32_192 : BitVec 32 := 1#32
  let v398 : BitVec 32 := Scalar.select v397 c1_i32_192 c2_i32_190
  let v399 : BitVec 32 := Scalar.remsi v379 v398
  let c0_i32_194 : BitVec 32 := 0#32
  let v401 : BitVec 1 := Scalar.cmpi .slt v399 c0_i32_194
  let c0_i32_195 : BitVec 32 := 0#32
  let v402 : BitVec 1 := Scalar.cmpi .slt v398 c0_i32_195
  let v403 : BitVec 1 := Scalar.xori v401 v402
  let c0_i32_193 : BitVec 32 := 0#32
  let v400 : BitVec 1 := Scalar.cmpi .ne v399 c0_i32_193
  let v404 : BitVec 1 := Scalar.andi v403 v400
  let v405 : BitVec 32 := Scalar.addi v399 v398
  let v406 : BitVec 32 := Scalar.select v404 v405 v399
  let c2_i32_196 : BitVec 32 := 2#32
  let c0_i32_197 : BitVec 32 := 0#32
  let v407 : BitVec 1 := Scalar.cmpi .eq c2_i32_196 c0_i32_197
  let c1_i32_198 : BitVec 32 := 1#32
  let v408 : BitVec 32 := Scalar.select v407 c1_i32_198 c2_i32_196
  let v409 : BitVec 32 := Scalar.remsi v396 v408
  let c0_i32_200 : BitVec 32 := 0#32
  let v411 : BitVec 1 := Scalar.cmpi .slt v409 c0_i32_200
  let c0_i32_201 : BitVec 32 := 0#32
  let v412 : BitVec 1 := Scalar.cmpi .slt v408 c0_i32_201
  let v413 : BitVec 1 := Scalar.xori v411 v412
  let c0_i32_199 : BitVec 32 := 0#32
  let v410 : BitVec 1 := Scalar.cmpi .ne v409 c0_i32_199
  let v414 : BitVec 1 := Scalar.andi v413 v410
  let v415 : BitVec 32 := Scalar.addi v409 v408
  let v416 : BitVec 32 := Scalar.select v414 v415 v409
  let v417 : BitVec 32 := Scalar.xori v406 v416
  let v421 : BitVec 32 := Scalar.addi v420 v417
  let c1_i32_1106_r0 : BitVec 32 := 1#32
  let v1900_r0 : BitVec 32 := Scalar.muli v421 c1_i32_1106_r0
  let v1901_r0 : BitVec 32 := Scalar.addi c0_i32_1107_r0 v1900_r0
  v1901_r0.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x512 : Shape := ⟨2, ![16384, 512]⟩
abbrev S16384x2048 : Shape := ⟨2, ![16384, 2048]⟩
abbrev S512x16384 : Shape := ⟨2, ![512, 16384]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2048, .f32⟩
  | .hbm, ⟨2, _⟩ => ⟨S512x16384, .f32⟩
  | .hbm, ⟨3, _⟩ => ⟨S512x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Held.lean ====
/-
  Part of a buffer held at stated values. `held c m S X`: device `c` holds, outright, the elements of the memref `m` at the
  indices `S`, and they read `X` there. The lemmas cut such a holding in two, join two, and take it through a load and a
  store. The index sets that the kernel's transfers use are ranges of rows (`rowsOf`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.ViewIndex
public import Idealize.ShloMosaic.Lib.Tactic

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's ghost state: a cell's duties are numbered by `Fin 5`. -/
abbrev UB : Type := URounds (GSem nD τ sig) (Fin 5)
/-- The staging pipeline's ghost state beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Holdings -/

section Held

variable (c : Dev nD) {sh : Shape} {e : EltTy} (m : Memref sig .tc .vmem sh e)

/-- Device `c` holds the elements of `m` at the indices `S`, which read `X` there. -/
def held (S : Finset sh.Idx) (X : sh.Idx → Elt F e) : sProp 𝕄 :=
  iprop(∃ f : Buf (Elt F) (m.view.loc (c : Thread nD τ)), ⌜∀ i ∈ S, m.view.read (Elt F) f i = X i⌝
    ∗ (m.view.loc (c : Thread nD τ) ↦[m.view.setOn S]{fullShare} f))

/-- The same at values not stated. -/
def heldAny (S : Finset sh.Idx) : sProp 𝕄 := iprop(∃ X : sh.Idx → Elt F e, held c m S X)

omit [FloatOps F] in
instance held_storable (S : Finset sh.Idx) (X : sh.Idx → Elt F e) : BI.Storable (upEmb : UEmb _ 𝕄) (held (F := F) c m S X) := by
  unfold held; infer_instance

omit [FloatOps F] in
instance heldAny_storable (S : Finset sh.Idx) : BI.Storable (upEmb : UEmb _ 𝕄) (heldAny (F := F) c m S) := by
  unfold heldAny; infer_instance

omit [FloatOps F] in
theorem held_any (S : Finset sh.Idx) (X : sh.Idx → Elt F e) : (held c m S X : sProp 𝕄) ⊢ heldAny c m S := by
  unfold heldAny; iintro H; iexists X; iexact H

omit [FloatOps F] in
/-- Only the values on the indices held matter. -/
theorem held_congr {S : Finset sh.Idx} {X Y : sh.Idx → Elt F e} (h : ∀ i ∈ S, X i = Y i) :
    (held c m S X : sProp 𝕄) ⊢ held c m S Y := by
  unfold held
  iintro ⟨%f, %hf, H⟩
  iexists f
  isplitr
  · ipureintro; exact fun i hi => (hf i hi).trans (h i hi)
  iexact H

omit [FloatOps F] in
/-- A holding cut along two index sets with no index in common. -/
theorem held_cut {A B S : Finset sh.Idx} (hS : S = A ∪ B) (hd : Disjoint A B) (X : sh.Idx → Elt F e) :
    (held c m S X : sProp 𝕄) ⊢ iprop(held c m A X ∗ held c m B X) := by
  subst hS
  unfold held
  iintro ⟨%f, %hf, H⟩
  have hset : m.view.setOn (A ∪ B) = m.view.setOn A ∪ m.view.setOn B := Finset.map_union _ _
  have hdis : Disjoint (m.view.setOn A) (m.view.setOn B) := (Finset.disjoint_map _).mpr hd
  rw [hset]
  ihave H' := (pointsTo_union hdis).1 $$ H
  icases H' with ⟨HA, HB⟩
  isplitl [HA]
  · iexists f
    isplitr
    · ipureintro; exact fun i hi => hf i (Finset.mem_union_left _ hi)
    iexact HA
  · iexists f
    isplitr
    · ipureintro; exact fun i hi => hf i (Finset.mem_union_right _ hi)
    iexact HB

omit [FloatOps F] in
/-- Two holdings of one memref with no index in common, joined. -/
theorem held_join {A B S : Finset sh.Idx} (hS : S = A ∪ B) (hd : Disjoint A B) (X Y Z : sh.Idx → Elt F e)
    (hX : ∀ i ∈ A, X i = Z i) (hY : ∀ i ∈ B, Y i = Z i) :
    (iprop(held c m A X ∗ held c m B Y) : sProp 𝕄) ⊢ held c m S Z := by
  subst hS
  unfold held
  iintro ⟨⟨%f, %hf, HA⟩, ⟨%g, %hg, HB⟩⟩
  have hset : m.view.setOn (A ∪ B) = m.view.setOn A ∪ m.view.setOn B := Finset.map_union _ _
  have hdis : Disjoint (m.view.setOn A) (m.view.setOn B) := (Finset.disjoint_map _).mpr hd
  iexists (m.view.setOn B).piecewise g f
  isplitr
  · ipureintro
    intro i hi
    rcases Finset.mem_union.mp hi with hi | hi
    · rw [View.read_apply, Finset.piecewise_eq_of_notMem _ _ _ (fun h => Finset.disjoint_left.mp hd hi (m.view.mem_setOn.mp h)),
        ← View.read_apply, hf i hi, hX i hi]
    · rw [View.read_apply, Finset.piecewise_eq_of_mem _ _ _ (m.view.mem_setOn.mpr hi), ← View.read_apply, hg i hi, hY i hi]
  · rw [hset]
    iapply (pointsTo_join hdis)
    isplitl [HA] <;> iassumption

omit [FloatOps F] in
/-- The same at values not stated. -/
theorem heldAny_join {A B S : Finset sh.Idx} (hS : S = A ∪ B) (hd : Disjoint A B) :
    (iprop(heldAny c m A ∗ heldAny c m B) : sProp 𝕄) ⊢ heldAny c m S := by
  classical
  unfold heldAny
  iintro ⟨⟨%X, HA⟩, ⟨%Y, HB⟩⟩
  iexists A.piecewise X Y
  iapply (held_join c m hS hd X Y (A.piecewise X Y) (fun i hi => (Finset.piecewise_eq_of_mem _ _ _ hi).symm)
    (fun i hi => (Finset.piecewise_eq_of_notMem _ _ _ (fun h => Finset.disjoint_left.mp hd h hi)).symm))
  isplitl [HA] <;> iassumption

variable {α : Type} {Q : α → sProp (MT nD τ sig Unit (Elt F) ℕ UU ℕ)}

/-- A load of a rectangle whose elements are held. -/
theorem held_load {S : Finset sh.Idx} {X : sh.Idx → Elt F e} (r : Rect sh) (hS : r.set ⊆ S)
    {hl : m.view.LoadsAt r.toLoadRect} {k : (r.shape.Idx → Elt F e) → Prog (TpuEff nD τ sig (Elt F) Λ₀ .tc) α} :
    (held c m S X : sProp 𝕄)
      ⊢ iprop((held c m S X -∗ wp frame (wpE (defs₀ (F := F)) Variants.none (c : Thread nD τ) none) Set.univ (k fun j => X (r.emb j)) Q)
        -∗ wp frame (wpE (defs₀ (F := F)) Variants.none (c : Thread nD τ) none) Set.univ (.op (.load m r.toLoadRect hl) k) Q) := by
  unfold held
  iintro ⟨%f, %hf, H⟩ Hk
  have hsub : m.view.setOn r.set ⊆ m.view.setOn S := Finset.map_subset_map.mpr hS
  have hv : m.view.readAt (Elt F) r.toLoadRect f = fun j => X (r.emb j) := by
    funext j
    exact hf _ (hS (by rw [← Rect.map_emb_univ]; exact Finset.mem_map_of_mem _ (Finset.mem_univ j)))
  iapply (wp_load Variants.none (c : Thread nD τ) none Set.univ (m := m) hsub) $$ H
  iintro H
  rw [hv]
  iapply Hk
  iexists f
  isplitr
  · ipureintro; exact hf
  iexact H

/-- A store over a rectangle whose elements are held: they read what was stored. -/
theorem held_store {S : Finset sh.Idx} {X : sh.Idx → Elt F e} (r : Rect sh) (hS : r.set ⊆ S) (w : r.shape.Idx → Elt F e)
    {hx : (m.access r).Stores Finset.univ} {hm : (Finset.univ : Finset r.shape.Idx) = Finset.univ ∨ ∀ a, r.stride a = 1}
    {k : PUnit → Prog (TpuEff nD τ sig (Elt F) Λ₀ .tc) α} :
    (held c m S X : sProp 𝕄)
      ⊢ iprop((held c m S (r.overlay X w) -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold held
  iintro ⟨%f, %hf, H⟩ Hk
  have hsub : (m.access r).setOn Finset.univ ⊆ m.view.setOn S := by
    rw [View.setOn_univ]
    show (m.view.slice r).set ⊆ _
    rw [View.set_slice]
    exact Finset.map_subset_map.mpr hS
  iapply (wp_store Variants.none (c : Thread nD τ) none Set.univ (m := m) (r := r) (Mk := Finset.univ) hsub) $$ H
  iintro H
  iapply Hk
  iexists _
  isplitr
  rotate_left
  · iexact H
  · ipureintro
    intro i hi
    by_cases hr : i ∈ r.set
    · obtain ⟨j, rfl⟩ := r.exists_idx_of_mem hr
      change m.view.read (Elt F) _ (r.emb j) = r.overlay X w (r.emb j)
      rw [Rect.overlay_emb]
      exact View.read_write_of_mem (v := m.view.slice r) f w (Finset.mem_univ j)
    · rw [Rect.overlay_of_not_mem _ _ _ hr, ← hf i hi, View.read_apply, View.read_apply]
      congr 1
      refine View.write_of_not_mem (v := m.view.slice r) f w Finset.univ ?_
      rw [View.setOn_univ, View.set_slice]
      intro h
      exact hr ((Finset.mem_map' m.view.emb).mp h)

end Held

/-! ## Ranges of rows -/

/-- The indices of a two-axis shape whose row is at least `lo` and below `hi`. -/
def rowsOf {R W : ℕ} (lo hi : ℕ) : Finset (⟨2, ![R, W]⟩ : Shape).Idx :=
  Finset.univ.filter fun i => lo ≤ (i 0).val ∧ (i 0).val < hi

theorem mem_rowsOf {R W lo hi : ℕ} {i : (⟨2, ![R, W]⟩ : Shape).Idx} : i ∈ rowsOf lo hi ↔ lo ≤ (i 0).val ∧ (i 0).val < hi := by
  unfold rowsOf; rw [Finset.mem_filter]; exact ⟨fun h => h.2, fun h => ⟨Finset.mem_univ _, h⟩⟩

/-- A rectangle of whole rows. -/
abbrev rowRect {R W : ℕ} (lo n : ℕ) (inb : ∀ a : Fin 2, (![lo, 0] : Fin 2 → ℕ) a + (⟨2, ![n, W]⟩ : Shape).size a ≤ (⟨2, ![R, W]⟩ : Shape).size a) :
    Rect ⟨2, ![R, W]⟩ := Rect.unit (s := ⟨2, ![R, W]⟩) ![lo, 0] (⟨2, ![n, W]⟩ : Shape).size inb

theorem rowRect_set {R W lo n : ℕ} (inb) : (rowRect (R := R) (W := W) lo n inb).set = rowsOf lo (lo + n) := by
  ext i
  rw [Rect.mem_set_unit, mem_rowsOf]
  constructor
  · intro h; exact h 0
  · intro h a
    match a with
    | ⟨0, _⟩ => exact h
    | ⟨1, _⟩ => exact ⟨Nat.zero_le _, by simpa using (i 1).isLt⟩

theorem rowRect_emb_row {R W lo n : ℕ} (inb) (j : (⟨2, ![n, W]⟩ : Shape).Idx) :
    (((rowRect (R := R) (W := W) lo n inb).emb j) 0).val = lo + (j 0).val := by
  show lo + 1 * (j 0).val = _
  rw [Nat.one_mul]

theorem rowRect_emb_col {R W lo n : ℕ} (inb) (j : (⟨2, ![n, W]⟩ : Shape).Idx) :
    (((rowRect (R := R) (W := W) lo n inb).emb j) 1).val = (j 1).val := by
  show 0 + 1 * (j 1).val = _
  rw [Nat.one_mul, Nat.zero_add]

theorem rowsOf_union {R W lo mid hi : ℕ} (h₁ : lo ≤ mid) (h₂ : mid ≤ hi) :
    (rowsOf lo hi : Finset (⟨2, ![R, W]⟩ : Shape).Idx) = rowsOf lo mid ∪ rowsOf mid hi := by
  ext i; rw [Finset.mem_union, mem_rowsOf, mem_rowsOf, mem_rowsOf]; omega

theorem rowsOf_disjoint {R W lo mid hi : ℕ} :
    Disjoint (rowsOf lo mid : Finset (⟨2, ![R, W]⟩ : Shape).Idx) (rowsOf mid hi) :=
  Finset.disjoint_left.mpr fun i h h' => by rw [mem_rowsOf] at h h'; omega

theorem rowsOf_univ {R W : ℕ} : (rowsOf 0 R : Finset (⟨2, ![R, W]⟩ : Shape).Idx) = Finset.univ := by
  ext i; rw [mem_rowsOf]; exact ⟨fun _ => Finset.mem_univ _, fun _ => ⟨Nat.zero_le _, (i 0).isLt⟩⟩

/-- Two indices of a two-axis shape are equal if their coordinates are. -/
theorem idx2_eq {R W : ℕ} {i j : (⟨2, ![R, W]⟩ : Shape).Idx} (h₀ : (i 0).val = (j 0).val) (h₁ : (i 1).val = (j 1).val) : i = j :=
  funext fun a => by
    match a with
    | ⟨0, _⟩ => exact Fin.ext h₀
    | ⟨1, _⟩ => exact Fin.ext h₁

end Cert.Halving

end
-- ==== Proof.Net.lean ====
/-
  The exchange between the devices, as data: who is whose partner at each stage, the semaphores and what each is for, the
  buffers, the values every stage holds, the schedule of the handovers, the order in which a device pays what it owes, and
  the levels that show no wait can block for ever.

  The 512 rows of a device's product are halved five times. At stage `j` stripe `s` of device `c` sends the upper half of
  its remaining rows to the partner `pa s j c`, receives as many rows from it, and adds them to its lower half.
-/
module

public import proofs.«01_k».proof.Proof.Held

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Partners -/

/-- The bits that the five partners differ in. -/
abbrev bits : Fin 5 → ℕ := ![1, 3, 4, 8, 16]

/-- Device `c`'s partner number `b`. -/
def pt (b : Fin 5) (c : Dev nD) : Dev nD := Fin.ofNat 32 (c.val ^^^ bits b)

theorem pt_pt (b : Fin 5) (c : Dev nD) : pt b (pt b c) = c := by revert b c; decide +kernel

/-- A device and its partner change places. -/
def swap (b : Fin 5) : Dev nD ≃ Dev nD := ⟨pt b, pt b, pt_pt b, pt_pt b⟩

/-- Stripe `s` meets its partners in this order, -/
abbrev ord : Fin 3 → Fin 5 → Fin 5 := ![![1, 3, 0, 2, 4], ![3, 0, 1, 4, 2], ![0, 1, 3, 4, 2]]
/-- so partner `b` is met at this stage. -/
abbrev ordInv : Fin 3 → Fin 5 → Fin 5 := ![![2, 0, 3, 1, 4], ![1, 2, 4, 0, 3], ![0, 1, 4, 2, 3]]

theorem ordInv_ord (s : Fin 3) (j : Fin 5) : ordInv s (ord s j) = j := by revert s j; decide
theorem ord_ordInv (s : Fin 3) (b : Fin 5) : ord s (ordInv s b) = b := by revert s b; decide

/-- The device that stripe `s` of device `c` exchanges with at stage `j`. -/
abbrev pa (s : Fin 3) (j : Fin 5) (c : Dev nD) : Dev nD := pt (ord s j) c

/-! ## Shapes and buffers -/

/-- The columns of a stripe. -/
abbrev wd : Fin 3 → ℕ
  | ⟨0, _⟩ => 768
  | ⟨_ + 1, _⟩ => 640
/-- The rows exchanged at a stage. -/
abbrev rows : Fin 5 → ℕ
  | ⟨0, _⟩ => 256
  | ⟨1, _⟩ => 128
  | ⟨2, _⟩ => 64
  | ⟨3, _⟩ => 32
  | ⟨_ + 4, _⟩ => 16

/-- The partial sums of a stripe. -/
abbrev wb : (s : Fin 3) → Memref sig .tc .vmem ⟨2, ![512, wd s]⟩ .f32
  | ⟨0, _⟩ => Memref.whole cc0_scratch0
  | ⟨1, _⟩ => Memref.whole cc0_scratch1
  | ⟨2, _⟩ => Memref.whole cc0_scratch2
/-- Where the partner's rows land at a stage. -/
abbrev rb : (s : Fin 3) → (j : Fin 5) → Memref sig .tc .vmem ⟨2, ![rows j, wd s]⟩ .f32
  | ⟨0, _⟩, ⟨0, _⟩ => Memref.whole cc0_scratch4
  | ⟨0, _⟩, ⟨1, _⟩ => Memref.whole cc0_scratch5
  | ⟨0, _⟩, ⟨2, _⟩ => Memref.whole cc0_scratch6
  | ⟨0, _⟩, ⟨3, _⟩ => Memref.whole cc0_scratch7
  | ⟨0, _⟩, ⟨4, _⟩ => Memref.whole cc0_scratch8
  | ⟨1, _⟩, ⟨0, _⟩ => Memref.whole cc0_scratch9
  | ⟨1, _⟩, ⟨1, _⟩ => Memref.whole cc0_scratch10
  | ⟨1, _⟩, ⟨2, _⟩ => Memref.whole cc0_scratch11
  | ⟨1, _⟩, ⟨3, _⟩ => Memref.whole cc0_scratch12
  | ⟨1, _⟩, ⟨4, _⟩ => Memref.whole cc0_scratch13
  | ⟨2, _⟩, ⟨0, _⟩ => Memref.whole cc0_scratch14
  | ⟨2, _⟩, ⟨1, _⟩ => Memref.whole cc0_scratch15
  | ⟨2, _⟩, ⟨2, _⟩ => Memref.whole cc0_scratch16
  | ⟨2, _⟩, ⟨3, _⟩ => Memref.whole cc0_scratch17
  | ⟨2, _⟩, ⟨4, _⟩ => Memref.whole cc0_scratch18

/-! ## The values of every stage -/

/-- The index `n` rows further down, in a stripe's partial sums. -/
def down {R W : ℕ} (n : ℕ) (i : (⟨2, ![R, W]⟩ : Shape).Idx) : (⟨2, ![512, W]⟩ : Shape).Idx
  | ⟨0, _⟩ => (Fin.ofNat 512 ((i 0).val + n) : Fin 512)
  | ⟨1, _⟩ => (⟨(i 1).val, (i 1).isLt⟩ : Fin W)

theorem down_row {R W n : ℕ} (i : (⟨2, ![R, W]⟩ : Shape).Idx) (h : (i 0).val + n < 512) : ((down n i) 0).val = (i 0).val + n := by
  show ((i 0).val + n) % 512 = _
  exact Nat.mod_eq_of_lt h

theorem down_col {R W n : ℕ} (i : (⟨2, ![R, W]⟩ : Shape).Idx) : ((down n i) 1).val = (i 1).val := rfl

/-- The kernel's partial products, one for each stripe and device. -/
abbrev Parts (F : FTy → Type) : Type := (s : Fin 3) → Dev nD → (⟨2, ![512, wd s]⟩ : Shape).Idx → Elt F .f32

/-- One stage: every remaining lower row takes in the partner's row as far down as the rows exchanged. -/
def stage (s : Fin 3) (j : Fin 5) (X : Dev nD → (⟨2, ![512, wd s]⟩ : Shape).Idx → Elt F .f32) (c : Dev nD) :
    (⟨2, ![512, wd s]⟩ : Shape).Idx → Elt F .f32 :=
  fun i => if (i 0).val < rows j then FloatOps.addf (φ := .f32) (X c i) (X (pa s j c) (down (rows j) i)) else X c i

/-- The partial sums of stripe `s` before stage `j`. -/
def sums (P : Parts F) (s : Fin 3) : ℕ → Dev nD → (⟨2, ![512, wd s]⟩ : Shape).Idx → Elt F .f32
  | 0 => P s
  | j + 1 => stage s (Fin.ofNat 5 j) (sums P s j)

/-- What lands at device `c` at stage `j`: the upper half of its partner's remaining rows. -/
def landed (P : Parts F) (s : Fin 3) (j : Fin 5) (c : Dev nD) : (⟨2, ![rows j, wd s]⟩ : Shape).Idx → Elt F .f32 :=
  fun i => sums P s j.val (pa s j c) (down (rows j) i)

/-! ## The semaphores -/

/-- What a device's semaphores are for: the handshake at entry, the one at exit, and for every stripe and stage one that
    says that the rows sent have left and one that says that the partner's have landed. -/
inductive Site : Type
  | bar | ext
  | send (s : Fin 3) (j : Fin 5)
  | recv (s : Fin 3) (j : Fin 5)
deriving DecidableEq

/-- A use is one of the two handshakes, or a direction with a stripe and a stage. -/
def siteEquiv : Bool ⊕ Bool × Fin 3 × Fin 5 ≃ Site where
  toFun
    | .inl false => .bar
    | .inl true => .ext
    | .inr (false, s, j) => .send s j
    | .inr (true, s, j) => .recv s j
  invFun
    | .bar => .inl false
    | .ext => .inl true
    | .send s j => .inr (false, s, j)
    | .recv s j => .inr (true, s, j)
  left_inv := by rintro ((_ | _) | ⟨_ | _, _, _⟩) <;> rfl
  right_inv := by rintro (_ | _ | _ | _) <;> rfl

instance : Fintype Site := Fintype.ofEquiv _ siteEquiv

abbrev sendQ (s : Fin 3) (j : Fin 5) : DmaSem sig := (Fin.ofNat 33 (3 + 5 * s.val + j.val) : Fin 33)
abbrev recvQ (s : Fin 3) (j : Fin 5) : DmaSem sig := (Fin.ofNat 33 (18 + 5 * s.val + j.val) : Fin 33)

/-- Where they lie. -/
abbrev siteLoc : Site → SemLoc sig
  | .bar => .reg (0 : Fin 2)
  | .ext => .reg (1 : Fin 2)
  | .send s j => .dma (sendQ s j)
  | .recv s j => .dma (recvQ s j)

/-- What the semaphore at a place is for. -/
def siteOf : SemLoc sig → Option Site
  | .reg q => if q.val = 0 then some .bar else some .ext
  | .dma q => if q.val < 3 then none
      else if q.val < 18 then some (.send (Fin.ofNat 3 ((q.val - 3) / 5)) (Fin.ofNat 5 ((q.val - 3) % 5)))
      else some (.recv (Fin.ofNat 3 ((q.val - 18) / 5)) (Fin.ofNat 5 ((q.val - 18) % 5)))

theorem siteOf_loc (k : Site) : siteOf (siteLoc k) = some k := by revert k; decide

theorem siteLoc_injective : Function.Injective siteLoc := fun k k' h => by
  have := congrArg siteOf h; rw [siteOf_loc, siteOf_loc] at this; exact Option.some.inj this

/-- Device `c`'s semaphore of a use. -/
abbrev cell (c : Dev nD) (k : Site) : GSem nD τ sig := ((c : Thread nD τ), siteLoc k)

theorem cell_injective : Function.Injective (fun p : Dev nD × Site => cell p.1 p.2) := by
  rintro ⟨c, k⟩ ⟨c', k'⟩ h
  have h₁ : c = c' := congrArg (fun g : GSem nD τ sig => g.1.1) h
  have h₂ : k = k' := siteLoc_injective (congrArg Prod.snd h)
  rw [h₁, h₂]

theorem cell_eq_iff {c c' : Dev nD} {k k' : Site} : cell c k = cell c' k' ↔ c = c' ∧ k = k' :=
  ⟨fun h => Prod.mk.inj (cell_injective (a₁ := (c, k)) (a₂ := (c', k')) h), fun h => by rw [h.1, h.2]⟩

/-! ## The schedule -/

/-- The credit of a stage's transfer. -/
abbrev cr (s : Fin 3) (j : Fin 5) : ℕ := (rb s j).view.dmaCredit

theorem cr_pos (s : Fin 3) (j : Fin 5) : 0 < cr s j := View.dmaCredit_pos _ (by revert s j; decide)

/-- The units of one payment. -/
def amt : Site → ℕ
  | .bar => 1
  | .ext => 1
  | .send s j => cr s j
  | .recv s j => cr s j

theorem amt_pos (k : Site) : 0 < amt k := by
  cases k <;> first | exact Nat.one_pos | exact cr_pos _ _

/-- Who pays: every partner into a handshake, one transfer into the others. -/
def payers : Site → Finset (Fin 5)
  | .bar => Finset.univ
  | .ext => Finset.univ
  | .send _ _ => {0}
  | .recv _ _ => {0}

/-- The units a wait takes. -/
def total : Site → ℕ
  | .bar => 5
  | .ext => 5
  | .send s j => cr s j
  | .recv s j => cr s j

/-- A landing buffer at any contents. -/
abbrev free (s : Fin 3) (j : Fin 5) (c : Dev nD) : sProp 𝕄 := heldAny c (rb s j) Finset.univ

/-- What a payment hands to device `c`: at entry, partner `b` gives its landing buffers of the stages at which the two meet;
    a transfer gives its source rows back where it left from and the partner's rows where it landed. -/
def pay (P : Parts F) (c : Dev nD) : Site → Fin 5 → sProp 𝕄
  | .bar, b => iprop(free 0 (ordInv 0 b) (pt b c) ∗ free 1 (ordInv 1 b) (pt b c) ∗ free 2 (ordInv 2 b) (pt b c))
  | .ext, _ => iprop(emp)
  | .send s j, _ => heldAny c (wb s) (rowsOf (rows j) (rows j + rows j))
  | .recv s j, _ => held c (rb s j) Finset.univ (landed P s j c)

instance pay_storable (P : Parts F) (c : Dev nD) (k : Site) (b : Fin 5) : BI.Storable (upEmb : UEmb _ 𝕄) (pay P c k b) := by
  cases k <;> unfold pay <;> infer_instance

/-- The schedule: every semaphore is used for one round. -/
def rd (P : Parts F) : Rounds.Schedule (GSem nD τ sig) (Fin 5) 𝕄 where
  duties g r := if r = 0 ∧ g.1.2 = .tc then (siteOf g.2).elim ∅ payers else ∅
  unitless _ := False
  amount g _ _ := (siteOf g.2).elim 1 amt
  payload g _ b := (siteOf g.2).elim iprop(emp) fun k => pay P g.1.1 k b
  amount_pos g _ _ _ := by
    cases siteOf g.2 with
    | none => exact Nat.one_pos
    | some k => exact amt_pos k

instance rd_payload_storable (P : Parts F) (g : GSem nD τ sig) (r : ℕ) (b : Fin 5) :
    BI.Storable (upEmb : UEmb _ 𝕄) ((rd P).payload g r b) := by
  show BI.Storable upEmb ((siteOf g.2).elim iprop(emp) fun k => pay P g.1.1 k b)
  cases siteOf g.2 with
  | none => show BI.Storable upEmb iprop(emp); infer_instance
  | some k => exact pay_storable P g.1.1 k b

section Tables

variable (P : Parts F) (c : Dev nD) (k : Site)

theorem duties_cell : (rd P).duties (cell c k) 0 = payers k := by
  dsimp only [rd]; rw [if_pos ⟨rfl, rfl⟩, siteOf_loc]; rfl

theorem duties_later (g : GSem nD τ sig) : ∀ r, 1 ≤ r → (rd P).duties g r = ∅ :=
  fun r hr => by dsimp only [rd]; rw [if_neg fun h => by omega]

theorem amount_cell (b : Fin 5) : (rd P).amount (cell c k) 0 b = amt k := by
  dsimp only [rd]; rw [siteOf_loc]; rfl

theorem payload_cell (b : Fin 5) : (rd P).payload (cell c k) 0 b = pay P c k b := by
  dsimp only [rd]; rw [siteOf_loc]; rfl

theorem expect_cell : (rd P).expect (cell c k) 0 = total k := by
  unfold Schedule.expect Schedule.amountOf
  rw [duties_cell, Finset.sum_congr rfl fun b _ => amount_cell P c k b, Finset.sum_const, smul_eq_mul]
  cases k with
  | bar => rfl
  | ext => rfl
  | send s j => exact Nat.one_mul _
  | recv s j => exact Nat.one_mul _

/-- A whole round's handovers. -/
theorem rest_cell : bigSep ((rd P).duties (cell c k) 0 \ ∅) (fun b => (rd P).payload (cell c k) 0 b)
    = bigSep (payers k) (fun b => pay P c k b) := by
  rw [Finset.sdiff_empty, duties_cell]; exact bigSep_congr fun b _ => payload_cell P c k b

end Tables

/-! ## What a device owes, in the order it pays -/

/-- A device's payments to its partners in program order: (the partner, what the semaphore is for). -/
def plan : List (Fin 5 × Site) :=
  [(0, .bar), (1, .bar), (2, .bar), (3, .bar), (4, .bar),
    (1, .recv 0 0), (3, .recv 1 0), (0, .recv 2 0),
    (3, .recv 0 1), (0, .recv 1 1), (1, .recv 2 1),
    (0, .recv 0 2), (1, .recv 1 2), (3, .recv 2 2),
    (2, .recv 0 3), (4, .recv 1 3), (4, .recv 2 3),
    (4, .recv 0 4), (2, .recv 1 4), (2, .recv 2 4),
    (0, .ext), (1, .ext), (2, .ext), (3, .ext), (4, .ext)]

/-- What is owed for a list of payments still to be made, the first of them the last summand. -/
def owe (c : Dev nD) : List (Fin 5 × Site) → CellTallies nD τ sig Unit
  | [] => 0
  | p :: l => owe c l + tallyAt (cell (pt p.1 c) p.2) () (amt p.2)

theorem owe_pos {c : Dev nD} {l : List (Fin 5 × Site)} {g : GSem nD τ sig} {u : Unit} (h : 0 < owe c l g u) :
    ∃ p ∈ l, g = cell (pt p.1 c) p.2 := by
  induction l with
  | nil => exact absurd h (Nat.lt_irrefl 0)
  | cons p l ih =>
    by_cases hg : g = cell (pt p.1 c) p.2
    · exact ⟨p, List.mem_cons_self, hg⟩
    · have h' : 0 < owe c l g u := by
        rw [owe, Pi.add_apply, Finsupp.add_apply, tallyAt_apply, if_neg (fun x => hg x.1)] at h; exact h
      obtain ⟨q, hq, e⟩ := ih h'
      exact ⟨q, List.mem_cons_of_mem _ hq, e⟩

/-! ## Levels -/

/-- Where credit may be owed. -/
def L (g : GSem nD τ sig) : Finset Unit := if g.1.2 = .tc then {()} else ∅

/-- The entry handshake lies below every landing, a landing below those of later stages, and all below the exit handshake. -/
def level : Site → ℕ
  | .bar => 1
  | .ext => 10
  | .send _ _ => 0
  | .recv _ j => 2 + j.val
def lv (g : GSem nD τ sig) (_ : Unit) : ℕ := (siteOf g.2).elim 0 level

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Site) : lv (cell c k) () = level k := by unfold lv; rw [siteOf_loc]; rfl

omit [FloatOps F] in
/-- A device may wait where everything that it still owes lies higher. -/
theorem mayWait_of (c : Dev nD) (sm : SemLoc sig) (n : ℕ) (l : List (Fin 5 × Site)) (hsm : lv ((c : Thread nD τ), sm) () ≤ n)
    (hl : ∀ p ∈ l, n < level p.2) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨p, -, rfl⟩ := owe_pos hg; exact Finset.mem_singleton_self _)
    (fun p hp => by rw [Finset.mem_singleton.mp hp]; exact hsm)
    (fun g u hg => by obtain ⟨p, hp, rfl⟩ := owe_pos hg; rw [lv_cell]; exact hl p hp)

end Cert.Halving

end
-- ==== Proof.Steps.lean ====
/-
  The steps of a device's run, each proved once for every stripe and stage: a payment into a handshake, a wait, a transfer to
  a partner, the addition of rows that have landed, and a whole stage made of them.
-/
module

public import proofs.«01_k».proof.Proof.Net

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of the kernel's body. -/
abbrev Body (F : FTy → Type) (α : Type) : Type 1 := Prog (TpuEff nD τ sig (Elt F) Λ₀ .tc) α

/-- What it takes to run a body on device `c` to `Q`. -/
abbrev runs (c : Dev nD) {α : Type} (p : Body F α) (Q : α → sProp 𝕄) : sProp 𝕄 :=
  wp frame (wpE (defs₀ (F := F)) Variants.none (c : Thread nD τ) none) Set.univ p Q

/-! ## What every device knows -/

variable (P : Parts F) (N : Dev nD × Site → ℕ)

/-- Every semaphore of every device follows the schedule, and has reached its one round. -/
def records : sProp 𝕄 :=
  iprop((bigSep Finset.univ fun q : Dev nD × Site => cellInv ER (rd P) (N q) (cell q.1 q.2))
    ∗ bigSep Finset.univ fun q : Dev nD × Site => reached ER (cell q.1 q.2) 0)

/-- With the levels. -/
def env : sProp 𝕄 := iprop(records P N ∗ levAts L lv)

instance records_persistent : BI.Persistent (records P N) := by unfold records; infer_instance
instance env_persistent : BI.Persistent (env P N) := by unfold env; infer_instance

theorem env_inv (c : Dev nD) (k : Site) : (env P N : sProp 𝕄) ⊢ cellInv ER (rd P) (N (c, k)) (cell c k) := by
  unfold env records
  iintro ⟨⟨H, -⟩, -⟩
  iapply (show (bigSep Finset.univ fun q : Dev nD × Site => (cellInv ER (rd P) (N q) (cell q.1 q.2) : sProp 𝕄)) ⊢ cellInv ER (rd P) (N (c, k)) (cell c k)
    from bigSep_elim (Finset.mem_univ (c, k)))
  iexact H

theorem env_reached (c : Dev nD) (k : Site) : (env P N : sProp 𝕄) ⊢ reached ER (cell c k) 0 := by
  unfold env records
  iintro ⟨⟨-, H⟩, -⟩
  iapply (show (bigSep Finset.univ fun q : Dev nD × Site => (reached ER (cell q.1 q.2) 0 : sProp 𝕄)) ⊢ reached ER (cell c k) 0
    from bigSep_elim (Finset.mem_univ (c, k)))
  iexact H

/-- A device may wait where everything that it still owes lies higher. -/
theorem env_mayWait (c : Dev nD) (k : Site) (l : List (Fin 5 × Site)) (hl : ∀ p ∈ l, level k < level p.2) :
    (env P N : sProp 𝕄) ⊢ MayWait (c : Thread nD τ) (siteLoc k) () (owe c l) := by
  unfold env
  iintro ⟨-, H⟩
  iapply (mayWait_of c (siteLoc k) (level k) l (le_of_eq (lv_cell c k)) hl)
  iexact H

/-! ## A device's own account -/

/-- What device `c` still owes, whatever it has waited for. -/
def owing (c : Dev nD) (l : List (Fin 5 × Site)) : sProp 𝕄 := iprop(∃ W, owes (c : Thread nD τ) (owe c l) W)

/-- The right to wait on a semaphore. -/
def await (c : Dev nD) (k : Site) : sProp 𝕄 := iprop(cred (tallyAt (cell c k) () (total k)) ∗ atPos ER (cell c k) 0 ∅ 0)

/-- A semaphore waited on, back at zero. -/
abbrev closed (c : Dev nD) (k : Site) : sProp 𝕄 := semVal (cell c k) 0

/-- Five things of which the first `n` are done. -/
def progress (n : ℕ) (A B : Fin 5 → sProp 𝕄) : sProp 𝕄 := bigSep Finset.univ fun i : Fin 5 => if i.val < n then B i else A i

omit [FloatOps F] in
theorem progress_start (A B : Fin 5 → sProp 𝕄) : (progress 0 A B : sProp 𝕄) = bigSep Finset.univ A :=
  bigSep_congr fun i _ => if_neg (Nat.not_lt_zero _)

omit [FloatOps F] in
theorem progress_end (A B : Fin 5 → sProp 𝕄) : (progress 5 A B : sProp 𝕄) = bigSep Finset.univ B :=
  bigSep_congr fun i _ => if_pos i.isLt

omit [FloatOps F] in
/-- The next thing, to be done. -/
theorem progress_next (A B : Fin 5 → sProp 𝕄) (n : ℕ) (i : Fin 5) (hi : i.val = n) :
    (progress n A B : sProp 𝕄) ⊢ iprop(A i ∗ (B i -∗ progress (n + 1) A B)) := by
  subst hi
  unfold progress
  rw [bigSep_univ_at _ i, bigSep_univ_at (fun i' : Fin 5 => if i'.val < i.val + 1 then B i' else A i') i,
    if_neg (Nat.lt_irrefl _), if_pos (Nat.lt_succ_self _),
    bigSep_congr (s := Finset.univ.erase i) (Φ := fun i' : Fin 5 => if i'.val < i.val then B i' else A i')
      (Ψ := fun i' : Fin 5 => if i'.val < i.val + 1 then B i' else A i') fun i' h => by
        have hne : i'.val ≠ i.val := fun e => (Finset.mem_erase.mp h).1 (Fin.ext e)
        by_cases hlt : i'.val < i.val
        · rw [if_pos hlt, if_pos (Nat.lt_succ_of_lt hlt)]
        · rw [if_neg hlt, if_neg (by omega)]]
  iintro ⟨HA, HR⟩
  isplitl [HA]; · iexact HA
  iintro HB
  isplitl [HB] <;> iassumption

/-! ## Handshakes and waits -/

section Steps

variable (c : Dev nD) {α : Type} {Q : α → sProp (MT nD τ sig Unit (Elt F) ℕ UU ℕ)} {k : PUnit → Body F α}

/-- What it takes to pay partner `b` its unit of a handshake. -/
def greet (k : Site) (b : Fin 5) : sProp 𝕄 := iprop(dutyTok ER (cell (pt b c) k) 0 b ∗ pay P (pt b c) k b)

/-- A payment into a partner's handshake semaphore. -/
theorem signal_step (h : Site) (b : Fin 5) {n : Dev nD} (hn : n = pt b c) {q : Sem sig} (hq : siteLoc h = .reg q)
    (hb : b ∈ payers h) {u : ℕ} (hu : amt h = u) (m : ℕ) (hm : b.val = m) (l : List (Fin 5 × Site)) :
    iprop(env P N ∗ owing c ((b, h) :: l) ∗ progress m (greet P c h) (fun _ => iprop(emp)))
      ⊢ iprop(((owing c l ∗ progress (m + 1) (greet P c h) (fun _ => iprop(emp))) -∗ runs c (k ⟨⟩) Q)
          -∗ runs c (.op (.semSignal (n, (c : Thread nD τ).2) q u) k) Q) := by
  subst hn
  unfold owing
  iintro ⟨#He, ⟨%W, HO⟩, Hp⟩ Hk
  ihave Hp' := (progress_next (greet P c h) (fun _ => iprop(emp)) m b hm) $$ Hp
  icases Hp' with ⟨Hg, Hp⟩
  unfold greet
  icases Hg with ⟨Ht, Hpay⟩
  have hcell : cell (pt b c) h = ((pt b c : Thread nD τ), .reg q) := by unfold cell; rw [hq]
  iapply (Rounds.wp_signal Variants.none ER (rd P) (c : Thread nD τ) none (dst := (pt b c : Thread nD τ)) (sem := q) (r := 0)
      (κ := N (pt b c, h)) (d := b) (k' := u) (by rw [← hcell, duties_cell]; exact hb) (by rw [← hcell, amount_cell]; exact hu) ()
      (O₀ := owe c ((b, h) :: l)) (owe c l) (by rw [owe, hcell, hu]) (W := W)) $$ [HO Ht Hpay]
  · rw [← hcell, payload_cell]
    isplitr; · iapply (env_inv P N); iexact He
    isplitl [HO]; · iexact HO
    isplitl [Ht]; · iexact Ht
    isplitl [Hpay]; · iexact Hpay
    iapply (env_reached P N); iexact He
  iintro HO
  iapply Hk
  isplitl [HO]; · iexists W; iexact HO
  iapply Hp
  iempintro

/-- A wait for everything that a semaphore gets. -/
theorem wait_step {w : TpuEff nD τ sig (Elt F) Λ₀ .tc PUnit} (h : Site) (l : List (Fin 5 × Site))
    (hw : ∀ K : PUnit → sProp 𝕄, wpE (defs₀ (F := F)) Variants.none (c : Thread nD τ) none Set.univ w K
      = waitSpec (c : Thread nD τ) Set.univ (siteLoc h) (total h) K)
    (hl : ∀ p ∈ l, level h < level p.2) :
    iprop(env P N ∗ owing c l ∗ await c h)
      ⊢ iprop(((owing c l ∗ closed c h ∗ bigSep (payers h) (fun b => pay P c h b)) -∗ runs c (k ⟨⟩) Q) -∗ runs c (.op w k) Q) := by
  unfold owing await
  iintro ⟨#He, ⟨%W, HO⟩, Hc, Hat⟩ Hk
  iapply (Rounds.wp_wait_rest_token Variants.none ER (rd P) (c : Thread nD τ) none (κ := N (c, h)) hw (Set.mem_univ _) ()
      (O := owe c l) (W := W) (R := 0) (m := 0) (T := ∅) ((Nat.zero_add _).trans (expect_cell P c h).symm)) $$ [HO Hc Hat]
  · isplitr; · iapply (env_inv P N c h); iexact He
    isplitl [Hc]; · iexact Hc
    isplitl [HO]; · iexact HO
    isplitr
    · iapply (env_mayWait P N c h l hl); iexact He
    iexact Hat
  iintro ⟨HO, Hat, -, Hpay⟩
  ihave Hpay := (Entails.of_eq (rest_cell P c h)) $$ Hpay
  imod (Rounds.cell_close ER (rd P) (Set.mem_univ (N (c, h))) (fun x => x) (R := 0 + 1) (duties_later P (cell c h))) $$ [Hat] with Hz
  · isplitr; · iapply (env_inv P N c h); iexact He
    iexact Hat
  iapply Hk
  isplitl [HO]; · iexists _; iexact HO
  isplitl [Hz] <;> iassumption

/-! ## Transfers -/

variable (s : Fin 3) (j : Fin 5)

/-- A transfer's rights before the entry handshake, -/
def right : sProp 𝕄 :=
  iprop(atPos ER (cell c (.send s j)) 0 ∅ 0 ∗ dutyTok ER (cell c (.send s j)) 0 0 ∗ dutyTok ER (cell (pa s j c) (.recv s j)) 0 0)
/-- after it, with the partner's landing buffer, -/
def ready : sProp 𝕄 := iprop(right c s j ∗ free s j (pa s j c))
/-- when the transfer is on its way, -/
def sent : sProp 𝕄 := await c (.send s j)
/-- when the partner's rows have landed, -/
def got : sProp 𝕄 := iprop(closed c (.recv s j) ∗ free s j c)
/-- and when the rows sent have left. -/
def back : sProp 𝕄 := iprop(closed c (.send s j) ∗ heldAny c (wb s) (rowsOf (rows j) (rows j + rows j)))

theorem rows_le (j : Fin 5) : rows j + rows j ≤ 512 := by revert j; decide

/-- The upper half of the remaining rows, as an index set. -/
theorem half_inb : ∀ a : Fin 2, (![rows j, 0] : Fin 2 → ℕ) a + (⟨2, ![rows j, wd s]⟩ : Shape).size a ≤ (⟨2, ![512, wd s]⟩ : Shape).size a
  | ⟨0, _⟩ => rows_le j
  | ⟨1, _⟩ => (Nat.zero_add _).le

abbrev half : Memref sig .tc .vmem ⟨2, ![rows j, wd s]⟩ .f32 := (wb s).slice (rowRect (rows j) (rows j) (half_inb s j)) (fun _ => rfl)

/-- The transfer of the upper half to the partner's landing buffer. -/
theorem send_step {n : Dev nD} (hn : n = pa s j c) {qs qr : DmaSem sig} (hqs : qs = sendQ s j) (hqr : qr = recvQ s j)
    {hsc : (rb s j).view.ref.isScScratch = false} {hsrc : (half s j).view.WordExact} {hdst : (rb s j).view.WordExact}
    {hsem : DmaTarget.Typed .vmem (.dma qr) (.remote (Dev.tc n : Thread nD τ) (rb s j) (.dma qs) hsc)} (l : List (Fin 5 × Site)) :
    iprop(env P N ∗ owing c ((ord s j, .recv s j) :: l) ∗ held c (wb s) (rowsOf (rows j) (rows j + rows j)) (sums P s j.val c) ∗ ready c s j)
      ⊢ iprop(((owing c l ∗ sent c s j) -∗ runs c (k ⟨⟩) Q)
          -∗ runs c (.op (.enqueueDma (half s j) (.remote (Dev.tc n : Thread nD τ) (rb s j) (.dma qs) hsc) (.dma qr) hsrc hdst hsem) k) Q) := by
  subst hn hqs hqr
  unfold owing ready right sent await free heldAny held
  iintro ⟨#He, ⟨%W, HO⟩, ⟨%f, %hf, Hsrc⟩, ⟨Hat, Hts, Htr⟩, ⟨%Y, %g, %hg, Hdst⟩⟩ Hk
  have hset : (half s j).view.set = (wb s).view.setOn (rowsOf (rows j) (rows j + rows j)) :=
    (View.set_slice _ _).trans (congrArg (wb s).view.setOn (rowRect_set _))
  rw [← hset]
  iapply (Rounds.wp_send_pointsTo Variants.none ER (rd P) (c : Thread nD τ) none (c' := (Dev.tc (pa s j c) : Thread nD τ))
      (src := half s j) (dst := rb s j) (κ₁ := N (c, .send s j)) (κ₂ := N (pa s j c, .recv s j))
      (r₁ := 0) (r₂ := 0) (d₁ := 0) (d₂ := 0) (fs := f) (fd := g)
      (by rw [duties_cell P c (.send s j)]; exact Finset.mem_singleton_self _)
      (by rw [duties_cell P (pa s j c) (.recv s j)]; exact Finset.mem_singleton_self _)
      () () (cr s j) rfl (amount_cell P c (.send s j) 0) (amount_cell P (pa s j c) (.recv s j) 0) (owe c l) rfl (W := W)
      (by
        rw [payload_cell P c (.send s j), pay, hset]
        unfold heldAny held
        iintro H
        iexists _; iexists f
        isplitr; · ipureintro; exact fun i _ => rfl
        iexact H)
      (by
        rw [payload_cell P (pa s j c) (.recv s j), pay]
        unfold held
        iintro H
        iexists _
        isplitr
        rotate_left
        · iexact H
        ipureintro
        intro i _
        refine (View.read_write_of_mem (v := (rb s j).view) g _ (Finset.mem_univ i)).trans ?_
        have he : (rowRect (rows j) (rows j) (half_inb s j)).emb i = down (rows j) i :=
          idx2_eq ((rowRect_emb_row _ i).trans ((Nat.add_comm _ _).trans
            (down_row i (Nat.lt_of_lt_of_le (Nat.add_lt_add_right (i 0).isLt _) (rows_le j))).symm)) (rowRect_emb_col _ i)
        have hm : down (rows j) i ∈ (rowsOf (rows j) (rows j + rows j) : Finset (⟨2, ![512, wd s]⟩ : Shape).Idx) := by
          rw [← he, ← rowRect_set (half_inb s j), ← Rect.map_emb_univ]; exact Finset.mem_map_of_mem _ (Finset.mem_univ i)
        show (wb s).view.read (Elt F) f ((rowRect (rows j) (rows j) (half_inb s j)).emb i) = landed P s j (pa s j c) i
        rw [he, hf _ hm, landed, show pa s j (pa s j c) = c from pt_pt _ c])) $$ [HO Hsrc Hdst Hts Htr]
  · isplitr; · iapply (env_inv P N c (.send s j)); iexact He
    isplitr; · iapply (env_inv P N (pa s j c) (.recv s j)); iexact He
    isplitl [Hsrc]; · iexact Hsrc
    isplitl [Hdst]; · iexact Hdst
    isplitl [HO]; · iexact HO
    isplitl [Hts]; · iexact Hts
    isplitr; · iapply (env_reached P N c (.send s j)); iexact He
    isplitl [Htr]; · iexact Htr
    iapply (env_reached P N (pa s j c) (.recv s j)); iexact He
  iintro ⟨Hc, HO⟩
  iapply Hk
  isplitl [HO]; · iexists W; iexact HO
  isplitl [Hc]; · iexact Hc
  iexact Hat

end Steps

end Cert.Halving

end
-- ==== Proof.Stage.lean ====
/-
  A stage of the exchange: wait for the partner's rows, add the upper half of them and send the sums on, add the lower half.
  Also the first transfer, the last stage, and the return of the rows sent.
-/
module

public import proofs.«01_k».proof.Proof.Steps

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values added -/

section Values

variable (P : Parts F) (s : Fin 3) (j : Fin 5) (c : Dev nD)

theorem sums_succ : sums P s (j.val + 1) = stage s j (sums P s j.val) := by
  show stage s (Fin.ofNat 5 j.val) (sums P s j.val) = _
  rw [show Fin.ofNat 5 j.val = j from Fin.ext (Nat.mod_eq_of_lt j.isLt)]

/-- A remaining row and the row that landed beside it make the next stage's row. -/
theorem sums_add {lo h : ℕ} {inb inb'} (hlt : lo + h ≤ rows j) (q : (⟨2, ![h, wd s]⟩ : Shape).Idx) :
    FloatOps.addf (φ := .f32) (sums P s j.val c ((rowRect (R := 512) (W := wd s) lo h inb).emb q))
        (landed P s j c ((rowRect (R := rows j) (W := wd s) lo h inb').emb q))
      = sums P s (j.val + 1) c ((rowRect (R := 512) (W := wd s) lo h inb).emb q) := by
  have hq : lo + (q 0).val < rows j := Nat.lt_of_lt_of_le (Nat.add_lt_add_left (q 0).isLt lo) hlt
  rw [sums_succ, stage, if_pos (by rw [rowRect_emb_row]; exact hq), landed]
  congr 2

end Values

/-! ## Adding rows -/

section Steps

variable (P : Parts F) (N : Dev nD × Site → ℕ) (c : Dev nD) {α : Type} {Q : α → sProp (MT nD τ sig Unit (Elt F) ℕ UU ℕ)} {k : PUnit → Body F α}

omit [FloatOps F] in
theorem one_recv (s : Fin 3) (j : Fin 5) (Φ : Fin 5 → sProp 𝕄) : bigSep (payers (.recv s j)) Φ ⊢ Φ 0 :=
  Entails.of_eq (show bigSep {(0 : Fin 5)} Φ = Φ 0 from bigSep_singleton)

omit [FloatOps F] in
theorem one_send (s : Fin 3) (j : Fin 5) (Φ : Fin 5 → sProp 𝕄) : bigSep (payers (.send s j)) Φ ⊢ Φ 0 :=
  Entails.of_eq (show bigSep {(0 : Fin 5)} Φ = Φ 0 from bigSep_singleton)

/-- Two loads, a third whose value is not used, and a store over the elements first loaded. -/
theorem add_step {sh sh' : Shape} (m : Memref sig .tc .vmem sh .f32) (m' : Memref sig .tc .vmem sh' .f32) (r : Rect sh) (r' : Rect sh')
    {S : Finset sh.Idx} {S' : Finset sh'.Idx} (X X' : sh.Idx → Elt F .f32) (Y : sh'.Idx → Elt F .f32)
    {w : (r.shape.Idx → Elt F .f32) → (r'.shape.Idx → Elt F .f32) → r.shape.Idx → Elt F .f32}
    (hS : r.set ⊆ S) (hS' : r'.set ⊆ S')
    (hin : ∀ q, w (fun q => X (r.emb q)) (fun q => Y (r'.emb q)) q = X' (r.emb q)) (hout : ∀ i ∈ S, i ∉ r.set → X i = X' i)
    {h₁ : m.view.LoadsAt r.toLoadRect} {h₂ : m'.view.LoadsAt r'.toLoadRect} {h₃ : m.view.LoadsAt r.toLoadRect}
    {hx : (m.access r).Stores Finset.univ} {hm : (Finset.univ : Finset r.shape.Idx) = Finset.univ ∨ ∀ a, r.stride a = 1} :
    (iprop(held c m S X ∗ held c m' S' Y) : sProp 𝕄)
      ⊢ iprop(((held c m S X' ∗ held c m' S' Y) -∗ runs c (k ⟨⟩) Q)
        -∗ runs c (.op (.load m r.toLoadRect h₁) fun x => .op (.load m' r'.toLoadRect h₂) fun y => .op (.load m r.toLoadRect h₃) fun _ =>
            .op (.store m r (w x y) Finset.univ hx hm) k) Q) := by
  iintro ⟨H, H'⟩ Hk
  iapply (held_load c m r hS) $$ H
  iintro H
  iapply (held_load c m' r' hS') $$ H'
  iintro H'
  iapply (held_load c m r hS) $$ H
  iintro H
  iapply (held_store c m r hS _) $$ H
  iintro H
  iapply Hk
  isplitl [H]
  · iapply (held_congr c m (Y := X') ?_)
    rotate_left
    · iexact H
    intro i hi
    by_cases hr : i ∈ r.set
    · obtain ⟨q, rfl⟩ := r.exists_idx_of_mem hr
      exact (Rect.overlay_emb _ _ _ _).trans (hin q)
    · exact (Rect.overlay_of_not_mem _ _ _ hr).trans (hout i hi hr)
  iexact H'

/-! ## Stages -/

/-- A stripe on its way: the remaining `h` rows at the sums before stage `n`, the stages before `n` received, the transfers
    before `m` sent. -/
def line (s : Fin 3) (n m h : ℕ) : sProp 𝕄 :=
  iprop(held c (wb s) (rowsOf 0 h) (sums P s n c) ∗ progress n (fun j => await c (.recv s j)) (got c s) ∗ progress m (ready c s) (sent c s))

variable (s : Fin 3)

/-- A stage that is not the last. -/
theorem stage_step (j j' : Fin 5) (hj : j'.val = j.val + 1) (hr : rows j = rows j' + rows j') (l : List (Fin 5 × Site))
    (hl : ∀ p ∈ (ord s j', Site.recv s j') :: l, level (.recv s j) < level p.2)
    {n : Dev nD} (hn : n = pa s j' c) {q qs qr : DmaSem sig} (hq : q = recvQ s j) (hqs : qs = sendQ s j') (hqr : qr = recvQ s j')
    {sh : Shape} {src : Memref sig .tc .vmem sh .f32} {hw₁ : src.view.WordExact} {hw₂ : (rb s j).view.WordExact}
    {inb₀ : ∀ a : Fin 2, (![0, 0] : Fin 2 → ℕ) a + (⟨2, ![rows j', wd s]⟩ : Shape).size a ≤ (⟨2, ![512, wd s]⟩ : Shape).size a}
    {inb₀' : ∀ a : Fin 2, (![0, 0] : Fin 2 → ℕ) a + (⟨2, ![rows j', wd s]⟩ : Shape).size a ≤ (⟨2, ![rows j, wd s]⟩ : Shape).size a}
    {inb₁ : ∀ a : Fin 2, (![rows j', 0] : Fin 2 → ℕ) a + (⟨2, ![rows j', wd s]⟩ : Shape).size a ≤ (⟨2, ![512, wd s]⟩ : Shape).size a}
    {inb₁' : ∀ a : Fin 2, (![rows j', 0] : Fin 2 → ℕ) a + (⟨2, ![rows j', wd s]⟩ : Shape).size a ≤ (⟨2, ![rows j, wd s]⟩ : Shape).size a}
    {w₁ w₀ : ((⟨2, ![rows j', wd s]⟩ : Shape).Idx → Elt F .f32) → ((⟨2, ![rows j', wd s]⟩ : Shape).Idx → Elt F .f32)
      → (⟨2, ![rows j', wd s]⟩ : Shape).Idx → Elt F .f32}
    (hadd₁ : ∀ x y i, w₁ x y i = FloatOps.addf (φ := .f32) (x i) (y i)) (hadd₀ : ∀ x y i, w₀ x y i = FloatOps.addf (φ := .f32) (x i) (y i))
    {a₁ : (wb s).view.LoadsAt (rowRect (rows j') (rows j') inb₁).toLoadRect} {a₂ : (rb s j).view.LoadsAt (rowRect (rows j') (rows j') inb₁').toLoadRect}
    {a₃ : (wb s).view.LoadsAt (rowRect (rows j') (rows j') inb₁).toLoadRect} {a₄ : ((wb s).access (rowRect (rows j') (rows j') inb₁)).Stores Finset.univ}
    {a₅ : (Finset.univ : Finset (rowRect (rows j') (rows j') inb₁).shape.Idx) = Finset.univ ∨ ∀ a, (rowRect (rows j') (rows j') inb₁).stride a = 1}
    {b₁ : (wb s).view.LoadsAt (rowRect 0 (rows j') inb₀).toLoadRect} {b₂ : (rb s j).view.LoadsAt (rowRect 0 (rows j') inb₀').toLoadRect}
    {b₃ : (wb s).view.LoadsAt (rowRect 0 (rows j') inb₀).toLoadRect} {b₄ : ((wb s).access (rowRect 0 (rows j') inb₀)).Stores Finset.univ}
    {b₅ : (Finset.univ : Finset (rowRect 0 (rows j') inb₀).shape.Idx) = Finset.univ ∨ ∀ a, (rowRect 0 (rows j') inb₀).stride a = 1}
    {hsc : (rb s j').view.ref.isScScratch = false} {hsrc : (half s j').view.WordExact} {hdst : (rb s j').view.WordExact}
    {hsem : DmaTarget.Typed .vmem (.dma qr) (.remote (Dev.tc n : Thread nD τ) (rb s j') (.dma qs) hsc)} :
    iprop(env P N ∗ owing c ((ord s j', .recv s j') :: l) ∗ line P c s j.val (j.val + 1) (rows j))
      ⊢ iprop(((owing c l ∗ line P c s (j.val + 1) (j.val + 2) (rows j')) -∗ runs c (k ⟨⟩) Q)
        -∗ runs c (.op (.waitDma2 q src (rb s j) hw₁ hw₂) fun _ =>
            .op (.load (wb s) (rowRect (rows j') (rows j') inb₁).toLoadRect a₁) fun x =>
            .op (.load (rb s j) (rowRect (rows j') (rows j') inb₁').toLoadRect a₂) fun y =>
            .op (.load (wb s) (rowRect (rows j') (rows j') inb₁).toLoadRect a₃) fun _ =>
            .op (.store (wb s) (rowRect (rows j') (rows j') inb₁) (w₁ x y) Finset.univ a₄ a₅) fun _ =>
            .op (.enqueueDma (half s j') (.remote (Dev.tc n : Thread nD τ) (rb s j') (.dma qs) hsc) (.dma qr) hsrc hdst hsem) fun _ =>
            .op (.load (wb s) (rowRect 0 (rows j') inb₀).toLoadRect b₁) fun x =>
            .op (.load (rb s j) (rowRect 0 (rows j') inb₀').toLoadRect b₂) fun y =>
            .op (.load (wb s) (rowRect 0 (rows j') inb₀).toLoadRect b₃) fun _ =>
            .op (.store (wb s) (rowRect 0 (rows j') inb₀) (w₀ x y) Finset.univ b₄ b₅) k) Q) := by
  subst hq
  unfold line
  iintro ⟨#He, HO, Hw, Hr, Ht⟩ Hk
  ihave Hr' := (progress_next (fun j => await c (.recv s j)) (got c s) j.val j rfl) $$ Hr
  icases Hr' with ⟨Ha, Hr⟩
  iapply (wait_step P N c (.recv s j) ((ord s j', .recv s j') :: l) (w := .waitDma2 (recvQ s j) src (rb s j) hw₁ hw₂)
    (fun K => wpE_waitDma2_eq Variants.none (c : Thread nD τ) none Set.univ K) hl) $$ [HO Ha]
  · isplitr; · iexact He
    isplitl [HO] <;> iassumption
  iintro ⟨HO, Hz, Hpay⟩
  ihave Hb := (one_recv s j (fun b => pay P c (.recv s j) b)) $$ Hpay
  unfold pay
  -- the upper half
  iapply (add_step c (wb s) (rb s j) (rowRect (rows j') (rows j') inb₁) (rowRect (rows j') (rows j') inb₁') (S := rowsOf 0 (rows j)) (S' := Finset.univ)
      (sums P s j.val c) (fun i => if rows j' ≤ (i 0).val then sums P s (j.val + 1) c i else sums P s j.val c i) (landed P s j c) (w := w₁)
      (by
        rw [rowRect_set]
        intro i hi
        rw [mem_rowsOf] at hi ⊢
        omega)
      (Finset.subset_univ _)
      (fun q => by
        rw [if_pos (by rw [rowRect_emb_row]; exact Nat.le_add_right _ _)]
        exact (hadd₁ _ _ q).trans (sums_add P s j c (le_of_eq hr.symm) q))
      (fun i hi hn => by
        rw [if_neg]
        intro h
        rw [mem_rowsOf] at hi
        exact hn (by rw [rowRect_set, mem_rowsOf]; omega))) $$ [Hw Hb]
  · isplitl [Hw]; · iexact Hw
    iexact Hb
  iintro ⟨Hw, Hb⟩
  ihave Hcut := (held_cut c (wb s) (S := rowsOf 0 (rows j)) (A := rowsOf 0 (rows j')) (B := rowsOf (rows j') (rows j' + rows j'))
    (by rw [hr]; exact rowsOf_union (Nat.zero_le _) (Nat.le_add_right _ _)) rowsOf_disjoint _) $$ Hw
  icases Hcut with ⟨Hw, Hu⟩
  ihave Hu := (held_congr c (wb s) (Y := sums P s j'.val c) (fun i hi => by
    rw [mem_rowsOf] at hi; rw [if_pos hi.1, hj])) $$ Hu
  ihave Hw := (held_congr c (wb s) (Y := sums P s j.val c) (fun i hi => by
    rw [mem_rowsOf] at hi; rw [if_neg (Nat.not_le.mpr hi.2)])) $$ Hw
  ihave Ht' := (progress_next (ready c s) (sent c s) (j.val + 1) j' hj) $$ Ht
  icases Ht' with ⟨Hready, Ht⟩
  iapply (send_step P N c s j' hn hqs hqr l) $$ [HO Hu Hready]
  · isplitr; · iexact He
    isplitl [HO]; · iexact HO
    isplitl [Hu] <;> iassumption
  iintro ⟨HO, Hsent⟩
  -- the lower half
  iapply (add_step c (wb s) (rb s j) (rowRect 0 (rows j') inb₀) (rowRect 0 (rows j') inb₀') (S := rowsOf 0 (rows j')) (S' := Finset.univ)
      (sums P s j.val c) (sums P s (j.val + 1) c) (landed P s j c) (w := w₀)
      (by
        rw [rowRect_set, Nat.zero_add])
      (Finset.subset_univ _)
      (fun q => (hadd₀ _ _ q).trans (sums_add P s j c (by rw [Nat.zero_add, hr]; exact Nat.le_add_right _ _) q))
      (fun i hi hn => absurd (by rw [rowRect_set, Nat.zero_add]; exact hi) hn)) $$ [Hw Hb]
  · isplitl [Hw] <;> iassumption
  iintro ⟨Hw, Hb⟩
  iapply Hk
  isplitl [HO]; · iexact HO
  isplitl [Hw]; · iexact Hw
  isplitl [Hr Hz Hb]
  · iapply Hr
    unfold got
    isplitl [Hz]; · iexact Hz
    iapply (held_any c (rb s j) Finset.univ (landed P s j c)); iexact Hb
  · iapply Ht; iexact Hsent

/-- The last stage. -/
theorem last_step (j : Fin 5) (l : List (Fin 5 × Site)) (hl : ∀ p ∈ l, level (.recv s j) < level p.2)
    {q : DmaSem sig} (hq : q = recvQ s j) {sh : Shape} {src : Memref sig .tc .vmem sh .f32} {hw₁ : src.view.WordExact} {hw₂ : (rb s j).view.WordExact}
    {inb₀ : ∀ a : Fin 2, (![0, 0] : Fin 2 → ℕ) a + (⟨2, ![rows j, wd s]⟩ : Shape).size a ≤ (⟨2, ![512, wd s]⟩ : Shape).size a}
    {inb₀' : ∀ a : Fin 2, (![0, 0] : Fin 2 → ℕ) a + (⟨2, ![rows j, wd s]⟩ : Shape).size a ≤ (⟨2, ![rows j, wd s]⟩ : Shape).size a}
    {w₀ : ((⟨2, ![rows j, wd s]⟩ : Shape).Idx → Elt F .f32) → ((⟨2, ![rows j, wd s]⟩ : Shape).Idx → Elt F .f32)
      → (⟨2, ![rows j, wd s]⟩ : Shape).Idx → Elt F .f32}
    (hadd₀ : ∀ x y i, w₀ x y i = FloatOps.addf (φ := .f32) (x i) (y i))
    {b₁ : (wb s).view.LoadsAt (rowRect 0 (rows j) inb₀).toLoadRect} {b₂ : (rb s j).view.LoadsAt (rowRect 0 (rows j) inb₀').toLoadRect}
    {b₃ : (wb s).view.LoadsAt (rowRect 0 (rows j) inb₀).toLoadRect} {b₄ : ((wb s).access (rowRect 0 (rows j) inb₀)).Stores Finset.univ}
    {b₅ : (Finset.univ : Finset (rowRect 0 (rows j) inb₀).shape.Idx) = Finset.univ ∨ ∀ a, (rowRect 0 (rows j) inb₀).stride a = 1} (m : ℕ) :
    iprop(env P N ∗ owing c l ∗ line P c s j.val m (rows j))
      ⊢ iprop(((owing c l ∗ line P c s (j.val + 1) m (rows j)) -∗ runs c (k ⟨⟩) Q)
        -∗ runs c (.op (.waitDma2 q src (rb s j) hw₁ hw₂) fun _ =>
            .op (.load (wb s) (rowRect 0 (rows j) inb₀).toLoadRect b₁) fun x =>
            .op (.load (rb s j) (rowRect 0 (rows j) inb₀').toLoadRect b₂) fun y =>
            .op (.load (wb s) (rowRect 0 (rows j) inb₀).toLoadRect b₃) fun _ =>
            .op (.store (wb s) (rowRect 0 (rows j) inb₀) (w₀ x y) Finset.univ b₄ b₅) k) Q) := by
  subst hq
  unfold line
  iintro ⟨#He, HO, Hw, Hr, Ht⟩ Hk
  ihave Hr' := (progress_next (fun j => await c (.recv s j)) (got c s) j.val j rfl) $$ Hr
  icases Hr' with ⟨Ha, Hr⟩
  iapply (wait_step P N c (.recv s j) l (w := .waitDma2 (recvQ s j) src (rb s j) hw₁ hw₂)
    (fun K => wpE_waitDma2_eq Variants.none (c : Thread nD τ) none Set.univ K) hl) $$ [HO Ha]
  · isplitr; · iexact He
    isplitl [HO] <;> iassumption
  iintro ⟨HO, Hz, Hpay⟩
  ihave Hb := (one_recv s j (fun b => pay P c (.recv s j) b)) $$ Hpay
  unfold pay
  iapply (add_step c (wb s) (rb s j) (rowRect 0 (rows j) inb₀) (rowRect 0 (rows j) inb₀') (S := rowsOf 0 (rows j)) (S' := Finset.univ)
      (sums P s j.val c) (sums P s (j.val + 1) c) (landed P s j c) (w := w₀)
      (by rw [rowRect_set, Nat.zero_add])
      (Finset.subset_univ _)
      (fun q => (hadd₀ _ _ q).trans (sums_add P s j c (le_of_eq (Nat.zero_add _)) q))
      (fun i hi hn => absurd (by rw [rowRect_set, Nat.zero_add]; exact hi) hn)) $$ [Hw Hb]
  · isplitl [Hw]; · iexact Hw
    iexact Hb
  iintro ⟨Hw, Hb⟩
  iapply Hk
  isplitl [HO]; · iexact HO
  isplitl [Hw]; · iexact Hw
  isplitl [Hr Hz Hb]
  · iapply Hr
    unfold got
    isplitl [Hz]; · iexact Hz
    iapply (held_any c (rb s j) Finset.univ (landed P s j c)); iexact Hb
  · iexact Ht

/-- The first transfer of a stripe, its product computed. -/
theorem first_step (l : List (Fin 5 × Site)) {n : Dev nD} (hn : n = pa s 0 c) {qs qr : DmaSem sig} (hqs : qs = sendQ s 0) (hqr : qr = recvQ s 0)
    {hsc : (rb s 0).view.ref.isScScratch = false} {hsrc : (half s 0).view.WordExact} {hdst : (rb s 0).view.WordExact}
    {hsem : DmaTarget.Typed .vmem (.dma qr) (.remote (Dev.tc n : Thread nD τ) (rb s 0) (.dma qs) hsc)} :
    iprop(env P N ∗ owing c ((ord s 0, .recv s 0) :: l) ∗ held c (wb s) Finset.univ (P s c)
        ∗ progress 0 (fun j => await c (.recv s j)) (got c s) ∗ progress 0 (ready c s) (sent c s))
      ⊢ iprop(((owing c l ∗ line P c s 0 1 256) -∗ runs c (k ⟨⟩) Q)
          -∗ runs c (.op (.enqueueDma (half s 0) (.remote (Dev.tc n : Thread nD τ) (rb s 0) (.dma qs) hsc) (.dma qr) hsrc hdst hsem) k) Q) := by
  iintro ⟨#He, HO, Hw, Hr, Ht⟩ Hk
  ihave Hcut := (held_cut c (wb s) (A := rowsOf 0 256) (B := rowsOf 256 (256 + 256))
    (by rw [← rowsOf_union (Nat.zero_le _) (Nat.le_add_right _ _)]; exact rowsOf_univ.symm) rowsOf_disjoint _) $$ Hw
  icases Hcut with ⟨Hw, Hu⟩
  ihave Ht' := (progress_next (ready c s) (sent c s) 0 0 rfl) $$ Ht
  icases Ht' with ⟨Hready, Ht⟩
  iapply (send_step P N c s 0 hn hqs hqr l) $$ [HO Hu Hready]
  · isplitr; · iexact He
    isplitl [HO]; · iexact HO
    isplitl [Hu]; · iexact Hu
    iexact Hready
  iintro ⟨HO, Hsent⟩
  iapply Hk
  isplitl [HO]; · iexact HO
  unfold line
  isplitl [Hw]; · iexact Hw
  isplitl [Hr]; · iexact Hr
  iapply Ht; iexact Hsent

/-- The rows sent at a stage have left. -/
theorem back_step (j : Fin 5) (m : ℕ) (hm : j.val = m) (l : List (Fin 5 × Site)) (hl : ∀ p ∈ l, 0 < level p.2) {q : DmaSem sig} (hq : q = sendQ s j)
    {sh sh' : Shape} {src : Memref sig .tc .vmem sh .f32} {dst : Memref sig .tc .vmem sh' .f32} (hd : dst.view.dmaCredit = cr s j)
    {hw₁ : src.view.WordExact} {hw₂ : dst.view.WordExact} :
    iprop(env P N ∗ owing c l ∗ progress m (sent c s) (back c s))
      ⊢ iprop(((owing c l ∗ progress (m + 1) (sent c s) (back c s)) -∗ runs c (k ⟨⟩) Q)
        -∗ runs c (.op (.waitDma2 q src dst hw₁ hw₂) k) Q) := by
  subst hq
  iintro ⟨#He, HO, Hr⟩ Hk
  ihave Hr' := (progress_next (sent c s) (back c s) m j hm) $$ Hr
  icases Hr' with ⟨Ha, Hr⟩
  iapply (wait_step P N c (.send s j) l (w := .waitDma2 (sendQ s j) src dst hw₁ hw₂)
    (fun K => by
      rw [wpE_waitDma2_eq Variants.none (c : Thread nD τ) none Set.univ K, hd]; rfl) hl) $$ [HO Ha]
  · isplitr; · iexact He
    isplitl [HO]; · iexact HO
    unfold sent; iexact Ha
  iintro ⟨HO, Hz, Hpay⟩
  ihave Hb := (one_send s j (fun b => pay P c (.send s j) b)) $$ Hpay
  unfold pay
  iapply Hk
  isplitl [HO]; · iexact HO
  iapply Hr
  unfold back
  isplitl [Hz]; · iexact Hz
  iexact Hb

end Steps

end Cert.Halving

end
-- ==== Proof.Products.lean ====
/-
  The kernel's partial products as terms of its own operations: for each stripe the words that say which row of `x` goes to
  which column, the matrix product that moves the columns of `x`, and the product with the stripe of `dy`.
-/
module

public import proofs.«01_k».proof.Proof.Net

@[expose] public section

noncomputable section

namespace Cert.Halving

open Cert.KernelIdeal Cert.KernelIdeal.Gen

open Idealize.ShloMosaic

variable {F : FTy → Type} [FloatOps F]

/-- The words of 512 columns. -/
abbrev Row : Type := IVec S1x512 32

/-- A device's place in the kernel's numbering, as a word. -/
def place (c : Dev nD) : BitVec 32 := BitVec.ofNat 32 (c.val ^^^ ((c.val / 2) % 2))

section Words

variable (l : BitVec 32) (p : Row)

/-- Stripe 0: the mask of a column's block and the device's place, -/
def acc₀ : Row :=
  k0_pay9 p (k0_pay6 p (k0_pay4 p (k0_pay3 p) 8#32) 4#32 (k0_pay5 p) 0#32) 2#32 (k0_pay7 p) (k0_pay8 p)
def code₀ : Row := k0_pay13 l p (acc₀ p) 1#32 (k0_pay10 p) (k0_pay11 p) (k0_pay12 p)
/-- and the parts of the block of `x` that goes there. -/
def hi₀ : Row := k0_pay17 (code₀ l p) 8#32 (k0_pay14 l p (acc₀ p) 1#32 (k0_pay10 p) (k0_pay11 p) (k0_pay12 p))
  (k0_pay15 l p (acc₀ p) 1#32 (k0_pay10 p) (k0_pay11 p) (k0_pay12 p)) (k0_pay16 l p (acc₀ p) 1#32 (k0_pay10 p) (k0_pay11 p) (k0_pay12 p))
def mid₀ : Row := k0_pay21 (k0_pay18 (code₀ l p)) 2#32 (k0_pay19 (code₀ l p)) (k0_pay20 (code₀ l p))
  (Scalar.extui (Scalar.cmpi .sgt 2#32 0#32)) (Scalar.extui (Scalar.cmpi .slt 2#32 0#32))
def low₀ : Row := k0_pay22 (k0_pay18 (code₀ l p)) 2#32 (k0_pay19 (code₀ l p)) (k0_pay20 (code₀ l p))
  (Scalar.extui (Scalar.cmpi .sgt 2#32 0#32)) (Scalar.extui (Scalar.cmpi .slt 2#32 0#32))

/-- The same for stripe 1, -/
def acc₁ : Row :=
  k0_pay32 p (k0_pay29 p (k0_pay27 p (k0_pay26 p) 8#32) 4#32 (k0_pay28 p) 0#32) 2#32 (k0_pay30 p) (k0_pay31 p)
def code₁ : Row := k0_pay36 l p (acc₁ p) 1#32 (k0_pay33 p) (k0_pay34 p) (k0_pay35 p)
def hi₁ : Row := k0_pay40 (code₁ l p) 8#32 (k0_pay37 l p (acc₁ p) 1#32 (k0_pay33 p) (k0_pay34 p) (k0_pay35 p))
  (k0_pay38 l p (acc₁ p) 1#32 (k0_pay33 p) (k0_pay34 p) (k0_pay35 p)) (k0_pay39 l p (acc₁ p) 1#32 (k0_pay33 p) (k0_pay34 p) (k0_pay35 p))
def mid₁ : Row := k0_pay44 (k0_pay41 (code₁ l p)) 2#32 (k0_pay42 (code₁ l p)) (k0_pay43 (code₁ l p))
  (Scalar.extui (Scalar.cmpi .sgt 2#32 0#32)) (Scalar.extui (Scalar.cmpi .slt 2#32 0#32))
def low₁ : Row := k0_pay45 (k0_pay41 (code₁ l p)) 2#32 (k0_pay42 (code₁ l p)) (k0_pay43 (code₁ l p))
  (Scalar.extui (Scalar.cmpi .sgt 2#32 0#32)) (Scalar.extui (Scalar.cmpi .slt 2#32 0#32))

/-- and for stripe 2. -/
def acc₂ : Row :=
  k0_pay55 p (k0_pay52 p (k0_pay50 p k0_pay49 16#32) 8#32 (k0_pay51 p) 0#32) 4#32 (k0_pay53 p) (k0_pay54 p)
def acc₂' : Row := k0_pay59 p (acc₂ p) 2#32 (k0_pay56 p) (k0_pay57 p) (k0_pay58 p)
def code₂ : Row := k0_pay62 l p (acc₂' p) 1#32 (k0_pay60 p) (k0_pay61 p) 0#32
def hi₂ : Row := k0_pay65 (code₂ l p) 8#32 (k0_pay63 l p (acc₂' p) 1#32 (k0_pay60 p) (k0_pay61 p) 0#32)
  (k0_pay64 l p (acc₂' p) 1#32 (k0_pay60 p) (k0_pay61 p) 0#32) (Scalar.cmpi .sgt 8#32 0#32)
def mid₂ : Row := k0_pay69 (k0_pay66 (code₂ l p)) 2#32 (k0_pay67 (code₂ l p)) (k0_pay68 (code₂ l p))
def low₂ : Row := k0_pay70 (k0_pay66 (code₂ l p)) 2#32 (k0_pay67 (code₂ l p)) (k0_pay68 (code₂ l p))

end Words

/-- The number of a row, at every index of a square. -/
abbrev rowNo : IVec S512x512 32 := iota .tc S512x512 32 [0] iota_S512x512_d0_w32

/-- The columns of `x` in the order in which a stripe's exchange needs them. -/
def xp₀ (l : BitVec 32) (x : FVec F S512x512 .f32) : FVec F S512x512 .f32 :=
  k0_pay24 rowNo k0_pay2 (hi₀ l k0_pay1) (mid₀ l k0_pay1) (low₀ l k0_pay1) k0_pay23 x
def xp₁ (l : BitVec 32) (x : FVec F S512x512 .f32) : FVec F S512x512 .f32 :=
  k0_pay47 rowNo k0_pay2 (hi₁ l k0_pay1) (mid₁ l k0_pay1) (low₁ l k0_pay1) k0_pay46 x
def xp₂ (l : BitVec 32) (x : FVec F S512x512 .f32) : FVec F S512x512 .f32 :=
  k0_pay73 rowNo k0_pay2 (mid₂ l k0_pay1) (low₂ l k0_pay1) (k0_pay71 (hi₂ l k0_pay1)) k0_pay72 x

/-- The stripes of `dy`. -/
abbrev stripe₀ : Rect S512x2048 := Rect.unit (s := S512x2048) ![0, 0] S512x768.size inb_S512x2048_S512x768_0_0
abbrev stripe₁ : Rect S512x2048 := Rect.unit (s := S512x2048) ![0, 768] S512x640.size inb_S512x2048_S512x640_0_768
abbrev stripe₂ : Rect S512x2048 := Rect.unit (s := S512x2048) ![0, 1408] S512x640.size inb_S512x2048_S512x640_0_1408

/-- The partial products. -/
def prods (x : Dev nD → S512x512.Idx → Elt F .f32) (dy : Dev nD → S512x2048.Idx → Elt F .f32) : Parts F
  | ⟨0, _⟩, c => k0_pay25 (xp₀ (place c) (x c)) fun q => dy c (stripe₀.emb q)
  | ⟨1, _⟩, c => k0_pay48 (xp₁ (place c) (x c)) fun q => dy c (stripe₁.emb q)
  | ⟨2, _⟩, c => k0_pay74 (xp₂ (place c) (x c)) fun q => dy c (stripe₂.emb q)

end Cert.Halving

end
-- ==== Proof.Body.lean ====
/-
  A device's whole run: the handshake, the three partial products sent on their way, five stages of exchange and addition of
  each, the finished rows stored, and the handshake at the end.
-/
module

public import proofs.«01_k».proof.Proof.Stage
public import proofs.«01_k».proof.Proof.Products
public import proofs.«01_k».proof.Proof.Gen.KernelIdeal.Skeleton
public import proofs.«01_k».proof.Proof.Gen.KernelIdeal.Points
public import Idealize.ShloMosaic.Lib.Pipeline.Value

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Parts without effects -/

/-- A part of the body that has no effect, of whose result `φ` is needed. -/
theorem pure_part {c : Dev nD} {α β : Type} {p : Body F α} {K : α → Body F β} {Γ : sProp 𝕄} {Q : β → sProp 𝕄} (φ : α → Prop)
    (h : ∃ v, p = .ret v ∧ φ v) (hk : ∀ v, φ v → Γ ⊢ runs c (K v) Q) : Γ ⊢ runs c (p.bind K) Q := by
  obtain ⟨v, rfl, hv⟩ := h
  exact hk v hv

/-- A part that asks only on which device it runs. -/
theorem device_part {c : Dev nD} {α β : Type} {p : Body F α} {K : α → Body F β} {Γ : sProp 𝕄} {Q : β → sProp 𝕄} (f : Dev nD → α)
    (h : p = .op .deviceId fun d => .ret (f d)) (hk : Γ ⊢ runs c (K (f c)) Q) : Γ ⊢ runs c (p.bind K) Q := by
  subst h
  show Γ ⊢ runs c (.op .deviceId fun d => (Prog.ret (f d)).bind K) Q
  rw [runs, wp_deviceId]
  exact hk

/-! ## The devices addressed -/

theorem dev1 : ∀ c : Dev nD, (⟨k0_dev1 c, k0_dev1_lt c⟩ : Dev nD) = pt 0 c := by decide +kernel
theorem dev2 : ∀ c : Dev nD, (⟨k0_dev2 c, k0_dev2_lt c⟩ : Dev nD) = pt 1 c := by decide +kernel
theorem dev3 : ∀ c : Dev nD, (⟨k0_dev3 c, k0_dev3_lt c⟩ : Dev nD) = pt 2 c := by decide +kernel
theorem dev4 : ∀ c : Dev nD, (⟨k0_dev4 c, k0_dev4_lt c⟩ : Dev nD) = pt 3 c := by decide +kernel
theorem dev5 : ∀ c : Dev nD, (⟨k0_dev5 c, k0_dev5_lt c⟩ : Dev nD) = pt 4 c := by decide +kernel
theorem dev6 : ∀ c : Dev nD, (⟨k0_dev6 c, k0_dev6_lt c⟩ : Dev nD) = pt 1 c := by decide +kernel
theorem dev7 : ∀ c : Dev nD, (⟨k0_dev7 c, k0_dev7_lt c⟩ : Dev nD) = pt 3 c := by decide +kernel
theorem dev8 : ∀ c : Dev nD, (⟨k0_dev8 c, k0_dev8_lt c⟩ : Dev nD) = pt 0 c := by decide +kernel
theorem dev9 : ∀ c : Dev nD, (⟨k0_dev9 c, k0_dev9_lt c⟩ : Dev nD) = pt 3 c := by decide +kernel
theorem dev10 : ∀ c : Dev nD, (⟨k0_dev10 c, k0_dev10_lt c⟩ : Dev nD) = pt 0 c := by decide +kernel
theorem dev11 : ∀ c : Dev nD, (⟨k0_dev11 c, k0_dev11_lt c⟩ : Dev nD) = pt 1 c := by decide +kernel
theorem dev12 : ∀ c : Dev nD, (⟨k0_dev12 c, k0_dev12_lt c⟩ : Dev nD) = pt 0 c := by decide +kernel
theorem dev13 : ∀ c : Dev nD, (⟨k0_dev13 c, k0_dev13_lt c⟩ : Dev nD) = pt 1 c := by decide +kernel
theorem dev14 : ∀ c : Dev nD, (⟨k0_dev14 c, k0_dev14_lt c⟩ : Dev nD) = pt 3 c := by decide +kernel
theorem dev15 : ∀ c : Dev nD, (⟨k0_dev15 c, k0_dev15_lt c⟩ : Dev nD) = pt 2 c := by decide +kernel
theorem dev16 : ∀ c : Dev nD, (⟨k0_dev16 c, k0_dev16_lt c⟩ : Dev nD) = pt 4 c := by decide +kernel
theorem dev17 : ∀ c : Dev nD, (⟨k0_dev17 c, k0_dev17_lt c⟩ : Dev nD) = pt 4 c := by decide +kernel
theorem dev18 : ∀ c : Dev nD, (⟨k0_dev18 c, k0_dev18_lt c⟩ : Dev nD) = pt 4 c := by decide +kernel
theorem dev19 : ∀ c : Dev nD, (⟨k0_dev19 c, k0_dev19_lt c⟩ : Dev nD) = pt 2 c := by decide +kernel
theorem dev20 : ∀ c : Dev nD, (⟨k0_dev20 c, k0_dev20_lt c⟩ : Dev nD) = pt 2 c := by decide +kernel
theorem dev21 : ∀ c : Dev nD, (⟨k0_dev21 c, k0_dev21_lt c⟩ : Dev nD) = pt 0 c := by decide +kernel
theorem dev22 : ∀ c : Dev nD, (⟨k0_dev22 c, k0_dev22_lt c⟩ : Dev nD) = pt 1 c := by decide +kernel
theorem dev23 : ∀ c : Dev nD, (⟨k0_dev23 c, k0_dev23_lt c⟩ : Dev nD) = pt 2 c := by decide +kernel
theorem dev24 : ∀ c : Dev nD, (⟨k0_dev24 c, k0_dev24_lt c⟩ : Dev nD) = pt 3 c := by decide +kernel
theorem dev25 : ∀ c : Dev nD, (⟨k0_dev25 c, k0_dev25_lt c⟩ : Dev nD) = pt 4 c := by decide +kernel

/-! ## Rectangles -/

theorem whole_emb {R W : ℕ} (inb) (q : (⟨2, ![R, W]⟩ : Shape).Idx) : (rowRect (R := R) (W := W) 0 R inb).emb q = q :=
  idx2_eq ((rowRect_emb_row inb q).trans (Nat.zero_add _)) (rowRect_emb_col inb q)

omit [FloatOps F] in
theorem whole_overlay {R W : ℕ} (inb) (X w : (⟨2, ![R, W]⟩ : Shape).Idx → Elt F .f32) :
    (rowRect (R := R) (W := W) 0 R inb).overlay X w = w := by
  funext i
  have h := (rowRect (R := R) (W := W) 0 R inb).overlay_emb X w i
  rw [whole_emb] at h
  exact h

/-- An index of the result in a stripe, as an index of the stripe's partial sums. -/
def intoStripe {W : ℕ} (off : ℕ) (hW : 0 < W) (i : S16x2048.Idx) : (⟨2, ![512, W]⟩ : Shape).Idx
  | ⟨0, _⟩ => (Fin.ofNat 512 (i 0).val : Fin 512)
  | ⟨1, _⟩ => (⟨((i 1).val - off) % W, Nat.mod_lt _ hW⟩ : Fin W)

/-- A device's result: the first sixteen rows of its three stripes. -/
def outAt (P : Parts F) (c : Dev nD) : S16x2048.Idx → Elt F .f32 := fun i =>
  if (i 1).val < 768 then sums P 0 5 c (intoStripe 0 (by decide) i)
  else if (i 1).val < 1408 then sums P 1 5 c (intoStripe 768 (by decide) i)
  else sums P 2 5 c (intoStripe 1408 (by decide) i)

/-- The columns of the result that a stripe fills. -/
abbrev outCols {W : ℕ} (off : ℕ) (inb : ∀ a : Fin 2, (![0, off] : Fin 2 → ℕ) a + (⟨2, ![16, W]⟩ : Shape).size a ≤ S16x2048.size a) : Rect S16x2048 :=
  Rect.unit (s := S16x2048) ![0, off] (⟨2, ![16, W]⟩ : Shape).size inb

theorem mem_outCols {W off : ℕ} (inb) (i : S16x2048.Idx) : i ∈ (outCols (W := W) off inb).set ↔ off ≤ (i 1).val ∧ (i 1).val < off + W := by
  rw [Rect.mem_set_unit]
  constructor
  · intro h; exact h 1
  · intro h a
    match a with
    | ⟨0, _⟩ => exact ⟨Nat.zero_le _, by simpa using (i 0).isLt⟩
    | ⟨1, _⟩ => exact h

theorem intoStripe_emb {W off : ℕ} (hW : 0 < W) (inb) (inb') (q : (⟨2, ![16, W]⟩ : Shape).Idx) :
    intoStripe off hW ((outCols (W := W) off inb).emb q) = (rowRect (R := 512) (W := W) 0 16 inb').emb q := by
  refine idx2_eq ?_ ?_
  · rw [rowRect_emb_row]
    show (0 + 1 * (q 0).val) % 512 = _
    have : (q 0).val < 16 := (q 0).isLt
    omega
  · rw [rowRect_emb_col]
    show ((off + 1 * (q 1).val) - off) % W = _
    have : (q 1).val < W := (q 1).isLt
    rw [Nat.one_mul, Nat.add_sub_cancel_left, Nat.mod_eq_of_lt this]

/-- The three stripes stored are the result. -/
theorem out_stored (P : Parts F) (c : Dev nD) (X : S16x2048.Idx → Elt F .f32) (inb₀ inb₁ inb₂ jnb₀ jnb₁ jnb₂) (i : S16x2048.Idx) :
    (outCols (W := 640) 1408 inb₂).overlay ((outCols (W := 640) 768 inb₁).overlay ((outCols (W := 768) 0 inb₀).overlay X
        (fun q => sums P 0 5 c ((rowRect (R := 512) (W := 768) 0 16 jnb₀).emb q)))
        (fun q => sums P 1 5 c ((rowRect (R := 512) (W := 640) 0 16 jnb₁).emb q)))
        (fun q => sums P 2 5 c ((rowRect (R := 512) (W := 640) 0 16 jnb₂).emb q)) i = outAt P c i := by
  have hi : (i 1).val < 2048 := (i 1).isLt
  unfold outAt
  by_cases h₂ : i ∈ (outCols (W := 640) 1408 inb₂).set
  · have h := (mem_outCols inb₂ i).mp h₂
    rw [if_neg (by omega), if_neg (by omega)]
    obtain ⟨q, rfl⟩ := (outCols (W := 640) 1408 inb₂).exists_idx_of_mem h₂
    refine (Rect.overlay_emb _ _ _ q).trans ?_
    exact congrArg (sums P 2 5 c) (intoStripe_emb (W := 640) (by decide) inb₂ jnb₂ q).symm
  · rw [Rect.overlay_of_not_mem _ _ _ h₂]
    rw [mem_outCols] at h₂
    by_cases h₁ : i ∈ (outCols (W := 640) 768 inb₁).set
    · have h := (mem_outCols inb₁ i).mp h₁
      rw [if_neg (by omega), if_pos (by omega)]
      obtain ⟨q, rfl⟩ := (outCols (W := 640) 768 inb₁).exists_idx_of_mem h₁
      refine (Rect.overlay_emb _ _ _ q).trans ?_
      exact congrArg (sums P 1 5 c) (intoStripe_emb (W := 640) (by decide) inb₁ jnb₁ q).symm
    · rw [Rect.overlay_of_not_mem _ _ _ h₁]
      rw [mem_outCols] at h₁
      have h₀ : i ∈ (outCols (W := 768) 0 inb₀).set := by rw [mem_outCols]; omega
      have h := (mem_outCols inb₀ i).mp h₀
      rw [if_pos (by omega)]
      obtain ⟨q, rfl⟩ := (outCols (W := 768) 0 inb₀).exists_idx_of_mem h₀
      refine (Rect.overlay_emb _ _ _ q).trans ?_
      exact congrArg (sums P 0 5 c) (intoStripe_emb (W := 768) (by decide) inb₀ jnb₀ q).symm

theorem out_held (P : Parts F) (c : Dev nD) (X : S16x2048.Idx → Elt F .f32) (inb₀ inb₁ inb₂ jnb₀ jnb₁ jnb₂) :
    (held c (stage0_2 0) Finset.univ ((outCols (W := 640) 1408 inb₂).overlay ((outCols (W := 640) 768 inb₁).overlay ((outCols (W := 768) 0 inb₀).overlay X
        (fun q => sums P 0 5 c ((rowRect (R := 512) (W := 768) 0 16 jnb₀).emb q)))
        (fun q => sums P 1 5 c ((rowRect (R := 512) (W := 640) 0 16 jnb₁).emb q)))
        (fun q => sums P 2 5 c ((rowRect (R := 512) (W := 640) 0 16 jnb₂).emb q))) : sProp 𝕄)
      ⊢ held c (stage0_2 0) Finset.univ (outAt P c) :=
  held_congr c _ fun i _ => out_stored P c X inb₀ inb₁ inb₂ jnb₀ jnb₁ jnb₂ i

omit [FloatOps F] in
theorem addCast [FloatOps F] {S : Shape} (x y : FVec F S .f32) (h : S.ShapeCasts S) (i : S.Idx) :
    shapeCast S (addf x y) h i = FloatOps.addf (φ := .f32) (x i) (y i) := by
  rw [shapeCast_self]; rfl

/-! ## Longer steps -/

section Long

variable (P : Parts F) (N : Dev nD × Site → ℕ) (c : Dev nD) {α : Type} {Q : α → sProp (MT nD τ sig Unit (Elt F) ℕ UU ℕ)} {k : PUnit → Body F α}

/-- A handshake's five payments. -/
theorem signals (h : Site) {q : Sem sig} (hq : siteLoc h = .reg q) (hb : payers h = Finset.univ) {u : ℕ} (hu : amt h = u) (l : List (Fin 5 × Site))
    {n₀ n₁ n₂ n₃ n₄ : Dev nD} (h₀ : n₀ = pt 0 c) (h₁ : n₁ = pt 1 c) (h₂ : n₂ = pt 2 c) (h₃ : n₃ = pt 3 c) (h₄ : n₄ = pt 4 c) :
    iprop(env P N ∗ owing c ((0, h) :: (1, h) :: (2, h) :: (3, h) :: (4, h) :: l) ∗ bigSep Finset.univ (greet P c h))
      ⊢ iprop((owing c l -∗ runs c (k ⟨⟩) Q)
        -∗ runs c (.op (.semSignal (n₀, (c : Thread nD τ).2) q u) fun _ => .op (.semSignal (n₁, (c : Thread nD τ).2) q u) fun _ =>
            .op (.semSignal (n₂, (c : Thread nD τ).2) q u) fun _ => .op (.semSignal (n₃, (c : Thread nD τ).2) q u) fun _ =>
            .op (.semSignal (n₄, (c : Thread nD τ).2) q u) k) Q) := by
  rw [← progress_start (greet P c h) (fun _ => iprop(emp))]
  have hb' : ∀ b : Fin 5, b ∈ payers h := fun b => hb ▸ Finset.mem_univ b
  iintro ⟨#He, HO, Hp⟩ Hk
  iapply (signal_step P N c h 0 h₀ hq (hb' 0) hu 0 rfl ((1, h) :: (2, h) :: (3, h) :: (4, h) :: l)) $$ [HO Hp]
  · isplitr; · iexact He
    isplitl [HO]; · iexact HO
    iexact Hp
  iintro ⟨HO, Hp⟩
  iapply (signal_step P N c h 1 h₁ hq (hb' 1) hu 1 rfl ((2, h) :: (3, h) :: (4, h) :: l)) $$ [HO Hp]
  · isplitr; · iexact He
    isplitl [HO]; · iexact HO
    iexact Hp
  iintro ⟨HO, Hp⟩
  iapply (signal_step P N c h 2 h₂ hq (hb' 2) hu 2 rfl ((3, h) :: (4, h) :: l)) $$ [HO Hp]
  · isplitr; · iexact He
    isplitl [HO]; · iexact HO
    iexact Hp
  iintro ⟨HO, Hp⟩
  iapply (signal_step P N c h 3 h₃ hq (hb' 3) hu 3 rfl ((4, h) :: l)) $$ [HO Hp]
  · isplitr; · iexact He
    isplitl [HO]; · iexact HO
    iexact Hp
  iintro ⟨HO, Hp⟩
  iapply (signal_step P N c h 4 h₄ hq (hb' 4) hu 4 rfl l) $$ [HO Hp]
  · isplitr; · iexact He
    isplitl [HO]; · iexact HO
    iexact Hp
  iintro ⟨HO, -⟩
  iapply Hk
  iexact HO

/-- A stripe's partial product, made and stored. -/
theorem product_step {W : ℕ} (m₀ : Memref sig .tc .vmem S512x512 .f32) (m₁ : Memref sig .tc .vmem S512x2048 .f32) (m₆ : Memref sig .tc .vmem S512x512 .f32)
    (m₃ : Memref sig .tc .vmem ⟨2, ![512, W]⟩ .f32) (X : S512x512.Idx → Elt F .f32) (Y : S512x2048.Idx → Elt F .f32) (r : Rect S512x2048)
    {inb : ∀ a : Fin 2, (![0, 0] : Fin 2 → ℕ) a + (⟨2, ![512, 512]⟩ : Shape).size a ≤ (⟨2, ![512, 512]⟩ : Shape).size a}
    {inb' : ∀ a : Fin 2, (![0, 0] : Fin 2 → ℕ) a + (⟨2, ![512, W]⟩ : Shape).size a ≤ (⟨2, ![512, W]⟩ : Shape).size a}
    {w : (S512x512.Idx → Elt F .f32) → S512x512.Idx → Elt F .f32}
    {w' : (S512x512.Idx → Elt F .f32) → (r.shape.Idx → Elt F .f32) → (⟨2, ![512, W]⟩ : Shape).Idx → Elt F .f32}
    {a₁ : m₀.view.LoadsAt (rowRect 0 512 inb).toLoadRect} {a₂ a₅ : m₆.view.LoadsAt (rowRect 0 512 inb).toLoadRect}
    {a₃ : (m₆.access (rowRect 0 512 inb)).Stores Finset.univ}
    {a₄ : (Finset.univ : Finset (rowRect 0 512 inb).shape.Idx) = Finset.univ ∨ ∀ a, (rowRect 0 512 inb).stride a = 1}
    {a₆ : m₁.view.LoadsAt r.toLoadRect} {a₇ : m₃.view.LoadsAt (rowRect 0 512 inb').toLoadRect} {a₈ : (m₃.access (rowRect 0 512 inb')).Stores Finset.univ}
    {a₉ : (Finset.univ : Finset (rowRect 0 512 inb').shape.Idx) = Finset.univ ∨ ∀ a, (rowRect 0 512 inb').stride a = 1} :
    iprop(held c m₀ Finset.univ X ∗ held c m₁ Finset.univ Y ∗ heldAny c m₆ Finset.univ ∗ heldAny c m₃ Finset.univ)
      ⊢ iprop(((held c m₀ Finset.univ X ∗ held c m₁ Finset.univ Y ∗ heldAny c m₆ Finset.univ
            ∗ held c m₃ Finset.univ (w' (w X) fun q => Y (r.emb q))) -∗ runs c (k ⟨⟩) Q)
        -∗ runs c (.op (.load m₀ (rowRect 0 512 inb).toLoadRect a₁) fun x => .op (.load m₆ (rowRect 0 512 inb).toLoadRect a₂) fun _ =>
            .op (.store m₆ (rowRect 0 512 inb) (w x) Finset.univ a₃ a₄) fun _ => .op (.load m₆ (rowRect 0 512 inb).toLoadRect a₅) fun p =>
            .op (.load m₁ r.toLoadRect a₆) fun y => .op (.load m₃ (rowRect 0 512 inb').toLoadRect a₇) fun _ =>
            .op (.store m₃ (rowRect 0 512 inb') (w' p y) Finset.univ a₈ a₉) k) Q) := by
  have hX : (fun q => X ((rowRect (R := 512) (W := 512) 0 512 inb).emb q)) = X := funext fun q => congrArg X (whole_emb inb q)
  unfold heldAny
  iintro ⟨H₀, H₁, ⟨%V, H₆⟩, ⟨%Z, H₃⟩⟩ Hk
  iapply (held_load c m₀ _ (Finset.subset_univ _)) $$ H₀
  iintro H₀
  rw [hX]
  iapply (held_load c m₆ _ (Finset.subset_univ _)) $$ H₆
  iintro H₆
  iapply (held_store c m₆ _ (Finset.subset_univ _) _) $$ H₆
  rw [whole_overlay inb V (w X)]
  iintro H₆
  iapply (held_load c m₆ _ (Finset.subset_univ _)) $$ H₆
  rw [show (fun q => w X ((rowRect (R := 512) (W := 512) 0 512 inb).emb q)) = w X from funext fun q => congrArg (w X) (whole_emb inb q)]
  iintro H₆
  iapply (held_load c m₁ r (Finset.subset_univ _)) $$ H₁
  iintro H₁
  iapply (held_load c m₃ _ (Finset.subset_univ _)) $$ H₃
  iintro H₃
  iapply (held_store c m₃ _ (Finset.subset_univ _) _) $$ H₃
  rw [whole_overlay inb' Z (w' (w X) fun q => Y (r.emb q))]
  iintro H₃
  iapply Hk
  isplitl [H₀]; · iexact H₀
  isplitl [H₁]; · iexact H₁
  isplitl [H₆]; · iexists (w X); iexact H₆
  iexact H₃

/-- Finished rows, stored in the result. -/
theorem copy_step {sh sh' : Shape} (m : Memref sig .tc .vmem sh .f32) (m' : Memref sig .tc .vmem sh' .f32) (r : Rect sh) (r' : Rect sh')
    {S : Finset sh.Idx} (X : sh.Idx → Elt F .f32) (Y : sh'.Idx → Elt F .f32) {w : (r.shape.Idx → Elt F .f32) → r'.shape.Idx → Elt F .f32} (hS : r.set ⊆ S)
    {h₁ : m.view.LoadsAt r.toLoadRect} {h₂ : m'.view.LoadsAt r'.toLoadRect} {hx : (m'.access r').Stores Finset.univ}
    {hm : (Finset.univ : Finset r'.shape.Idx) = Finset.univ ∨ ∀ a, r'.stride a = 1} :
    (iprop(held c m S X ∗ held c m' Finset.univ Y) : sProp 𝕄)
      ⊢ iprop(((held c m S X ∗ held c m' Finset.univ (r'.overlay Y (w fun q => X (r.emb q)))) -∗ runs c (k ⟨⟩) Q)
        -∗ runs c (.op (.load m r.toLoadRect h₁) fun x => .op (.load m' r'.toLoadRect h₂) fun _ => .op (.store m' r' (w x) Finset.univ hx hm) k) Q) := by
  iintro ⟨H, H'⟩ Hk
  iapply (held_load c m r hS) $$ H
  iintro H
  iapply (held_load c m' r' (Finset.subset_univ _)) $$ H'
  iintro H'
  iapply (held_store c m' r' (Finset.subset_univ _) _) $$ H'
  iintro H'
  iapply Hk
  isplitl [H]; · iexact H
  iexact H'

/-- The credit of a stage's transfer, counted at the rows sent. -/
theorem half_credit (s : Fin 3) (j : Fin 5) : (half s j).view.dmaCredit = cr s j := rfl

/-- What a device holds back when the rows it sent at stages before `m` have left, stripe by stripe. -/
def backs (m : ℕ) : sProp 𝕄 := iprop(progress m (sent c 0) (back c 0) ∗ progress m (sent c 1) (back c 1) ∗ progress m (sent c 2) (back c 2))

/-- A stage's three waits for the rows sent. -/
theorem backs_step (j : Fin 5) (m : ℕ) (hm : j.val = m) (l : List (Fin 5 × Site)) (hl : ∀ p ∈ l, 0 < level p.2)
    {q₀ q₁ q₂ : DmaSem sig} (h₀ : q₀ = sendQ 0 j) (h₁ : q₁ = sendQ 1 j) (h₂ : q₂ = sendQ 2 j)
    {a₀ a₁ a₂ : Shape} {s₀ : Memref sig .tc .vmem a₀ .f32} {s₁ : Memref sig .tc .vmem a₁ .f32} {s₂ : Memref sig .tc .vmem a₂ .f32}
    {x₀ : s₀.view.WordExact} {y₀ : (half 0 j).view.WordExact} {x₁ : s₁.view.WordExact} {y₁ : (half 1 j).view.WordExact}
    {x₂ : s₂.view.WordExact} {y₂ : (half 2 j).view.WordExact} :
    iprop(env P N ∗ owing c l ∗ backs c m)
      ⊢ iprop(((owing c l ∗ backs c (m + 1)) -∗ runs c (k ⟨⟩) Q)
        -∗ runs c (.op (.waitDma2 q₀ s₀ (half 0 j) x₀ y₀) fun _ => .op (.waitDma2 q₁ s₁ (half 1 j) x₁ y₁) fun _ => .op (.waitDma2 q₂ s₂ (half 2 j) x₂ y₂) k) Q) := by
  unfold backs
  iintro ⟨#He, HO, H₀, H₁, H₂⟩ Hk
  iapply (back_step P N c 0 j m hm l hl h₀ (half_credit 0 j)) $$ [HO H₀]
  · isplitr; · iexact He
    isplitl [HO]; · iexact HO
    iexact H₀
  iintro ⟨HO, H₀⟩
  iapply (back_step P N c 1 j m hm l hl h₁ (half_credit 1 j)) $$ [HO H₁]
  · isplitr; · iexact He
    isplitl [HO]; · iexact HO
    iexact H₁
  iintro ⟨HO, H₁⟩
  iapply (back_step P N c 2 j m hm l hl h₂ (half_credit 2 j)) $$ [HO H₂]
  · isplitr; · iexact He
    isplitl [HO]; · iexact HO
    iexact H₂
  iintro ⟨HO, H₂⟩
  iapply Hk
  isplitl [HO]; · iexact HO
  isplitl [H₀]; · iexact H₀
  isplitl [H₁]; · iexact H₁
  iexact H₂

end Long

/-! ## Regrouping -/

/-- A stripe's stages and the partners met at them. -/
def ordEquiv (s : Fin 3) : Fin 5 ≃ Fin 5 := ⟨ord s, ordInv s, ordInv_ord s, ord_ordInv s⟩

omit [FloatOps F] in
theorem by_stage (c : Dev nD) (s : Fin 3) :
    (bigSep Finset.univ fun b : Fin 5 => free (F := F) s (ordInv s b) (pt b c)) = bigSep Finset.univ fun j : Fin 5 => free s j (pa s j c) := by
  rw [bigSep_univ_equiv (ordEquiv s)]
  refine bigSep_congr fun j _ => ?_
  show free s (ordInv s (ord s j)) (pt (ord s j) c) = _
  rw [ordInv_ord]

/-- The landing buffers that the handshake brings, stripe by stripe. -/
theorem greeted (P : Parts F) (c : Dev nD) : (bigSep (payers .bar) fun b => pay P c .bar b)
    ⊢ iprop((bigSep Finset.univ fun j : Fin 5 => free (F := F) 0 j (pa 0 j c)) ∗ (bigSep Finset.univ fun j : Fin 5 => free (F := F) 1 j (pa 1 j c))
        ∗ bigSep Finset.univ fun j : Fin 5 => free (F := F) 2 j (pa 2 j c)) := by
  rw [← by_stage, ← by_stage, ← by_stage]
  show (bigSep Finset.univ fun b : Fin 5 => iprop(free (F := F) 0 (ordInv 0 b) (pt b c) ∗ free 1 (ordInv 1 b) (pt b c) ∗ free 2 (ordInv 2 b) (pt b c))) ⊢ _
  rw [bigSep_sep', bigSep_sep']

theorem make_ready (c : Dev nD) (s : Fin 3) : iprop((bigSep Finset.univ (right (F := F) c s)) ∗ bigSep Finset.univ fun j : Fin 5 => free (F := F) s j (pa s j c))
    ⊢ progress 0 (ready c s) (sent c s) := by
  rw [progress_start, ← bigSep_sep']
  exact Entails.of_eq rfl

/-- What a device brings for one stripe, -/
def fore (c : Dev nD) (s : Fin 3) : sProp 𝕄 :=
  iprop(heldAny c (wb s) Finset.univ ∗ bigSep Finset.univ (fun j : Fin 5 => await c (.recv s j)) ∗ bigSep Finset.univ (right c s))
/-- and what it takes away. -/
def aft (c : Dev nD) (s : Fin 3) : sProp 𝕄 :=
  iprop(heldAny c (wb s) Finset.univ ∗ bigSep Finset.univ (got c s) ∗ bigSep Finset.univ fun j : Fin 5 => closed c (.send s j))

theorem backs_start (c : Dev nD) (s : Fin 3) : (progress 5 (ready c s) (sent c s) : sProp 𝕄) ⊢ progress 0 (sent c s) (back c s) := by
  rw [progress_end, progress_start]

omit [FloatOps F] in
theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons, bigSepL_cons_cons,
    bigSepL_singleton]
  rfl

/-- A stripe's rows put together again. -/
theorem to_aft (P : Parts F) (c : Dev nD) (s : Fin 3) :
    iprop(held c (wb s) (rowsOf 0 16) (sums P s 5 c) ∗ progress 5 (fun j => await c (.recv s j)) (got c s) ∗ progress 5 (sent c s) (back c s)) ⊢ aft c s := by
  have join : ∀ a : ℕ, (iprop(heldAny c (wb s) (rowsOf 0 a) ∗ heldAny c (wb s) (rowsOf a (a + a))) : sProp 𝕄) ⊢ heldAny c (wb s) (rowsOf 0 (a + a)) :=
    fun a => heldAny_join c (wb s) (rowsOf_union (Nat.zero_le _) (Nat.le_add_left _ _)) rowsOf_disjoint
  unfold aft
  rw [progress_end, progress_end, show (bigSep Finset.univ (back (F := F) c s)) = iprop((bigSep Finset.univ fun j : Fin 5 => closed c (.send s j))
      ∗ bigSep Finset.univ fun j : Fin 5 => heldAny (F := F) c (wb s) (rowsOf (rows j) (rows j + rows j))) from bigSep_sep' _ _ _,
    five fun j : Fin 5 => heldAny (F := F) c (wb s) (rowsOf (rows j) (rows j + rows j))]
  iintro ⟨Hw, Hg, Hc, H₀, H₁, H₂, H₃, H₄⟩
  isplitl [Hw H₀ H₁ H₂ H₃ H₄]
  · ihave H := (held_any c (wb s) (rowsOf 0 16) (sums P s 5 c)) $$ Hw
    ihave H := (join 16) $$ [H H₄]
    · isplitl [H]; · iexact H
      iexact H₄
    ihave H := (join 32) $$ [H H₃]
    · isplitl [H]; · iexact H
      iexact H₃
    ihave H := (join 64) $$ [H H₂]
    · isplitl [H]; · iexact H
      iexact H₂
    ihave H := (join 128) $$ [H H₁]
    · isplitl [H]; · iexact H
      iexact H₁
    ihave H := (join 256) $$ [H H₀]
    · isplitl [H]; · iexact H
      iexact H₀
    rw [← rowsOf_univ]
    iexact H
  isplitl [Hg]; · iexact Hg
  iexact Hc

/-! ## The whole run -/

section Run

variable (x : Dev nD → S512x512.Idx → Elt F .f32) (dy : Dev nD → S512x2048.Idx → Elt F .f32) (N : Dev nD × Site → ℕ) (c : Dev nD)

/-- What a device starts its run from, -/
def bodyFrom : sProp 𝕄 :=
  iprop(env (prods x dy) N ∗ owing c plan
    ∗ held c (stage0_0 0) Finset.univ (x c) ∗ held c (stage0_1 0) Finset.univ (dy c) ∗ heldAny c (stage0_2 0) Finset.univ
    ∗ heldAny c (Memref.whole cc0_scratch3) Finset.univ
    ∗ bigSep Finset.univ (greet (prods x dy) c .bar) ∗ bigSep Finset.univ (greet (prods x dy) c .ext) ∗ await c .bar ∗ await c .ext
    ∗ fore c 0 ∗ fore c 1 ∗ fore c 2)

/-- and what it ends with. -/
def bodyTo : sProp 𝕄 :=
  iprop(owing c []
    ∗ held c (stage0_0 0) Finset.univ (x c) ∗ held c (stage0_1 0) Finset.univ (dy c)
    ∗ held c (stage0_2 0) Finset.univ (outAt (prods x dy) c) ∗ heldAny c (Memref.whole cc0_scratch3) Finset.univ
    ∗ closed c .bar ∗ closed c .ext ∗ aft c 0 ∗ aft c 1 ∗ aft c 2)

set_option maxRecDepth 10000 in
set_option maxHeartbeats 8000000 in
theorem body_run (Q : PUnit → sProp 𝕄) (t : Fin cfg0.N) : iprop(bodyFrom x dy N c ∗ (bodyTo x dy c -∗ Q ⟨⟩)) ⊢ runs c (bodyAt0 t) Q := by
  unfold bodyAt0
  rw [cc0_body_eq_skeleton]
  unfold cc0_body_skel
  refine device_part _ rfl ?_
  refine pure_part (fun v => v.1 = place c) ⟨_, rfl, ?_⟩ ?_
  · revert c; decide +kernel
  rintro ⟨v71, v72, _, v73, v78⟩ rfl
  refine pure_part (fun _ => True) ⟨_, rfl, trivial⟩ ?_
  rintro ⟨v89, v99, v116, v118⟩ -
  refine pure_part (fun _ => True) ⟨_, rfl, trivial⟩ ?_
  rintro ⟨v141, v142, v159⟩ -
  refine pure_part (fun _ => True) ⟨_, rfl, trivial⟩ ?_
  rintro ⟨v186, v196, _, v197, _⟩ -
  refine pure_part (fun _ => True) ⟨_, rfl, trivial⟩ ?_
  rintro ⟨v211, v229, v232, v237, v238⟩ -
  refine pure_part (fun _ => True) ⟨_, rfl, trivial⟩ ?_
  rintro ⟨v256, v277, v278⟩ -
  refine pure_part (fun _ => True) ⟨_, rfl, trivial⟩ ?_
  rintro ⟨v281, v299, v309, _, v310, v315, v317, v318⟩ -
  refine pure_part (fun _ => True) ⟨_, rfl, trivial⟩ ?_
  rintro ⟨v351, v352, _, v353, v358⟩ -
  refine pure_part (fun _ => True) ⟨_, rfl, trivial⟩ ?_
  rintro ⟨v369, v379, v396, v398⟩ -
  simp only [k0_part11_eq_skeleton, k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel, k0_part22_eq_skeleton, k0_part22_skel,
    k0_part23_eq_skeleton, k0_part23_skel, k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel, k0_part34_eq_skeleton, k0_part34_skel,
    k0_part35_eq_skeleton, k0_part35_skel, k0_part36_eq_skeleton, k0_part36_skel, k0_part37_eq_skeleton, k0_part37_skel, k0_part38_eq_skeleton, k0_part38_skel,
    k0_part39_eq_skeleton, k0_part39_skel, k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel, k0_part46_eq_skeleton, k0_part46_skel,
    k0_part47_eq_skeleton, k0_part47_skel, k0_part48_eq_skeleton, k0_part48_skel, k0_part49_eq_skeleton, k0_part49_skel, k0_part50_eq_skeleton, k0_part50_skel,
    k0_part51_eq_skeleton, k0_part51_skel, k0_part52_eq_skeleton, k0_part52_skel,
    Prog.bind_op, Prog.bind_ret, Prog.lift, Prog.pure_eq_ret, semSignalWord, semWaitWord]
  unfold bodyFrom fore
  iintro ⟨⟨#He, HO, Hx, Hy, Ho, Hp, Hb, He', Hwb, Hwe, ⟨Hw₀, Hr₀, Ht₀⟩, ⟨Hw₁, Hr₁, Ht₁⟩, ⟨Hw₂, Hr₂, Ht₂⟩⟩, HQ⟩
  ihave Ho := (show heldAny (F := F) c (stage0_2 0) Finset.univ ⊢ iprop(∃ Z, held c (stage0_2 0) Finset.univ Z) from Entails.of_eq rfl) $$ Ho
  icases Ho with ⟨%Z, Ho⟩
  -- the handshake
  iapply (signals (prods x dy) N c .bar rfl rfl rfl (plan.drop 5) (dev1 c) (dev2 c) (dev3 c) (dev4 c) (dev5 c)) $$ [HO Hb]
  · isplitr; · iexact He
    isplitl [HO]; · iexact HO
    iexact Hb
  iintro HO
  -- the first product
  iapply (product_step c (stage0_0 0) (stage0_1 0) (Memref.whole cc0_scratch3) (wb 0) (x c) (dy c) stripe₀) $$ [Hx Hy Hp Hw₀]
  · isplitl [Hx]; · iexact Hx
    isplitl [Hy]; · iexact Hy
    isplitl [Hp]; · iexact Hp
    iexact Hw₀
  iintro ⟨Hx, Hy, Hp, Hw₀⟩
  -- every partner is here
  iapply (wait_step (prods x dy) N c .bar (plan.drop 5) (fun _ => rfl) (by decide)) $$ [HO Hwb]
  · isplitr; · iexact He
    isplitl [HO]; · iexact HO
    iexact Hwb
  iintro ⟨HO, Hwb, Hf⟩
  ihave Hf' := (greeted (prods x dy) c) $$ Hf
  icases Hf' with ⟨Hf₀, Hf₁, Hf₂⟩
  ihave Ht₀ := (make_ready c 0) $$ [Ht₀ Hf₀]
  · isplitl [Ht₀]; · iexact Ht₀
    iexact Hf₀
  ihave Ht₁ := (make_ready c 1) $$ [Ht₁ Hf₁]
  · isplitl [Ht₁]; · iexact Ht₁
    iexact Hf₁
  ihave Ht₂ := (make_ready c 2) $$ [Ht₂ Hf₂]
  · isplitl [Ht₂]; · iexact Ht₂
    iexact Hf₂
  ihave Hr₀ := (Entails.of_eq (progress_start (fun j => await (F := F) c (.recv 0 j)) (got c 0)).symm) $$ Hr₀
  iapply (first_step (prods x dy) N c 0 (plan.drop 6) (dev6 c) rfl rfl) $$ [HO Hw₀ Hr₀ Ht₀]
  · isplitr; · iexact He
    isplitl [HO]; · iexact HO
    isplitl [Hw₀]; · iexact Hw₀
    isplitl [Hr₀]; · iexact Hr₀
    iexact Ht₀
  iintro ⟨HO, H₀⟩
  -- the second
  iapply (product_step c (stage0_0 0) (stage0_1 0) (Memref.whole cc0_scratch3) (wb 1) (x c) (dy c) stripe₁) $$ [Hx Hy Hp Hw₁]
  · isplitl [Hx]; · iexact Hx
    isplitl [Hy]; · iexact Hy
    isplitl [Hp]; · iexact Hp
    iexact Hw₁
  iintro ⟨Hx, Hy, Hp, Hw₁⟩
  ihave Hr₁ := (Entails.of_eq (progress_start (fun j => await (F := F) c (.recv 1 j)) (got c 1)).symm) $$ Hr₁
  iapply (first_step (prods x dy) N c 1 (plan.drop 7) (dev7 c) rfl rfl) $$ [HO Hw₁ Hr₁ Ht₁]
  · isplitr; · iexact He
    isplitl [HO]; · iexact HO
    isplitl [Hw₁]; · iexact Hw₁
    isplitl [Hr₁]; · iexact Hr₁
    iexact Ht₁
  iintro ⟨HO, H₁⟩
  -- and the third
  iapply (product_step c (stage0_0 0) (stage0_1 0) (Memref.whole cc0_scratch3) (wb 2) (x c) (dy c) stripe₂) $$ [Hx Hy Hp Hw₂]
  · isplitl [Hx]; · iexact Hx
    isplitl [Hy]; · iexact Hy
    isplitl [Hp]; · iexact Hp
    iexact Hw₂
  iintro ⟨Hx, Hy, Hp, Hw₂⟩
  ihave Hr₂ := (Entails.of_eq (progress_start (fun j => await (F := F) c (.recv 2 j)) (got c 2)).symm) $$ Hr₂
  iapply (first_step (prods x dy) N c 2 (plan.drop 8) (dev8 c) rfl rfl) $$ [HO Hw₂ Hr₂ Ht₂]
  · isplitr; · iexact He
    isplitl [HO]; · iexact HO
    isplitl [Hw₂]; · iexact Hw₂
    isplitl [Hr₂]; · iexact Hr₂
    iexact Ht₂
  iintro ⟨HO, H₂⟩
  -- stage 0
  iapply (stage_step (prods x dy) N c 0 0 1 rfl rfl (plan.drop 9) (by decide) (dev9 c) rfl rfl rfl
    (fun x y i => addCast x y _ i) (fun x y i => addCast x y _ i)) $$ [HO H₀]
  · isplitr; · iexact He
    isplitl [HO]; · iexact HO
    iexact H₀
  iintro ⟨HO, H₀⟩
  iapply (stage_step (prods x dy) N c 1 0 1 rfl rfl (plan.drop 10) (by decide) (dev10 c) rfl rfl rfl
    (fun x y i => addCast x y _ i) (fun x y i => addCast x y _ i)) $$ [HO H₁]
  · isplitr; · iexact He
    isplitl [HO]; · iexact HO
    iexact H₁
  iintro ⟨HO, H₁⟩
  iapply (stage_step (prods x dy) N c 2 0 1 rfl rfl (plan.drop 11) (by decide) (dev11 c) rfl rfl rfl
    (fun x y i => addCast x y _ i) (fun x y i => addCast x y _ i)) $$ [HO H₂]
  · isplitr; · iexact He
    isplitl [HO]; · iexact HO
    iexact H₂
  iintro ⟨HO, H₂⟩
  -- stage 1
  iapply (stage_step (prods x dy) N c 0 1 2 rfl rfl (plan.drop 12) (by decide) (dev12 c) rfl rfl rfl
    (fun x y i => addCast x y _ i) (fun x y i => addCast x y _ i)) $$ [HO H₀]
  · isplitr; · iexact He
    isplitl [HO]; · iexact HO
    iexact H₀
  iintro ⟨HO, H₀⟩
  iapply (stage_step (prods x dy) N c 1 1 2 rfl rfl (plan.drop 13) (by decide) (dev13 c) rfl rfl rfl
    (fun x y i => addCast x y _ i) (fun x y i => addCast x y _ i)) $$ [HO H₁]
  · isplitr; · iexact He
    isplitl [HO]; · iexact HO
    iexact H₁
  iintro ⟨HO, H₁⟩
  iapply (stage_step (prods x dy) N c 2 1 2 rfl rfl (plan.drop 14) (by decide) (dev14 c) rfl rfl rfl
    (fun x y i => addCast x y _ i) (fun x y i => addCast x y _ i)) $$ [HO H₂]
  · isplitr; · iexact He
    isplitl [HO]; · iexact HO
    iexact H₂
  iintro ⟨HO, H₂⟩
  -- stage 2
  iapply (stage_step (prods x dy) N c 0 2 3 rfl rfl (plan.drop 15) (by decide) (dev15 c) rfl rfl rfl
    (fun x y i => addCast x y _ i) (fun x y i => addCast x y _ i)) $$ [HO H₀]
  · isplitr; · iexact He
    isplitl [HO]; · iexact HO
    iexact H₀
  iintro ⟨HO, H₀⟩
  iapply (stage_step (prods x dy) N c 1 2 3 rfl rfl (plan.drop 16) (by decide) (dev16 c) rfl rfl rfl
    (fun x y i => addCast x y _ i) (fun x y i => addCast x y _ i)) $$ [HO H₁]
  · isplitr; · iexact He
    isplitl [HO]; · iexact HO
    iexact H₁
  iintro ⟨HO, H₁⟩
  iapply (stage_step (prods x dy) N c 2 2 3 rfl rfl (plan.drop 17) (by decide) (dev17 c) rfl rfl rfl
    (fun x y i => addCast x y _ i) (fun x y i => addCast x y _ i)) $$ [HO H₂]
  · isplitr; · iexact He
    isplitl [HO]; · iexact HO
    iexact H₂
  iintro ⟨HO, H₂⟩
  -- stage 3
  iapply (stage_step (prods x dy) N c 0 3 4 rfl rfl (plan.drop 18) (by decide) (dev18 c) rfl rfl rfl
    (fun x y i => addCast x y _ i) (fun x y i => addCast x y _ i)) $$ [HO H₀]
  · isplitr; · iexact He
    isplitl [HO]; · iexact HO
    iexact H₀
  iintro ⟨HO, H₀⟩
  iapply (stage_step (prods x dy) N c 1 3 4 rfl rfl (plan.drop 19) (by decide) (dev19 c) rfl rfl rfl
    (fun x y i => addCast x y _ i) (fun x y i => addCast x y _ i)) $$ [HO H₁]
  · isplitr; · iexact He
    isplitl [HO]; · iexact HO
    iexact H₁
  iintro ⟨HO, H₁⟩
  iapply (stage_step (prods x dy) N c 2 3 4 rfl rfl (plan.drop 20) (by decide) (dev20 c) rfl rfl rfl
    (fun x y i => addCast x y _ i) (fun x y i => addCast x y _ i)) $$ [HO H₂]
  · isplitr; · iexact He
    isplitl [HO]; · iexact HO
    iexact H₂
  iintro ⟨HO, H₂⟩
  -- the last stage
  iapply (last_step (prods x dy) N c 0 4 (plan.drop 20) (by decide) rfl (fun x y i => addCast x y _ i) 5) $$ [HO H₀]
  · isplitr; · iexact He
    isplitl [HO]; · iexact HO
    iexact H₀
  iintro ⟨HO, H₀⟩
  iapply (last_step (prods x dy) N c 1 4 (plan.drop 20) (by decide) rfl (fun x y i => addCast x y _ i) 5) $$ [HO H₁]
  · isplitr; · iexact He
    isplitl [HO]; · iexact HO
    iexact H₁
  iintro ⟨HO, H₁⟩
  iapply (last_step (prods x dy) N c 2 4 (plan.drop 20) (by decide) rfl (fun x y i => addCast x y _ i) 5) $$ [HO H₂]
  · isplitr; · iexact He
    isplitl [HO]; · iexact HO
    iexact H₂
  iintro ⟨HO, H₂⟩
  unfold line
  icases H₀ with ⟨Hw₀, Hr₀, Ht₀⟩
  icases H₁ with ⟨Hw₁, Hr₁, Ht₁⟩
  icases H₂ with ⟨Hw₂, Hr₂, Ht₂⟩
  -- the result
  iapply (copy_step c (wb 0) (stage0_2 0) (rowRect 0 16 inb_S512x768_S16x768_0_0) (outCols (W := 768) 0 inb_S16x2048_S16x768_0_0) (sums (prods x dy) 0 5 c) _
    (by rw [rowRect_set])) $$ [Hw₀ Ho]
  · isplitl [Hw₀]; · iexact Hw₀
    iexact Ho
  iintro ⟨Hw₀, Ho⟩
  iapply (copy_step c (wb 1) (stage0_2 0) (rowRect 0 16 inb_S512x640_S16x640_0_0) (outCols (W := 640) 768 inb_S16x2048_S16x640_0_768) (sums (prods x dy) 1 5 c) _
    (by rw [rowRect_set])) $$ [Hw₁ Ho]
  · isplitl [Hw₁]; · iexact Hw₁
    iexact Ho
  iintro ⟨Hw₁, Ho⟩
  iapply (copy_step c (wb 2) (stage0_2 0) (rowRect 0 16 inb_S512x640_S16x640_0_0) (outCols (W := 640) 1408 inb_S16x2048_S16x640_0_1408) (sums (prods x dy) 2 5 c) _
    (by rw [rowRect_set])) $$ [Hw₂ Ho]
  · isplitl [Hw₂]; · iexact Hw₂
    iexact Ho
  iintro ⟨Hw₂, Ho⟩
  -- the rows sent have left
  ihave Ht₀ := (backs_start c 0) $$ Ht₀
  ihave Ht₁ := (backs_start c 1) $$ Ht₁
  ihave Ht₂ := (backs_start c 2) $$ Ht₂
  ihave Hs := (show iprop(progress 0 (sent c 0) (back c 0) ∗ progress 0 (sent c 1) (back c 1) ∗ progress 0 (sent c 2) (back c 2)) ⊢ backs (F := F) c 0
    from Entails.of_eq rfl) $$ [Ht₀ Ht₁ Ht₂]
  · isplitl [Ht₀]; · iexact Ht₀
    isplitl [Ht₁]; · iexact Ht₁
    iexact Ht₂
  iapply (backs_step (prods x dy) N c 0 0 rfl (plan.drop 20) (by decide) rfl rfl rfl) $$ [HO Hs]
  · isplitr; · iexact He
    isplitl [HO]; · iexact HO
    iexact Hs
  iintro ⟨HO, Hs⟩
  iapply (backs_step (prods x dy) N c 1 1 rfl (plan.drop 20) (by decide) rfl rfl rfl) $$ [HO Hs]
  · isplitr; · iexact He
    isplitl [HO]; · iexact HO
    iexact Hs
  iintro ⟨HO, Hs⟩
  iapply (backs_step (prods x dy) N c 2 2 rfl (plan.drop 20) (by decide) rfl rfl rfl) $$ [HO Hs]
  · isplitr; · iexact He
    isplitl [HO]; · iexact HO
    iexact Hs
  iintro ⟨HO, Hs⟩
  iapply (backs_step (prods x dy) N c 3 3 rfl (plan.drop 20) (by decide) rfl rfl rfl) $$ [HO Hs]
  · isplitr; · iexact He
    isplitl [HO]; · iexact HO
    iexact Hs
  iintro ⟨HO, Hs⟩
  iapply (backs_step (prods x dy) N c 4 4 rfl (plan.drop 20) (by decide) rfl rfl rfl) $$ [HO Hs]
  · isplitr; · iexact He
    isplitl [HO]; · iexact HO
    iexact Hs
  iintro ⟨HO, Hs⟩
  unfold backs
  icases Hs with ⟨Ht₀, Ht₁, Ht₂⟩
  -- the handshake at the end
  iapply (signals (prods x dy) N c .ext rfl rfl rfl [] (dev21 c) (dev22 c) (dev23 c) (dev24 c) (dev25 c)) $$ [HO He']
  · isplitr; · iexact He
    isplitl [HO]; · iexact HO
    iexact He'
  iintro HO
  iapply (wait_step (prods x dy) N c .ext [] (fun _ => rfl) (by decide)) $$ [HO Hwe]
  · isplitr; · iexact He
    isplitl [HO]; · iexact HO
    iexact Hwe
  iintro ⟨HO, Hwe, -⟩
  rw [runs, wp_ret]
  imodintro
  iapply HQ
  unfold bodyTo
  isplitl [HO]; · iexact HO
  isplitl [Hx]; · iexact Hx
  isplitl [Hy]; · iexact Hy
  isplitl [Ho]
  · iapply (out_held (prods x dy) c Z inb_S16x2048_S16x768_0_0 inb_S16x2048_S16x640_0_768 inb_S16x2048_S16x640_0_1408
      inb_S512x768_S16x768_0_0 inb_S512x640_S16x640_0_0 inb_S512x640_S16x640_0_0)
    iexact Ho
  isplitl [Hp]; · iexact Hp
  isplitl [Hwb]; · iexact Hwb
  isplitl [Hwe]; · iexact Hwe
  isplitl [Hw₀ Hr₀ Ht₀]
  · iapply (to_aft (prods x dy) c 0)
    isplitl [Hw₀]; · iexact Hw₀
    isplitl [Hr₀]; · iexact Hr₀
    iexact Ht₀
  isplitl [Hw₁ Hr₁ Ht₁]
  · iapply (to_aft (prods x dy) c 1)
    isplitl [Hw₁]; · iexact Hw₁
    isplitl [Hr₁]; · iexact Hr₁
    iexact Ht₁
  iapply (to_aft (prods x dy) c 2)
  isplitl [Hw₂]; · iexact Hw₂
  isplitl [Hr₂]; · iexact Hr₂
  iexact Ht₂

end Run

end Cert.Halving

end
-- ==== Proof.Ghost.lean ====
/-
  What the launch deals: every semaphore's place in the schedule, the rights to pay dealt to those who pay, the credit of
  every wait, and the buffers and semaphores of a device sorted by what they are for.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sorting by use -/

omit [FloatOps F] in
/-- Over all uses: the handshakes, the leavings and the landings. -/
theorem by_site (Φ : Site → sProp 𝕄) : bigSep Finset.univ Φ
    = iprop((Φ .bar ∗ Φ .ext) ∗ (bigSep Finset.univ fun q : Fin 3 × Fin 5 => Φ (.send q.1 q.2)) ∗ bigSep Finset.univ fun q : Fin 3 × Fin 5 => Φ (.recv q.1 q.2)) := by
  rw [bigSep_univ_equiv siteEquiv, bigSep_univ_sum, bigSep_univ_prod, bigSep_univ_eq_bigSepL [false, true] (by decide) (by decide),
    bigSep_univ_eq_bigSepL [false, true] (by decide) (by decide)]
  rfl

omit [FloatOps F] in
/-- Over all stripes and stages, stripe by stripe. -/
theorem by_stripe (Φ : Fin 3 × Fin 5 → sProp 𝕄) : bigSep Finset.univ Φ
    = iprop((bigSep Finset.univ fun j : Fin 5 => Φ (0, j)) ∗ (bigSep Finset.univ fun j : Fin 5 => Φ (1, j)) ∗ bigSep Finset.univ fun j : Fin 5 => Φ (2, j)) := by
  rw [bigSep_univ_prod, bigSep_univ_eq_bigSepL [0, 1, 2] (by decide) (by decide)]
  rfl

/-! ## Semaphores -/

/-- The semaphores that are the kernel's own: all but the entry handshake's. -/
abbrev ownSite : {k : Site // k ≠ .bar} → SemLoc sig := fun k => siteLoc k.1

theorem ownSemFacts : Pipeline.OwnSemFacts cfg0.spec ownSite where
  isScoped := fun ⟨k, hk⟩ => (by decide : ∀ k : Site, k ≠ .bar → (siteLoc k).isScoped .tc = true) k hk
  inj := fun k k' h => Subtype.ext (siteLoc_injective h)
  disj := fun ⟨k, _⟩ => (by decide : ∀ (k : Site) (w : Fin 3) (s : Fin (cfg0.spec w).nbuf), siteLoc k ≠ .dma ((cfg0.spec w).sem s)) k

omit [FloatOps F] in
theorem unscoped_sem (c : Dev nD) : (unscopedSems0 c : sProp 𝕄) = closed c .bar := by
  unfold unscopedSems0; rw [bigSep_eq_bigSepL_of_eq [siteLoc .bar] (by decide) (by decide)]; rfl

omit [FloatOps F] in
/-- A device's semaphores at zero, all together. -/
theorem all_closed (c : Dev nD) : (bigSep Finset.univ (fun k : Site => closed (F := F) c k) : sProp 𝕄)
    = iprop(unscopedSems0 c ∗ Pipeline.ownSems0 (Ix := Unit) (Name := ℕ) (U := UU) (Lvl := ℕ) (Val := Elt F) (τ := τ) ownSite c) := by
  rw [unscoped_sem, bigSep_univ_split Site.bar]
  unfold Pipeline.ownSems0
  rw [← bigSep_subtype_ne Site.bar fun k : Site => (closed c k : sProp 𝕄)]
  rfl

/-! ## Buffers -/

omit [FloatOps F] in
/-- A whole buffer at values not stated. -/
theorem whole_any (c : Dev nD) {sh : Shape} {e : EltTy} (m : Memref sig .tc .vmem sh e) (h : m.view.set = Finset.univ) :
    (heldAny c m Finset.univ : sProp 𝕄)
      = iprop(∃ f : Buf (Elt F) ((c : Thread nD τ).loc m.view.ref), ((c : Thread nD τ).loc m.view.ref) ↦{fullShare} f) := by
  unfold heldAny held
  rw [View.setOn_univ, h]
  refine equiv_iff.mp ⟨?_, ?_⟩
  · show iprop(∃ X : sh.Idx → Elt F e, ∃ f : Buf (Elt F) (m.view.loc (c : Thread nD τ)), ⌜∀ i ∈ Finset.univ, m.view.read (Elt F) f i = X i⌝
      ∗ (m.view.loc (c : Thread nD τ) ↦{fullShare} f)) ⊢ iprop(∃ f : Buf (Elt F) (m.view.loc (c : Thread nD τ)), m.view.loc (c : Thread nD τ) ↦{fullShare} f)
    iintro ⟨%X, %f, -, H⟩
    iexists f; iexact H
  · show iprop(∃ f : Buf (Elt F) (m.view.loc (c : Thread nD τ)), m.view.loc (c : Thread nD τ) ↦{fullShare} f)
      ⊢ iprop(∃ X : sh.Idx → Elt F e, ∃ f : Buf (Elt F) (m.view.loc (c : Thread nD τ)), ⌜∀ i ∈ Finset.univ, m.view.read (Elt F) f i = X i⌝
        ∗ (m.view.loc (c : Thread nD τ) ↦{fullShare} f))
    iintro ⟨%f, H⟩
    iexists (m.view.read (Elt F) f), f
    isplitr; · ipureintro; exact fun _ _ => rfl
    iexact H

theorem rb_set (s : Fin 3) (j : Fin 5) : (rb s j).view.set = Finset.univ := by
  fin_cases s <;> fin_cases j <;> exact View.set_whole _

/-- The buffers of the body: the three that gather, the one for the ordered block, and the landings. -/
abbrev bufOf : Fin 4 ⊕ Fin 3 × Fin 5 → Ref sig .tc
  | .inl a => ![cc0_scratch0, cc0_scratch1, cc0_scratch2, cc0_scratch3] a
  | .inr q => (rb q.1 q.2).view.ref

theorem bufOf_injective : Function.Injective bufOf := by decide

omit [FloatOps F] in
/-- A device's scratch. -/
theorem scratch_eq (c : Dev nD) : (Pipeline.scopedRest (Ix := Unit) (Name := ℕ) (U := UU) (Lvl := ℕ) (Val := Elt F) spec0 c : sProp 𝕄)
    = iprop((heldAny c (wb 0) Finset.univ ∗ heldAny c (wb 1) Finset.univ ∗ heldAny c (wb 2) Finset.univ
        ∗ heldAny c (Memref.whole cc0_scratch3 : Memref sig .tc .vmem _ _) Finset.univ)
      ∗ (bigSep Finset.univ fun j : Fin 5 => free 0 j c) ∗ (bigSep Finset.univ fun j : Fin 5 => free 1 j c) ∗ bigSep Finset.univ fun j : Fin 5 => free 2 j c) := by
  unfold Pipeline.scopedRest
  rw [show ((Finset.univ.filter fun b : Ref sig .tc => b.isScoped) \ Finset.univ.image (Pipeline.stageRef spec0))
      = Finset.univ.map ⟨bufOf, bufOf_injective⟩ by decide, bigSep_map, bigSep_univ_sum,
    bigSep_univ_eq_bigSepL [0, 1, 2, 3] (by decide) (by decide),
    whole_any c (wb 0) (View.set_whole _), whole_any c (wb 1) (View.set_whole _), whole_any c (wb 2) (View.set_whole _), whole_any c (Memref.whole cc0_scratch3) (View.set_whole _)]
  rw [← by_stripe fun q : Fin 3 × Fin 5 => free q.1 q.2 c,
    show (bigSep Finset.univ fun q : Fin 3 × Fin 5 => free (F := F) q.1 q.2 c) = bigSep Finset.univ fun q : Fin 3 × Fin 5 =>
        iprop(∃ f : Buf (Elt F) ((c : Thread nD τ).loc (bufOf (.inr q))), ((c : Thread nD τ).loc (bufOf (.inr q))) ↦{fullShare} f)
      from bigSep_congr fun q _ => whole_any c (rb q.1 q.2) (rb_set q.1 q.2)]
  rfl

/-! ## The credit of every wait -/

/-- The units that the devices owe a semaphore between them. -/
def credit : Site → ℕ
  | .bar => 5
  | .ext => 5
  | .send _ _ => 0
  | .recv s j => cr s j

omit [FloatOps F] in
/-- The devices' payments of one plan into one semaphore, as many as the plan has for its use. -/
theorem sum_owe (c : Dev nD) (k : Site) (l : List (Fin 5 × Site)) :
    (∑ d : Dev nD, owe d l (cell c k) ()) = (l.map Prod.snd).count k * amt k := by
  induction l with
  | nil => exact (Finset.sum_eq_zero fun d _ => rfl).trans (Nat.zero_mul _).symm
  | cons p l ih =>
    have one : ∀ d : Dev nD, tallyAt (cell (pt p.1 d) p.2) () (amt p.2) (cell c k) () = if d = pt p.1 c ∧ p.2 = k then amt k else 0 := fun d => by
      rw [tallyAt_apply]
      by_cases h : d = pt p.1 c ∧ p.2 = k
      · obtain ⟨rfl, rfl⟩ := h
        rw [pt_pt, if_pos ⟨rfl, rfl⟩, if_pos ⟨rfl, rfl⟩]
      · rw [if_neg h, if_neg fun e => h ?_]
        obtain ⟨e₁, e₂⟩ := cell_eq_iff.mp e.1
        exact ⟨by rw [e₁, pt_pt], e₂.symm⟩
    rw [Finset.sum_congr rfl fun d _ => show owe d (p :: l) (cell c k) () = owe d l (cell c k) () + (if d = pt p.1 c ∧ p.2 = k then amt k else 0) by
        rw [owe, Pi.add_apply, Finsupp.add_apply, one], Finset.sum_add_distrib, ih, List.map_cons, List.count_cons, Nat.add_mul]
    refine congrArg _ ?_
    by_cases hk : p.2 = k
    · rw [if_pos (by rw [hk]; exact beq_self_eq_true k), Nat.one_mul, Finset.sum_congr rfl fun d _ => show _ = if d = pt p.1 c then amt k else 0 by
        simp only [hk, and_true]]
      rw [Finset.sum_ite_eq' Finset.univ (pt p.1 c) fun _ => amt k, if_pos (Finset.mem_univ _)]
    · rw [if_neg (by rw [beq_iff_eq]; exact hk), Nat.zero_mul]
      exact Finset.sum_eq_zero fun d _ => if_neg fun h => hk h.2

theorem plan_credit (k : Site) : (plan.map Prod.snd).count k * amt k = credit k := by
  have count : ∀ k : Site, (plan.map Prod.snd).count k = match k with
    | .bar => 5 | .ext => 5 | .send _ _ => 0 | .recv _ _ => 1 := by decide
  rw [count]
  cases k with
  | bar => rfl
  | ext => rfl
  | send s j => exact Nat.zero_mul _
  | recv s j => exact Nat.one_mul _

/-- What the launch owes a device. -/
abbrev owed (c : Dev nD) : CellTallies nD τ sig Unit := owe c plan

omit [FloatOps F] in
theorem launch_credit (c : Dev nD) (k : Site) :
    tallyOn (cell c k) (launchCredit (Pipeline.owing owed) 0 (cell c k)) = (tallyAt (cell c k) () (credit k) : CellTallies nD τ sig Unit) := by
  unfold tallyAt; refine congrArg _ (Finsupp.ext fun u => ?_); cases u
  rw [Pipeline.launchCredit_owing, Finsupp.single_eq_same, sum_owe, plan_credit]

omit [FloatOps F] in
theorem credits (c : Dev nD) : (Pipeline.launchCred owed c : sProp 𝕄)
    ⊢ bigSep Finset.univ fun k : Site => cred (tallyAt (cell c k) () (credit k)) := by
  unfold Pipeline.launchCred
  refine (bigSep_subset (Finset.subset_univ (Finset.univ.map ⟨siteLoc, siteLoc_injective⟩))).trans ?_
  rw [bigSep_map]
  exact bigSep_mono fun k _ => Entails.of_eq (congrArg cred (launch_credit c k))

/-! ## The rights dealt out -/

/-- Where the right to pay into a semaphore of device `c` goes: to the partner who pays. -/
def payer : Site → Fin 5 → Dev nD ≃ Dev nD
  | .bar, b => swap b
  | .ext, b => swap b
  | .send _ _, _ => Equiv.refl _
  | .recv s j, _ => swap (ord s j)

/-- The names of all payments. -/
abbrev payName (q : Dev nD × Site × Fin 5) : GSem nD τ sig × ℕ × Fin 5 := (cell q.1 q.2.1, 0, q.2.2)

theorem payName_injective : Function.Injective payName := by
  rintro ⟨c, k, b⟩ ⟨c', k', b'⟩ h
  obtain ⟨h₁, h₂⟩ := Prod.mk.inj h
  obtain ⟨rfl, rfl⟩ := cell_eq_iff.mp h₁
  rw [show b = b' from (Prod.mk.inj h₂).2]

def allCells : Finset (GSem nD τ sig) := Finset.univ.map ⟨fun p : Dev nD × Site => cell p.1 p.2, cell_injective⟩
def allPays : Finset (GSem nD τ sig × ℕ × Fin 5) := Finset.univ.map ⟨payName, payName_injective⟩

/-- The launch's element. -/
def u₀ : UU := (initOf (Pipeline.cells cfgs cellOf_inj) (Pipeline.launchToks cfgs cellOf_inj), initOf allCells allPays)

section Deal

variable (P : Parts F)

/-- What the launch's element deals a device. -/
def dealt (c : Dev nD) : sProp 𝕄 :=
  iprop((bigSep Finset.univ fun k : Site => roundState ER (rd P) (cell c k) 0) ∗ (bigSep Finset.univ fun k : Site => reached ER (cell c k) 0)
    ∗ (bigSep Finset.univ fun k : Site => atPos ER (cell c k) 0 ∅ 0)
    ∗ bigSep Finset.univ fun k : Site => bigSep Finset.univ fun b : Fin 5 => dutyTok ER (cell c k) 0 b)

/-- What a device holds once the rights have gone to those who pay. -/
def rights (c : Dev nD) : sProp 𝕄 :=
  iprop((bigSep Finset.univ fun k : Site => atPos ER (cell c k) 0 ∅ 0)
    ∗ bigSep Finset.univ fun k : Site => bigSep Finset.univ fun b : Fin 5 => dutyTok ER (cell (payer k b c) k) 0 b)

omit [FloatOps F] in
theorem over_cells (Φ : GSem nD τ sig → sProp 𝕄) : bigSep allCells Φ = bigSep Finset.univ fun c : Dev nD => bigSep Finset.univ fun k : Site => Φ (cell c k) := by
  unfold allCells; rw [bigSep_map, bigSep_univ_prod]; rfl

omit [FloatOps F] in
theorem over_pays (Φ : GSem nD τ sig × ℕ × Fin 5 → sProp 𝕄) : bigSep allPays Φ
    = bigSep Finset.univ fun c : Dev nD => bigSep Finset.univ fun k : Site => bigSep Finset.univ fun b : Fin 5 => Φ (cell c k, 0, b) := by
  unfold allPays
  rw [bigSep_map, bigSep_univ_prod]
  exact bigSep_congr fun c _ => bigSep_univ_prod _

theorem deal : BI.own (ER (initOf allCells allPays)) ⊢ (|==> bigSep Finset.univ (dealt P) : sProp 𝕄) := by
  iintro HX
  imod (Rounds.fund ER (rd P) allCells allPays) $$ HX with ⟨Hs, Hr, Ha, Ht⟩
  imodintro
  ihave Hs := (Entails.of_eq (over_cells fun g => roundState ER (rd P) g 0)) $$ Hs
  ihave Hr := (Entails.of_eq (over_cells fun g => reached ER g 0)) $$ Hr
  ihave Ha := (Entails.of_eq (over_cells fun g => atPos ER g 0 ∅ 0)) $$ Ha
  ihave Ht := (Entails.of_eq (over_pays fun x => dutyTok ER x.1 x.2.1 x.2.2)) $$ Ht
  unfold dealt
  simp only [bigSep_sep']
  isplitl [Hs]; · iexact Hs
  isplitl [Hr]; · iexact Hr
  isplitl [Ha]; · iexact Ha
  iexact Ht

omit [FloatOps F] in
/-- Device by device or use by use. -/
theorem change_order {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]; rfl

omit [FloatOps F] in
/-- Every device's rights, held by those who pay. -/
theorem to_payers : (bigSep Finset.univ fun c : Dev nD => bigSep Finset.univ fun k : Site => bigSep Finset.univ fun b : Fin 5 => (dutyTok ER (cell c k) 0 b : sProp 𝕄))
    = bigSep Finset.univ fun c : Dev nD => bigSep Finset.univ fun k : Site => bigSep Finset.univ fun b : Fin 5 => dutyTok ER (cell (payer k b c) k) 0 b := by
  refine (change_order _).trans (Eq.trans (bigSep_congr fun k _ => ?_) (change_order _).symm)
  refine (change_order _).trans (Eq.trans (bigSep_congr fun b _ => ?_) (change_order _).symm)
  exact bigSep_univ_equiv (payer k b) _

/-- All semaphores set up, at some names. -/
theorem set_up : (bigSep Finset.univ fun c => iprop(Pipeline.ownSems0 (Ix := Unit) (Name := ℕ) (U := UU) (Lvl := ℕ) (Val := Elt F) (τ := τ) ownSite c
      ∗ unscopedSems0 c ∗ dealt P c) : sProp 𝕄)
    ⊢ |={Set.univ}=> bigSep Finset.univ fun c : Dev nD => iprop(∃ N, records P N ∗ rights c) := by
  have start : (bigSep Finset.univ fun c => iprop(Pipeline.ownSems0 (Ix := Unit) (Name := ℕ) (U := UU) (Lvl := ℕ) (Val := Elt F) (τ := τ) ownSite c
      ∗ unscopedSems0 c ∗ dealt P c) : sProp 𝕄)
      ⊢ iprop((bigSep Finset.univ fun q : Dev nD × Site => iprop(closed q.1 q.2 ∗ roundState ER (rd P) (cell q.1 q.2) 0))
        ∗ (bigSep Finset.univ fun q : Dev nD × Site => reached ER (cell q.1 q.2) 0) ∗ bigSep Finset.univ fun c : Dev nD => rights c) := by
    unfold dealt rights
    rw [bigSep_sep', bigSep_sep', bigSep_sep', bigSep_sep', bigSep_sep', bigSep_sep', bigSep_sep', to_payers,
      bigSep_univ_prod fun q : Dev nD × Site => (closed q.1 q.2 : sProp 𝕄), bigSep_univ_prod fun q : Dev nD × Site => (roundState ER (rd P) (cell q.1 q.2) 0 : sProp 𝕄),
      bigSep_univ_prod fun q : Dev nD × Site => (reached ER (cell q.1 q.2) 0 : sProp 𝕄),
      bigSep_congr (s := Finset.univ) fun (c : Dev nD) _ => all_closed (F := F) c, bigSep_sep']
    iintro ⟨Ho, Hu, Hs, Hr, Ha, Ht⟩
    isplitl [Ho Hu Hs]
    · isplitl [Ho Hu]
      · isplitl [Hu] <;> iassumption
      iexact Hs
    isplitl [Hr]; · iexact Hr
    isplitl [Ha] <;> iassumption
  refine start.trans ?_
  iintro ⟨Hs, #Hr, Hg⟩
  imod (show (bigSep Finset.univ fun q : Dev nD × Site => iprop(closed q.1 q.2 ∗ roundState ER (rd P) (cell q.1 q.2) 0))
      ⊢ (|={Set.univ}=> bigSep Finset.univ fun q : Dev nD × Site => iprop(∃ κ : ℕ, cellInv ER (rd P) κ (cell q.1 q.2)) : sProp 𝕄)
      from (bigSep_mono fun q _ => (Rounds.body_intro ER (rd P) (cell q.1 q.2)).trans inv_alloc).trans (bigSep_fupd _ _)) $$ Hs with Hi
  ihave Hi := (BI.bigSep_exists_pi Finset.univ fun (q : Dev nD × Site) (κ : ℕ) => (cellInv ER (rd P) κ (cell q.1 q.2) : sProp 𝕄)) $$ Hi
  icases Hi with ⟨%N, #Hi⟩
  imodintro
  iapply (show iprop(records P N ∗ bigSep Finset.univ fun c : Dev nD => rights c) ⊢ (bigSep Finset.univ fun c : Dev nD => iprop(∃ N, records P N ∗ rights c) : sProp 𝕄)
    from (sep_mono_left (BI.bigSep_of_persistent Finset.univ (records P N))).trans (by
      rw [← bigSep_sep']
      exact bigSep_mono fun c _ => show iprop(records P N ∗ rights c) ⊢ iprop(∃ N, records P N ∗ rights c) by
        iintro H; iexists N; iexact H))
  isplitr
  · unfold records
    isplitl; · iexact Hi
    iexact Hr
  iexact Hg

end Deal

end Cert.Halving

end
-- ==== Proof.Launch.lean ====
/-
  The whole run: every device's body from what the launch deals it, and what the arrays hold at the end.
-/
module

public import proofs.«01_k».proof.Proof.Ghost
public import Idealize.ShloMosaic.Lib.Pipeline.CollectiveSegs
public import Idealize.ShloMosaic.Lib.Tactic

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at the start. -/
abbrev s₀ : MemSt nD τ sig (Elt F) := ⟨m, fun _ => 0, ρ⟩

/-- The device's block of `x`, as the body finds it, -/
def xAt (c : Dev nD) : S512x512.Idx → Elt F .f32 := (win0_0.blk (0 : Fin 1)).view.read (Elt F) (m ((c : Thread nD τ).loc main_arg0))
/-- and its block of `dy`. -/
def dyAt (c : Dev nD) : S512x2048.Idx → Elt F .f32 := (win0_1.blk (0 : Fin 1)).view.read (Elt F) (m ((c : Thread nD τ).loc main_arg1))

/-- The partial products. -/
abbrev partsAt : Parts F := prods (xAt m) (dyAt m)

/-- What a device's body starts from, but for its buffers, -/
def start (c : Dev nD) : sProp 𝕄 :=
  iprop((∃ N, records (partsAt m) N ∗ rights c) ∗ (bigSep Finset.univ fun k : Site => cred (tallyAt (cell c k) () (credit k))) ∗ levAts L lv)
def Φ₀ (c : Dev nD) : sProp 𝕄 := iprop(start m c ∗ Pipeline.scopedRest spec0 c)
/-- and what it leaves beside the staged blocks. -/
def Φ₁ (c : Dev nD) : sProp 𝕄 :=
  iprop(heldAny c (Memref.whole cc0_scratch3 : Memref sig .tc .vmem _ _) Finset.univ ∗ closed c .bar ∗ closed c .ext ∗ aft c 0 ∗ aft c 1 ∗ aft c 2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => dyAt m c
    | ⟨2, _⟩ => outAt (partsAt m) c
  Φ t := match t with
    | ⟨0, _⟩ => Φ₀ m c
    | ⟨_ + 1, _⟩ => Φ₁ c
  q _ := fullShare
  owed t := match t with
    | ⟨0, _⟩ => owed c
    | ⟨_ + 1, _⟩ => 0

/-! ## Into the body and out of it -/

/-- The right to greet the partners at entry, with the landing buffers that go to them. -/
theorem greets (P : Parts F) (c : Dev nD) :
    iprop((bigSep Finset.univ fun b : Fin 5 => dutyTok ER (cell (payer .bar b c) .bar) 0 b) ∗ (bigSep Finset.univ fun j : Fin 5 => free 0 j c)
        ∗ (bigSep Finset.univ fun j : Fin 5 => free 1 j c) ∗ bigSep Finset.univ fun j : Fin 5 => free 2 j c)
      ⊢ (bigSep Finset.univ (greet P c .bar) : sProp 𝕄) := by
  rw [bigSep_univ_equiv (ordEquiv 0).symm fun j : Fin 5 => free 0 j c, bigSep_univ_equiv (ordEquiv 1).symm fun j : Fin 5 => free 1 j c,
    bigSep_univ_equiv (ordEquiv 2).symm fun j : Fin 5 => free 2 j c, ← bigSep_sep', ← bigSep_sep', ← bigSep_sep']
  refine Entails.of_eq (bigSep_congr fun b _ => ?_)
  show iprop(dutyTok ER (cell (pt b c) .bar) 0 b ∗ free 0 (ordInv 0 b) c ∗ free 1 (ordInv 1 b) c ∗ free 2 (ordInv 2 b) c)
    = iprop(dutyTok ER (cell (pt b c) .bar) 0 b ∗ free 0 (ordInv 0 b) (pt b (pt b c)) ∗ free 1 (ordInv 1 b) (pt b (pt b c)) ∗ free 2 (ordInv 2 b) (pt b (pt b c)))
  rw [pt_pt]

/-- The right to greet the partners at the end. -/
theorem greets_last (P : Parts F) (c : Dev nD) :
    (bigSep Finset.univ fun b : Fin 5 => dutyTok ER (cell (payer .ext b c) .ext) 0 b) ⊢ (bigSep Finset.univ (greet P c .ext) : sProp 𝕄) := by
  refine bigSep_mono fun b _ => ?_
  show dutyTok ER (cell (pt b c) .ext) 0 b ⊢ iprop(dutyTok ER (cell (pt b c) .ext) 0 b ∗ emp)
  iintro H
  isplitl; · iexact H
  iempintro

/-- A stripe's rights, from those of its uses. -/
theorem to_right (c : Dev nD) (s : Fin 3) :
    iprop((bigSep Finset.univ fun j : Fin 5 => atPos ER (cell c (.send s j)) 0 ∅ 0)
        ∗ (bigSep Finset.univ fun j : Fin 5 => bigSep Finset.univ fun b : Fin 5 => dutyTok ER (cell (payer (.send s j) b c) (.send s j)) 0 b)
        ∗ (bigSep Finset.univ fun j : Fin 5 => bigSep Finset.univ fun b : Fin 5 => dutyTok ER (cell (payer (.recv s j) b c) (.recv s j)) 0 b))
      ⊢ (bigSep Finset.univ (right c s) : sProp 𝕄) := by
  rw [← bigSep_sep', ← bigSep_sep']
  refine bigSep_mono fun j _ => ?_
  show iprop(atPos ER (cell c (.send s j)) 0 ∅ 0 ∗ (bigSep Finset.univ fun b : Fin 5 => dutyTok ER (cell c (.send s j)) 0 b)
    ∗ bigSep Finset.univ fun b : Fin 5 => dutyTok ER (cell (pa s j c) (.recv s j)) 0 b) ⊢ right c s j
  unfold right
  rw [five, five]
  iintro ⟨Ha, ⟨Hs, -⟩, ⟨Hr, -⟩⟩
  isplitl [Ha]; · iexact Ha
  isplitl [Hs]; · iexact Hs
  iexact Hr

theorem to_await (c : Dev nD) (s : Fin 3) :
    iprop((bigSep Finset.univ fun j : Fin 5 => cred (tallyAt (cell c (.recv s j)) () (credit (.recv s j))))
        ∗ (bigSep Finset.univ fun j : Fin 5 => atPos ER (cell c (.recv s j)) 0 ∅ 0))
      ⊢ (bigSep Finset.univ (fun j : Fin 5 => await c (.recv s j)) : sProp 𝕄) := by
  rw [← bigSep_sep']
  exact Entails.of_eq rfl

/-- What the body runs from, but for the account and the staged blocks. -/
def ready₀ (N : Dev nD × Site → ℕ) (c : Dev nD) : sProp 𝕄 :=
  iprop(env (partsAt m) N ∗ heldAny c (Memref.whole cc0_scratch3 : Memref sig .tc .vmem _ _) Finset.univ
    ∗ bigSep Finset.univ (greet (partsAt m) c .bar) ∗ bigSep Finset.univ (greet (partsAt m) c .ext) ∗ await c .bar ∗ await c .ext
    ∗ fore c 0 ∗ fore c 1 ∗ fore c 2)

theorem enter (c : Dev nD) : Φ₀ m c ⊢ iprop(∃ N, ready₀ m N c) := by
  unfold Φ₀ start rights
  rw [scratch_eq, by_site fun k : Site => (cred (tallyAt (cell c k) () (credit k)) : sProp 𝕄), by_site fun k : Site => (atPos ER (cell c k) 0 ∅ 0 : sProp 𝕄),
    by_site fun k : Site => (bigSep Finset.univ fun b : Fin 5 => dutyTok ER (cell (payer k b c) k) 0 b : sProp 𝕄)]
  simp only [by_stripe]
  iintro ⟨⟨⟨%N, #HR, ⟨⟨Hab, Hae⟩, ⟨Has₀, Has₁, Has₂⟩, ⟨Har₀, Har₁, Har₂⟩⟩, ⟨⟨Htb, Hte⟩, ⟨Hts₀, Hts₁, Hts₂⟩, ⟨Htr₀, Htr₁, Htr₂⟩⟩⟩,
    ⟨⟨Hcb, Hce⟩, -, ⟨Hcr₀, Hcr₁, Hcr₂⟩⟩, #Hl⟩, ⟨Hw₀, Hw₁, Hw₂, Hp⟩, Hf⟩
  iexists N
  unfold ready₀ fore
  isplitr
  · unfold env; isplitl; · iexact HR
    iexact Hl
  isplitl [Hp]; · iexact Hp
  isplitl [Htb Hf]
  · iapply (greets (partsAt m) c)
    isplitl [Htb]; · iexact Htb
    iexact Hf
  isplitl [Hte]; · iapply (greets_last (partsAt m) c); iexact Hte
  isplitl [Hcb Hab]
  · unfold await; isplitl [Hcb]; · iexact Hcb
    iexact Hab
  isplitl [Hce Hae]
  · unfold await; isplitl [Hce]; · iexact Hce
    iexact Hae
  isplitl [Hw₀ Hcr₀ Har₀ Has₀ Hts₀ Htr₀]
  · isplitl [Hw₀]; · iexact Hw₀
    isplitl [Hcr₀ Har₀]
    · iapply (to_await c 0); isplitl [Hcr₀]; · iexact Hcr₀
      iexact Har₀
    iapply (to_right c 0); isplitl [Has₀]; · iexact Has₀
    isplitl [Hts₀]; · iexact Hts₀
    iexact Htr₀
  isplitl [Hw₁ Hcr₁ Har₁ Has₁ Hts₁ Htr₁]
  · isplitl [Hw₁]; · iexact Hw₁
    isplitl [Hcr₁ Har₁]
    · iapply (to_await c 1); isplitl [Hcr₁]; · iexact Hcr₁
      iexact Har₁
    iapply (to_right c 1); isplitl [Has₁]; · iexact Has₁
    isplitl [Hts₁]; · iexact Hts₁
    iexact Htr₁
  isplitl [Hw₂]; · iexact Hw₂
  isplitl [Hcr₂ Har₂]
  · iapply (to_await c 2); isplitl [Hcr₂]; · iexact Hcr₂
    iexact Har₂
  iapply (to_right c 2); isplitl [Has₂]; · iexact Has₂
  isplitl [Hts₂]; · iexact Hts₂
  iexact Htr₂

/-- What is left is what the launch takes back. -/
theorem leave (c : Dev nD) : (Φ₁ c : sProp 𝕄) ⊢ iprop(unscopedSems0 c
    ∗ Pipeline.ownSems0 (Ix := Unit) (Name := ℕ) (U := UU) (Lvl := ℕ) (Val := Elt F) (τ := τ) ownSite c ∗ Pipeline.scopedRest spec0 c) := by
  have sems : (bigSep Finset.univ (fun k : Site => closed (F := F) c k) : sProp 𝕄)
      ⊢ iprop(unscopedSems0 c ∗ Pipeline.ownSems0 (Ix := Unit) (Name := ℕ) (U := UU) (Lvl := ℕ) (Val := Elt F) (τ := τ) ownSite c) := Entails.of_eq (all_closed c)
  rw [by_site] at sems
  simp only [by_stripe] at sems
  have parts : ∀ s : Fin 3, (bigSep Finset.univ (got (F := F) c s)) = iprop((bigSep Finset.univ fun j : Fin 5 => closed c (.recv s j)) ∗ bigSep Finset.univ fun j : Fin 5 => free s j c) :=
    fun s => bigSep_sep' _ _ _
  unfold Φ₁ aft
  rw [scratch_eq, parts, parts, parts]
  iintro ⟨Hp, Hb, He, ⟨Hw₀, ⟨Hr₀, Hf₀⟩, Hs₀⟩, ⟨Hw₁, ⟨Hr₁, Hf₁⟩, Hs₁⟩, ⟨Hw₂, ⟨Hr₂, Hf₂⟩, Hs₂⟩⟩
  ihave H := sems $$ [Hb He Hr₀ Hr₁ Hr₂ Hs₀ Hs₁ Hs₂]
  · isplitl [Hb He]
    · isplitl [Hb]; · iexact Hb
      iexact He
    isplitl [Hs₀ Hs₁ Hs₂]
    · isplitl [Hs₀]; · iexact Hs₀
      isplitl [Hs₁]; · iexact Hs₁
      iexact Hs₂
    isplitl [Hr₀]; · iexact Hr₀
    isplitl [Hr₁]; · iexact Hr₁
    iexact Hr₂
  icases H with ⟨Hu, Ho⟩
  isplitl [Hu]; · iexact Hu
  isplitl [Ho]; · iexact Ho
  isplitl [Hw₀ Hw₁ Hw₂ Hp]
  · isplitl [Hw₀]; · iexact Hw₀
    isplitl [Hw₁]; · iexact Hw₁
    isplitl [Hw₂]; · iexact Hw₂
    iexact Hp
  isplitl [Hf₀]; · iexact Hf₀
  isplitl [Hf₁]; · iexact Hf₁
  iexact Hf₂

/-! ## The body's obligation -/

omit [FloatOps F] in
/-- A staged block owned at values is held at them. -/
theorem owns_eq (c : Dev nD) {sh : Shape} {e : EltTy} (M : Memref sig .tc .vmem sh e) (X : sh.Idx → Elt F e) :
    (owns (Ix := Unit) (Name := ℕ) (U := UU) (Lvl := ℕ) (c : Thread nD τ) M fullShare X : sProp 𝕄) = held c M Finset.univ X := by
  unfold owns held
  refine congrArg _ (funext fun f => ?_)
  rw [View.setOn_univ, show (M.view.read (Elt F) f = X) = (∀ i ∈ Finset.univ, M.view.read (Elt F) f i = X i) from
    propext ⟨fun h i _ => congrFun h i, fun h => funext fun i => h i (Finset.mem_univ i)⟩]

theorem before_x (c : Dev nD) (t : Fin cfg0.N) (d) : (dats m ρ 0 c).before (0 : Fin 3) t d = xAt m c := by
  rw [fin_N0 t]; unfold Dat.before; rw [if_pos (fetch0_0 _)]; rfl
theorem before_dy (c : Dev nD) (t : Fin cfg0.N) (d) : (dats m ρ 0 c).before (1 : Fin 3) t d = dyAt m c := by
  rw [fin_N0 t]; unfold Dat.before; rw [if_pos (fetch0_1 _)]; rfl

/-- What the pipeline gives the body, -/
def given (c : Dev nD) : sProp 𝕄 :=
  iprop(Φ₀ m c ∗ (dats m ρ 0 c).owesAt () t0_0.castSucc
    ∗ (∃ d, owns (c : Thread nD τ) (stage0_0 0) fullShare ((dats m ρ 0 c).before (0 : Fin 3) t0_0 d))
    ∗ (∃ d, owns (c : Thread nD τ) (stage0_1 0) fullShare ((dats m ρ 0 c).before (1 : Fin 3) t0_0 d))
    ∗ (∃ d, owns (c : Thread nD τ) (stage0_2 0) fullShare ((dats m ρ 0 c).before (2 : Fin 3) t0_0 d)))
/-- and what it takes back. -/
def taken (c : Dev nD) : sProp 𝕄 :=
  iprop(Φ₁ c ∗ (dats m ρ 0 c).owesAt () t0_0.succ
    ∗ owns (c : Thread nD τ) (stage0_0 0) fullShare (xAt m c) ∗ owns (c : Thread nD τ) (stage0_1 0) fullShare (dyAt m c)
    ∗ owns (c : Thread nD τ) (stage0_2 0) fullShare (outAt (partsAt m) c))

/-- From the one to what the body runs from, and from what it ends with to the other. -/
theorem around (c : Dev nD) : given m ρ c ⊢ iprop(∃ N, bodyFrom (xAt m) (dyAt m) N c ∗ (bodyTo (xAt m) (dyAt m) c -∗ taken m ρ c)) := by
  unfold given taken Dat.owesAt Pipeline.owesWithin
  simp only [before_x, before_dy, owns_eq]
  rw [show (dats m ρ 0 c).owed t0_0.castSucc = owe c plan from rfl, show (dats m ρ 0 c).owed t0_0.succ = owe c [] from rfl]
  iintro ⟨HΦ, ⟨%W, -, HO⟩, ⟨%d₀, Hx⟩, ⟨%d₁, Hy⟩, ⟨%d₂, Ho⟩⟩
  ihave HΦ := (enter m c) $$ HΦ
  icases HΦ with ⟨%N, HΦ⟩
  iexists N
  unfold ready₀
  icases HΦ with ⟨He, Hp, Hgb, Hge, Hab, Hae, Hf₀, Hf₁, Hf₂⟩
  isplitl
  · unfold bodyFrom owing
    isplitl [He]; · iexact He
    isplitl [HO]; · iexists W; iexact HO
    isplitl [Hx]; · iexact Hx
    isplitl [Hy]; · iexact Hy
    isplitl [Ho]; · iapply (held_any c (stage0_2 0) Finset.univ _); iexact Ho
    isplitl [Hp]; · iexact Hp
    isplitl [Hgb]; · iexact Hgb
    isplitl [Hge]; · iexact Hge
    isplitl [Hab]; · iexact Hab
    isplitl [Hae]; · iexact Hae
    isplitl [Hf₀]; · iexact Hf₀
    isplitl [Hf₁]; · iexact Hf₁
    iexact Hf₂
  unfold bodyTo owing Φ₁
  iintro ⟨⟨%V, HO⟩, Hx, Hy, Ho, Hp, Hb, He, Ha₀, Ha₁, Ha₂⟩
  isplitl [Hp Hb He Ha₀ Ha₁ Ha₂]
  · isplitl [Hp]; · iexact Hp
    isplitl [Hb]; · iexact Hb
    isplitl [He]; · iexact He
    isplitl [Ha₀]; · iexact Ha₀
    isplitl [Ha₁]; · iexact Ha₁
    iexact Ha₂
  isplitl [HO]
  · iexists V
    isplitr; · ipureintro; exact fun _ _ => Or.inl trivial
    iexact HO
  isplitl [Hx]; · iexact Hx
  isplitl [Hy]; · iexact Hy
  iexact Ho

theorem device_run (c : Dev nD) : given m ρ c ⊢ runs c (bodyAt0 (F := F) t0_0) fun _ => taken m ρ c :=
  (around m ρ c).trans (exists_elim fun N => body_run (xAt m) (dyAt m) N c (fun _ => taken m ρ c) t0_0)

omit [FloatOps F] in
theorem by_window (Φ : Fin cfg0.W → sProp 𝕄) : bigSep Finset.univ Φ = iprop(Φ (0 : Fin 3) ∗ Φ (1 : Fin 3) ∗ Φ (2 : Fin 3)) := bigSep_W0 Φ

set_option maxRecDepth 40000 in
/-- The library's obligation for the body. -/
theorem obligation (c : Dev nD) : BodyObligation (dats (F := F) m ρ 0 c) (defs₀ (F := F)) Variants.none () Set.univ := fun t => by
  rw [fin_N0 t]
  rw [by_window, by_window]
  exact device_run m ρ c

/-! ## The launch -/

theorem share_eq (c : Dev nD) (w : Fin cfg0.W) : (dats m ρ 0 c).share w = fullShare := by unfold Dat.share; split <;> rfl

omit [FloatOps F] in
/-- A staging semaphore may be waited on at any time: nothing that is owed lies as low. -/
theorem mayWait_staging (c : Dev nD) (q : DmaSem sig) (hq : q.val < 3) (l : List (Fin 5 × Site)) (hl : l = plan ∨ l = []) :
    (levAts L lv : sProp 𝕄) ⊢ MayWait (c : Thread nD τ) (.dma q) () (owe c l) := by
  refine mayWait_of c (.dma q) 0 l (le_of_eq ?_) ?_
  · unfold lv; rw [show siteOf (.dma q) = none from if_pos hq]; rfl
  · rcases hl with rfl | rfl <;> decide

theorem waits (c : Dev nD) : (levAts L lv : sProp 𝕄) ⊢ Pipeline.cellsWaits cfgs (dats m ρ) () 0 c :=
  Pipeline.cellsWaits_intro cfgs (dats m ρ) () 0 c fun w s t => by
    have hq : ((cfg0.win w).sem s).val < 3 := by fin_cases w <;> fin_cases s <;> decide
    rcases t with ⟨_ | _, ht⟩
    · exact mayWait_staging c _ hq plan (Or.inl rfl)
    · exact mayWait_staging c _ hq [] (Or.inr rfl)

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ ∃ N, records (partsAt m) N ∗ rights c)
      ⊢ |={Set.univ}=> iprop(start m c ∗ emp) := by
  iintro ⟨-, Hl, Hc, -, HG⟩
  ihave Hc := (credits c) $$ Hc
  imodintro
  unfold start
  isplitl
  · isplitl [HG]; · iexact HG
    isplitl [Hc]; · iexact Hc
    iexact Hl
  iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem last_exit (c : Dev nD) :
    (dats m ρ 0 c).Φ (Fin.last cfg0.N) ⊢ iprop(unscopedSems0 c ∗ Pipeline.ownSems0 ownSite c ∗ Pipeline.scopedRest cfg0.spec c) := by
  rw [show (dats m ρ 0 c).Φ (Fin.last cfg0.N) = Φ₁ c from rfl]
  exact leave c

/-! ## The run -/

/-- What the arrays hold at the end. -/
def finalA (c : Dev nD) (w : Fin cfg0.W) : Buf (Elt F) ((cfg0.win w).arr.view.loc (c : Thread nD τ)) := (dats m ρ 0 c).arrAt w cfg0.N

set_option maxRecDepth 8000 in
/-- From any memory, with every semaphore at zero, every fair run ends, with the arrays as computed and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := dealt (partsAt m)) (G' := fun c => iprop(∃ N, records (partsAt m) N ∗ rights c)) (u₀ := u₀)
    (hu₀ := by
      unfold u₀
      iintro Hu
      ihave H := (ownU_pair _ _) $$ Hu
      icases H with ⟨HP, HX⟩
      imod (deal (partsAt m)) $$ HX with HG
      imodintro
      isplitl [HP] <;> iassumption)
    (hglob := set_up (partsAt m))
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) :=
  (dats (F := F) m ρ 0 c).arrAt_in (0 : Fin 3) rfl _
theorem final_dy (c : Dev nD) : finalA m ρ c (1 : Fin 3) = m ((c : Thread nD τ).loc main_arg1) :=
  (dats (F := F) m ρ 0 c).arrAt_in (1 : Fin 3) rfl _

/-- The result's block, read back, is what the body left. -/
theorem final_read (c : Dev nD) : (win0_2.blk (0 : Fin 1)).view.read (Elt F) (finalA m ρ c (2 : Fin 3)) = outAt (partsAt m) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

omit [FloatOps F] in
theorem x_eq (c : Dev nD) : xAt m c = m ((c : Thread nD τ).loc main_arg0) :=
  Memref.read_access_unit_zero (Elt F) main_arg0 (funext fun a => by fin_cases a <;> rfl) (fun a => by fin_cases a <;> decide) _
omit [FloatOps F] in
theorem dy_eq (c : Dev nD) : dyAt m c = m ((c : Thread nD τ).loc main_arg1) :=
  Memref.read_access_unit_zero (Elt F) main_arg1 (funext fun a => by fin_cases a <;> rfl) (fun a => by fin_cases a <;> decide) _

/-- The result array ends as the body left it. -/
theorem final_out (c : Dev nD) : finalA m ρ c (2 : Fin 3) = outAt (partsAt m) c :=
  (Memref.read_access_unit_zero (Elt F) main_v1 (funext fun a => by fin_cases a <;> rfl) (fun a => by fin_cases a <;> decide) _).symm.trans (final_read m ρ c)

end Cert.Halving

end
-- ==== Proof.Order.lean ====
/-
  The order of the rows. A device's row block `R` of a stripe ends at the device reached by the partners of the stages at
  which the block was sent, and the words that the kernel computes from its place put there the columns of `x` that this
  device's rows of the result come from.
-/
module

public import proofs.«01_k».proof.Proof.Products

@[expose] public section

noncomputable section

namespace Cert.Halving

open Cert.KernelIdeal Cert.KernelIdeal.Gen

open Idealize.ShloMosaic

/-! ## Where a block comes from -/

/-- The device whose block `t`, of the blocks into which `j` stages cut its rows, is added into the rows of device `c`. -/
def who (s : Fin 3) : ℕ → ℕ → Dev nD → Dev nD
  | 0, _, c => c
  | j + 1, t, c => who s j (t / 2) (if t % 2 = 1 then pa s (Fin.ofNat 5 j) c else c)

/-- The block of device `d` that is added into the rows of device `c`. -/
def whence (s : Fin 3) (c d : Dev nD) : Fin 32 :=
  Fin.ofNat 32 (∑ j : Fin 5, if ((place c) ^^^ (place d)).getLsbD (ord s j).val then 2 ^ (4 - j.val) else 0)

theorem whence_who : ∀ (s : Fin 3) (c : Dev nD) (t : Fin 32), whence s c (who s 5 t.val c) = t := by
  decide +kernel

/-- Every device sends exactly one block. -/
theorem who_bijective (s : Fin 3) (c : Dev nD) : Function.Bijective fun t : Fin 32 => (who s 5 t.val c : Dev nD) :=
  Function.Injective.bijective_of_finite (f := fun t : Fin 32 => (show Fin 32 from who s 5 t.val c)) (Function.LeftInverse.injective (whence_who s c))

/-- Places differ as the devices do. -/
theorem place_who : ∀ (s : Fin 3) (c : Dev nD) (t : Fin 32), place (who s 5 t.val c) ^^^ place (who s 5 t.val 0) = place c := by
  decide +kernel

/-! ## The words -/

/-- The index of column `n`. -/
def col (n : Fin 512) : S1x512.Idx
  | ⟨0, _⟩ => (0 : Fin 1)
  | ⟨1, _⟩ => n

/-- A column's block, and its number in the block. -/
theorem block_at : ∀ n : Fin 512, k0_pay1 (col n) = BitVec.ofNat 32 (n.val / 16) := by decide +kernel
theorem within_at : ∀ n : Fin 512, k0_pay2 (col n) = BitVec.ofNat 32 (n.val % 16) := by decide +kernel

/-- The same word in all columns. -/
abbrev all (v : BitVec 32) : Row := fun _ => v

/-- A device's number from its place, in three parts, -/
def hiOf (v : BitVec 32) : BitVec 32 :=
  k0_pay17 (all v) 8#32 (divsi (all v) (all 8#32)) (extui 32 (cmpi .sgt (all v) (all 0#32)) natLt_1_32)
    (extui 32 (cmpi .slt (all v) (all 0#32)) natLt_1_32) (col 0)
def midOf (v : BitVec 32) : BitVec 32 :=
  k0_pay21 (k0_pay18 (all v)) 2#32 (k0_pay19 (all v)) (k0_pay20 (all v))
    (Scalar.extui (Scalar.cmpi .sgt 2#32 0#32)) (Scalar.extui (Scalar.cmpi .slt 2#32 0#32)) (col 0)
def lowOf (v : BitVec 32) : BitVec 32 :=
  k0_pay22 (k0_pay18 (all v)) 2#32 (k0_pay19 (all v)) (k0_pay20 (all v))
    (Scalar.extui (Scalar.cmpi .sgt 2#32 0#32)) (Scalar.extui (Scalar.cmpi .slt 2#32 0#32)) (col 0)

/-- and whole. -/
theorem number_of_place : ∀ c : Dev nD, 8#32 * hiOf (place c) + 2#32 * midOf (place c) + lowOf (place c) = BitVec.ofNat 32 c.val := by
  decide +kernel

section Parts

variable (l : BitVec 32) (p : Row) (i : S1x512.Idx)

theorem hi₀_at : hi₀ l p i = hiOf (code₀ l p i) := by
  unfold hi₀ code₀ hiOf
  generalize e : k0_pay13 l p (acc₀ p) 1#32 (k0_pay10 p) (k0_pay11 p) (k0_pay12 p) = v
  simp only [all, e, k0_pay14, k0_pay15, k0_pay16, k0_pay17, broadcast, broadcastTo, divsi, remsi, addi, subi, muli, andi, xori, cmpi, select, extui]
theorem hi₁_at : hi₁ l p i = hiOf (code₁ l p i) := by
  unfold hi₁ code₁ hiOf
  generalize e : k0_pay36 l p (acc₁ p) 1#32 (k0_pay33 p) (k0_pay34 p) (k0_pay35 p) = v
  simp only [all, e, k0_pay37, k0_pay38, k0_pay39, k0_pay40, k0_pay17, broadcast, broadcastTo, divsi, remsi, addi, subi, muli, andi, xori, cmpi, select, extui]
theorem hi₂_at : hi₂ l p i = hiOf (code₂ l p i) := by
  unfold hi₂ code₂ hiOf
  generalize e : k0_pay62 l p (acc₂' p) 1#32 (k0_pay60 p) (k0_pay61 p) 0#32 = v
  simp only [all, e, k0_pay63, k0_pay64, k0_pay65, k0_pay17, broadcast, broadcastTo, divsi, remsi, addi, subi, muli, andi, xori, cmpi, select, extui]
theorem mid₀_at : mid₀ l p i = midOf (code₀ l p i) := by
  unfold mid₀ midOf
  generalize code₀ l p = v
  simp only [all, k0_pay18, k0_pay19, k0_pay20, k0_pay21, broadcast, broadcastTo, divsi, remsi, addi, subi, muli, andi, xori, cmpi, select, extui]
theorem mid₁_at : mid₁ l p i = midOf (code₁ l p i) := by
  unfold mid₁ midOf
  generalize code₁ l p = v
  simp only [all, k0_pay41, k0_pay42, k0_pay43, k0_pay44, k0_pay18, k0_pay19, k0_pay20, k0_pay21, broadcast, broadcastTo, divsi, remsi, addi, subi, muli, andi, xori, cmpi, select, extui]
theorem mid₂_at : mid₂ l p i = midOf (code₂ l p i) := by
  unfold mid₂ midOf
  generalize code₂ l p = v
  simp only [all, k0_pay66, k0_pay67, k0_pay68, k0_pay69, k0_pay18, k0_pay19, k0_pay20, k0_pay21, broadcast, broadcastTo, divsi, remsi, addi, subi, muli, andi, xori, cmpi, select, extui]
theorem low₀_at : low₀ l p i = lowOf (code₀ l p i) := by
  unfold low₀ lowOf
  generalize code₀ l p = v
  simp only [all, k0_pay18, k0_pay19, k0_pay20, k0_pay21, k0_pay22, broadcast, broadcastTo, divsi, remsi, addi, subi, muli, andi, xori, cmpi, select, extui]
theorem low₁_at : low₁ l p i = lowOf (code₁ l p i) := by
  unfold low₁ lowOf
  generalize code₁ l p = v
  simp only [all, k0_pay41, k0_pay42, k0_pay43, k0_pay44, k0_pay45, k0_pay18, k0_pay19, k0_pay20, k0_pay21, k0_pay22, broadcast, broadcastTo, divsi, remsi, addi, subi, muli, andi, xori, cmpi, select, extui]
theorem low₂_at : low₂ l p i = lowOf (code₂ l p i) := by
  unfold low₂ lowOf
  generalize code₂ l p = v
  simp only [all, k0_pay66, k0_pay67, k0_pay68, k0_pay69, k0_pay70, k0_pay18, k0_pay19, k0_pay20, k0_pay21, k0_pay22, broadcast, broadcastTo, divsi, remsi, addi, subi, muli, andi, xori, cmpi, select, extui]

/-- The mask is combined with the place bit by bit, column by column. -/
theorem code₀_at : code₀ l p i = l ^^^ code₀ 0#32 (all (p i)) (col 0) := by
  refine Eq.trans ?_ (congrArg (l ^^^ ·) (BitVec.zero_xor (x := _))).symm
  simp only [all, code₀, acc₀, k0_pay3, k0_pay4, k0_pay5, k0_pay6, k0_pay7, k0_pay8, k0_pay9, k0_pay10, k0_pay11, k0_pay12, k0_pay13, broadcast, broadcastTo, divsi, remsi, addi, subi, muli, andi, xori, cmpi, select, extui, IntOp.xori]
theorem code₁_at : code₁ l p i = l ^^^ code₁ 0#32 (all (p i)) (col 0) := by
  refine Eq.trans ?_ (congrArg (l ^^^ ·) (BitVec.zero_xor (x := _))).symm
  simp only [all, code₁, acc₁, k0_pay26, k0_pay27, k0_pay28, k0_pay29, k0_pay30, k0_pay31, k0_pay32, k0_pay33, k0_pay34, k0_pay35, k0_pay36, broadcast, broadcastTo, divsi, remsi, addi, subi, muli, andi, xori, cmpi, select, extui, IntOp.xori]
theorem code₂_at : code₂ l p i = l ^^^ code₂ 0#32 (all (p i)) (col 0) := by
  refine Eq.trans ?_ (congrArg (l ^^^ ·) (BitVec.zero_xor (x := _))).symm
  simp only [all, code₂, acc₂, acc₂', k0_pay49, k0_pay50, k0_pay51, k0_pay52, k0_pay53, k0_pay54, k0_pay55, k0_pay56, k0_pay57, k0_pay58, k0_pay59, k0_pay60, k0_pay61, k0_pay62, broadcast, broadcastTo, divsi, remsi, addi, subi, muli, andi, xori, cmpi, select, extui, IntOp.xori]

end Parts

/-- The mask of block `t` is the place of the device that block `t` of device 0 is added at. -/
theorem mask₀ : ∀ t : Fin 32, code₀ 0#32 (all (BitVec.ofNat 32 t.val)) (col 0) = place (who 0 5 t.val 0) := by decide +kernel
theorem mask₁ : ∀ t : Fin 32, code₁ 0#32 (all (BitVec.ofNat 32 t.val)) (col 0) = place (who 1 5 t.val 0) := by decide +kernel
theorem mask₂ : ∀ t : Fin 32, code₂ 0#32 (all (BitVec.ofNat 32 t.val)) (col 0) = place (who 2 5 t.val 0) := by decide +kernel

end Cert.Halving

end
-- ==== Proof.Sum.lean ====
/-
  What the stages add up to, at exact values: after all of them a row of a stripe holds one row of each device's product.
-/
module

public import proofs.«01_k».proof.Proof.Order
public import proofs.«01_k».proof.Proof.Stage
public import Idealize.ShloMosaic.PureOps.Ideal

@[expose] public section

noncomputable section

namespace Cert.Halving

open Cert.KernelIdeal Cert.KernelIdeal.Gen

open Idealize.ShloMosaic

/-- A sum over twice as many terms, two by two. -/
theorem sum_by_twos (f : ℕ → EReal) (n : ℕ) :
    ∑ t ∈ Finset.range (n * 2), f t = ∑ t ∈ Finset.range n, f (t * 2) + ∑ t ∈ Finset.range n, f (t * 2 + 1) := by
  rw [← Finset.sum_add_distrib]
  induction n with
  | zero => rfl
  | succ n ih => rw [Nat.succ_mul, Finset.sum_range_succ, Finset.sum_range_succ, Finset.sum_range_succ _ n, ih, add_assoc]

/-- Two steps down are one. -/
theorem down_down {W a b : ℕ} (i : (⟨2, ![512, W]⟩ : Shape).Idx) : down a (down b i) = down (b + a) i :=
  idx2_eq (by
    show ((((i 0).val + b) % 512 + a) % 512) = ((i 0).val + (b + a)) % 512
    rw [Nat.mod_add_mod, Nat.add_assoc]) rfl

theorem down_zero {W : ℕ} (i : (⟨2, ![512, W]⟩ : Shape).Idx) : down 0 i = i :=
  idx2_eq (down_row i (i 0).isLt) rfl

/-- Each stage exchanges half of the rows that remain. -/
theorem rows_half : ∀ j : Fin 5, rows j = 2 ^ (8 - j.val) := by decide

/-- The sums before stage `j`: of the `2 ^ j` blocks into which the stages before have cut the rows, one from each device. -/
theorem sums_blocks (P : Parts Ideal) (s : Fin 3) : ∀ j ≤ 5, ∀ (c : Dev nD) (i : (⟨2, ![512, wd s]⟩ : Shape).Idx), (i 0).val < 2 ^ (9 - j) →
    (sums P s j c i : EReal) = ∑ t ∈ Finset.range (2 ^ j), (P s (who s j t c) (down (t * 2 ^ (9 - j)) i) : EReal)
  | 0, _, c, i, _ => by
    rw [pow_zero, Finset.sum_range_one, Nat.zero_mul, down_zero]
    rfl
  | j + 1, hj, c, i, hi => by
    have hr : rows (Fin.ofNat 5 j) = 2 ^ (8 - j) := by
      rw [rows_half]
      show 2 ^ (8 - j % 5) = _
      rw [Nat.mod_eq_of_lt hj]
    have h2 : 2 ^ (9 - j) = 2 ^ (8 - j) * 2 := by
      rw [← pow_succ]
      congr 1
      omega
    have h9 : 9 - (j + 1) = 8 - j := by omega
    rw [h9] at hi ⊢
    have hp : 2 ^ (8 - j) ≤ 2 ^ 8 := Nat.pow_le_pow_right (by decide) (by omega)
    have hd : ((down (rows (Fin.ofNat 5 j)) i) 0).val = (i 0).val + 2 ^ (8 - j) := by
      rw [hr]
      exact down_row i (by omega)
    show (stage s (Fin.ofNat 5 j) (sums P s j) c i : EReal) = _
    rw [stage, if_pos (by rw [hr]; exact hi)]
    show (sums P s j c i : EReal) + sums P s j (pa s (Fin.ofNat 5 j) c) (down (rows (Fin.ofNat 5 j)) i) = _
    rw [sums_blocks P s j (by omega) c i (by omega), sums_blocks P s j (by omega) _ _ (by rw [hd]; omega), pow_succ, sum_by_twos]
    congr 1
    · refine Finset.sum_congr rfl fun t _ => ?_
      rw [h2, show who s (j + 1) (t * 2) c = who s j t c by rw [who, Nat.mul_div_cancel t (by decide), if_neg (by omega)],
        Nat.mul_assoc, Nat.mul_comm 2]
    · refine Finset.sum_congr rfl fun t _ => ?_
      rw [down_down, hr, h2, show who s (j + 1) (t * 2 + 1) c = who s j t (pa s (Fin.ofNat 5 j) c) by
          rw [who, if_pos (by omega)]
          congr 1
          omega,
        show 2 ^ (8 - j) + t * (2 ^ (8 - j) * 2) = (t * 2 + 1) * 2 ^ (8 - j) by ring]

/-- After all the stages: sixteen rows of every device. -/
theorem sums_all (P : Parts Ideal) (s : Fin 3) (c : Dev nD) (i : (⟨2, ![512, wd s]⟩ : Shape).Idx) (hi : (i 0).val < 16) :
    (sums P s 5 c i : EReal) = ∑ t : Fin 32, (P s (who s 5 t.val c) (down (t.val * 16) i) : EReal) :=
  (sums_blocks P s 5 (le_refl 5) c i hi).trans (Finset.sum_range fun t => (P s (who s 5 t c) (down (t * 16) i) : EReal))

end Cert.Halving

end
-- ==== Proof.Value.lean ====
/-
  The kernel's result at exact values: row `r` of device `c` is row `16 c + r` of the sum of all devices' products.
-/
module

public import proofs.«01_k».proof.Proof.Sum
public import proofs.«01_k».proof.Proof.Body
public import Idealize.ShloMosaic.Lib.StackMember
public import Idealize.ShloMosaic.Lib.Pipeline.Value

@[expose] public section

noncomputable section

namespace Cert.Halving

open Cert.KernelIdeal Cert.KernelIdeal.Gen

open Idealize.ShloMosaic Idealize.ShloMosaic.ValueIdx

/-! ## Products -/

/-- A product over the first axes of both factors. -/
theorem product_at {W : ℕ} (w : DotDims.WF ⟨2, ![512, 512]⟩ ⟨2, ![512, W]⟩ ⟨2, ![512, W]⟩ [0] [0] [1] [1] [] [])
    (A : FVec Ideal ⟨2, ![512, 512]⟩ .f32) (B : FVec Ideal ⟨2, ![512, W]⟩ .f32) (a : Fin 512) (b : Fin W) :
    FloatOps.matmul (⟨[0], [0], [1], [1], [], [], w⟩ : DotDims ⟨2, ![512, 512]⟩ ⟨2, ![512, W]⟩ ⟨2, ![512, W]⟩) none A B (constant ⟨2, ![512, W]⟩ .f32 0x00000000#32) (ix2 a b)
      = ∑ k : Fin 512, (A (ix2 k a) * B (ix2 k b) : EReal) := by
  rw [Ideal.matmul_constant_zero_apply, ← Equiv.sum_comp (contrEquiv1 (⟨[0], [0], [1], [1], [], [], w⟩ : DotDims _ _ _) 512 rfl rfl).symm]
  refine Finset.sum_congr rfl fun k _ => ?_
  have hk := contrEquiv1_symm_val (⟨[0], [0], [1], [1], [], [], w⟩ : DotDims _ _ _) 512 rfl rfl k
  congr 2
  · exact idx2_eq (by simp [DotDims.lhsIdx]; exact hk) (by simp [DotDims.lhsIdx]; rfl)
  · exact idx2_eq (by simp [DotDims.rhsIdx]; exact hk) (by simp [DotDims.rhsIdx]; rfl)

/-- The matrix of the words `w`: one in the row that the word of the column says, zero elsewhere. -/
def pickM (w : Row) : FVec Ideal S512x512 .f32 :=
  sitofp .f32 (extui 32 (cmpi .eq rowNo (broadcastTo S512x512 w broadcasts_S1x512_S512x512)) natLt_1_32)

theorem pickM_at (w : Row) (n a b : Fin 512) (h : w (col n) = BitVec.ofNat 32 a.val) :
    (pickM w (ix2 b n) : EReal) = if b = a then 1 else 0 := by
  have hrow : rowNo (ix2 b n) = BitVec.ofNat 32 b.val := by
    show BitVec.ofNat 32 (0 * 512 + b.val) = _
    rw [Nat.zero_mul, Nat.zero_add]
  have hcol : broadcastTo S512x512 w broadcasts_S1x512_S512x512 (ix2 b n) = w (col n) :=
    congrArg w (idx2_eq rfl rfl)
  show (((BitVec.setWidth 32 (IntOp.cmpi .eq (rowNo (ix2 b n)) (broadcastTo S512x512 w broadcasts_S1x512_S512x512 (ix2 b n)))).toInt : ℝ) : EReal) = _
  rw [hrow, hcol, h]
  by_cases hb : b = a
  · subst hb
    simp [IntOp.cmpi]
  · rw [if_neg hb]
    have : BitVec.ofNat 32 b.val ≠ BitVec.ofNat 32 a.val := fun e => hb (Fin.ext (by
      have := congrArg BitVec.toNat e
      simp only [BitVec.toNat_ofNat] at this
      omega))
    have hf : (BitVec.ofNat 32 b.val == BitVec.ofNat 32 a.val) = false := beq_eq_false_iff_ne.mpr this
    simp [IntOp.cmpi, hf]

/-- The product with that matrix takes the column that the word says, whatever the values in the others. -/
theorem pick_at (w : Row) (x : FVec Ideal S512x512 .f32) (k n a : Fin 512) (h : w (col n) = BitVec.ofNat 32 a.val) :
    FloatOps.matmul (DotDims.plain 512 512 512) none x (pickM w) (constant S512x512 .f32 0x00000000#32) (ix2 k n) = x (ix2 k a) := by
  have e : FloatOps.matmul (DotDims.plain 512 512 512) none x (pickM w) (constant S512x512 .f32 0x00000000#32) (ix2 k n)
      = Host.dotGeneral (DotDims.plain 512 512 512) none x (pickM w) (ix2 k n) := by
    show _ = FloatOps.dotGeneral _ none _ x (pickM w) (ix2 k n)
    rw [Ideal.matmul_constant_zero_apply, Ideal.dotGeneral_apply]
  refine (e.trans (StackMember.dotGeneral_plain_apply none x (pickM w) k n)).trans ?_
  rw [Finset.sum_eq_single a]
  · rw [pickM_at w n a a h, if_pos rfl, mul_one]
  · intro b _ hb
    rw [pickM_at w n a b h, if_neg hb, mul_zero]
  · intro hn
    exact absurd (Finset.mem_univ a) hn

/-! ## The columns of `x` -/

/-- The words from the three parts. -/
def wordsOf (hi mid low : Row) : Row :=
  addi (muli (addi (addi (muli (broadcast S1x512 8#32) hi) (muli (broadcast S1x512 2#32) mid)) low) (broadcast S1x512 16#32)) k0_pay2

/-- Row `r` of block `c`. -/
def spot (c : Dev nD) (n : Fin 512) : Fin 512 := ⟨c.val * 16 + n.val % 16, by have : c.val < 32 := c.isLt; omega⟩

theorem wordsOf_at {hi mid low : Row} {n : Fin 512} {c : Dev nD} (h₁ : hi (col n) = hiOf (place c)) (h₂ : mid (col n) = midOf (place c))
    (h₃ : low (col n) = lowOf (place c)) : wordsOf hi mid low (col n) = BitVec.ofNat 32 (spot c n).val := by
  show (8#32 * hi (col n) + 2#32 * mid (col n) + low (col n)) * 16#32 + k0_pay2 (col n) = _
  rw [h₁, h₂, h₃, number_of_place, within_at, ← BitVec.ofNat_mul, ← BitVec.ofNat_add]
  rfl

section Columns

variable (c : Dev nD) (t : Fin 32) (n : Fin 512) (h : n.val / 16 = t.val)

include h

theorem code₀_who : code₀ (place (who 0 5 t.val c)) k0_pay1 (col n) = place c := by
  rw [code₀_at, block_at, h, mask₀, place_who]
theorem code₁_who : code₁ (place (who 1 5 t.val c)) k0_pay1 (col n) = place c := by
  rw [code₁_at, block_at, h, mask₁, place_who]
theorem code₂_who : code₂ (place (who 2 5 t.val c)) k0_pay1 (col n) = place c := by
  rw [code₂_at, block_at, h, mask₂, place_who]

variable (x : FVec Ideal S512x512 .f32) (k : Fin 512)

theorem xp₀_at : xp₀ (place (who 0 5 t.val c)) x (ix2 k n) = x (ix2 k (spot c n)) := by
  unfold xp₀ k0_pay24
  simp only [shapeCast_self]
  exact pick_at (wordsOf (hi₀ _ k0_pay1) (mid₀ _ k0_pay1) (low₀ _ k0_pay1)) x k n (spot c n)
    (wordsOf_at (by rw [hi₀_at, code₀_who c t n h]) (by rw [mid₀_at, code₀_who c t n h]) (by rw [low₀_at, code₀_who c t n h]))
theorem xp₁_at : xp₁ (place (who 1 5 t.val c)) x (ix2 k n) = x (ix2 k (spot c n)) := by
  unfold xp₁ k0_pay47
  simp only [shapeCast_self]
  exact pick_at (wordsOf (hi₁ _ k0_pay1) (mid₁ _ k0_pay1) (low₁ _ k0_pay1)) x k n (spot c n)
    (wordsOf_at (by rw [hi₁_at, code₁_who c t n h]) (by rw [mid₁_at, code₁_who c t n h]) (by rw [low₁_at, code₁_who c t n h]))
theorem xp₂_at : xp₂ (place (who 2 5 t.val c)) x (ix2 k n) = x (ix2 k (spot c n)) := by
  unfold xp₂ k0_pay73
  simp only [shapeCast_self]
  exact pick_at (wordsOf (hi₂ _ k0_pay1) (mid₂ _ k0_pay1) (low₂ _ k0_pay1)) x k n (spot c n)
    (wordsOf_at (by rw [hi₂_at, code₂_who c t n h]) (by rw [mid₂_at, code₂_who c t n h]) (by rw [low₂_at, code₂_who c t n h]))

end Columns

/-! ## The result -/

/-- What device `d` adds to an element of the result. -/
def termOf (x : Dev nD → S512x512.Idx → EReal) (dy : Dev nD → S512x2048.Idx → EReal) (c : Dev nD) (i : S16x2048.Idx) (d : Dev nD) : EReal :=
  ∑ k : Fin 512, x d (ix2 k (⟨c.val * 16 + (i 0).val, by have : c.val < 32 := c.isLt; have : (i 0).val < 16 := (i 0).isLt; omega⟩ : Fin 512))
    * dy d (ix2 k (i 1))

section Result

variable (x : Dev nD → S512x512.Idx → Elt Ideal .f32) (dy : Dev nD → S512x2048.Idx → Elt Ideal .f32) (c : Dev nD) (i : S16x2048.Idx) (t : Fin 32)

theorem block_row : ((i 0).val + t.val * 16) / 16 = t.val ∧ ((i 0).val + t.val * 16) % 16 = (i 0).val ∧ (i 0).val + t.val * 16 < 512 := by
  have h₁ : (i 0).val < 16 := (i 0).isLt
  have h₂ := t.isLt
  omega

/-- The row and the column of the term are those of a stripe's product. -/
theorem term_eq {W off : ℕ} (hW : 0 < W) (hl : off ≤ (i 1).val) (hr : (i 1).val < off + W) (s : Fin 3) (A : S512x512.Idx → EReal)
    (B : (⟨2, ![512, W]⟩ : Shape).Idx → EReal)
    (hA : ∀ k n : Fin 512, n.val / 16 = t.val → A (ix2 k n) = x (who s 5 t.val c) (ix2 k (spot c n)))
    (hB : ∀ (k : Fin 512) (b : Fin W) (q : Fin 2048), q.val = off + b.val → B (ix2 k b) = dy (who s 5 t.val c) (ix2 k q))
    (j : (⟨2, ![512, W]⟩ : Shape).Idx) (hj : j = down (t.val * 16) (intoStripe off hW i)) :
    ∑ k : Fin 512, A (ix2 k (j 0)) * B (ix2 k (j 1)) = termOf x dy c i (who s 5 t.val c) := by
  obtain ⟨h₁, h₂, h₃⟩ := block_row i t
  have h16 : (i 0).val < 16 := (i 0).isLt
  have hj0 : (j 0).val = (i 0).val + t.val * 16 := by
    subst hj
    show ((i 0).val % 512 + t.val * 16) % 512 = _
    omega
  have hj1 : (i 1).val = off + (j 1).val := by
    subst hj
    show _ = off + ((i 1).val - off) % W
    rw [Nat.mod_eq_of_lt (by omega)]
    omega
  unfold termOf
  refine Finset.sum_congr rfl fun k _ => ?_
  rw [hA k (j 0) (by rw [hj0]; exact h₁), hB k (j 1) (i 1) hj1]
  congr 3
  exact Fin.ext (by
    show c.val * 16 + (j 0).val % 16 = _
    rw [hj0, h₂])

/-- A stripe's row of the result. -/
theorem stripe_sum (s : Fin 3) (j : (⟨2, ![512, wd s]⟩ : Shape).Idx) (hj : (j 0).val < 16)
    (h : ∀ t : Fin 32, (prods x dy s (who s 5 t.val c) (down (t.val * 16) j) : EReal) = termOf x dy c i (who s 5 t.val c)) :
    (sums (prods x dy) s 5 c j : EReal) = ∑ d : Dev nD, termOf x dy c i d := by
  rw [sums_all _ s c j hj]
  exact (Finset.sum_congr rfl fun t _ => h t).trans ((who_bijective s c).sum_comp (fun d => termOf x dy c i d))

theorem into_row {W off : ℕ} (hW : 0 < W) : ((intoStripe off hW i) 0).val < 16 := by
  have h₁ : (i 0).val < 16 := (i 0).isLt
  show (i 0).val % 512 < 16
  omega

/-- An element of the result is the sum of all devices' terms. -/
theorem out_value : (outAt (prods x dy) c i : EReal) = ∑ d : Dev nD, termOf x dy c i d := by
  have h2048 : (i 1).val < 2048 := (i 1).isLt
  unfold outAt
  by_cases h0 : (i 1).val < 768
  · rw [if_pos h0]
    refine stripe_sum x dy c i 0 _ (into_row i _) fun t => ?_
    generalize hj : down (t.val * 16) (intoStripe 0 _ i) = j
    rw [eq_ix2 j]
    show k0_pay25 _ _ _ = _
    unfold k0_pay25
    simp only [shapeCast_self]
    refine (product_at _ _ _ _ _).trans (term_eq x dy c i t (by decide) (Nat.zero_le _) (by omega) 0 (xp₀ (F := Ideal) (place (who 0 5 t.val c)) (x (who 0 5 t.val c)))
      (fun q => dy (who 0 5 t.val c) (stripe₀.emb q)) ?_ ?_ j hj.symm)
    · exact fun k n h => xp₀_at c t n h _ k
    · exact fun k b q hq => congrArg (dy _) (idx2_eq (by show 0 + 1 * k.val = k.val; omega) (by show 0 + 1 * b.val = q.val; omega))
  rw [if_neg h0]
  by_cases h1 : (i 1).val < 1408
  · rw [if_pos h1]
    refine stripe_sum x dy c i 1 _ (into_row i _) fun t => ?_
    generalize hj : down (t.val * 16) (intoStripe 768 _ i) = j
    rw [eq_ix2 j]
    show k0_pay48 _ _ _ = _
    unfold k0_pay48
    simp only [shapeCast_self]
    refine (product_at _ _ _ _ _).trans (term_eq x dy c i t (by decide) (by omega) (by omega) 1 (xp₁ (F := Ideal) (place (who 1 5 t.val c)) (x (who 1 5 t.val c)))
      (fun q => dy (who 1 5 t.val c) (stripe₁.emb q)) ?_ ?_ j hj.symm)
    · exact fun k n h => xp₁_at c t n h _ k
    · exact fun k b q hq => congrArg (dy _) (idx2_eq (by show 0 + 1 * k.val = k.val; omega) (by show 768 + 1 * b.val = q.val; omega))
  · rw [if_neg h1]
    refine stripe_sum x dy c i 2 _ (into_row i _) fun t => ?_
    generalize hj : down (t.val * 16) (intoStripe 1408 _ i) = j
    rw [eq_ix2 j]
    show k0_pay74 _ _ _ = _
    unfold k0_pay74
    simp only [shapeCast_self]
    refine (product_at _ _ _ _ _).trans (term_eq x dy c i t (by decide) (by omega) (by omega) 2 (xp₂ (F := Ideal) (place (who 2 5 t.val c)) (x (who 2 5 t.val c)))
      (fun q => dy (who 2 5 t.val c) (stripe₂.emb q)) ?_ ?_ j hj.symm)
    · exact fun k n h => xp₂_at c t n h _ k
    · exact fun k b q hq => congrArg (dy _) (idx2_eq (by show 0 + 1 * k.val = k.val; omega) (by show 1408 + 1 * b.val = q.val; omega))

end Result

end Cert.Halving

end
-- ==== Proof.Whole.lean ====
/-
  The reference at exact values, and the kernel's result as a block of its: the sum over all rows of `x` and `dy` is the sum,
  device by device, of the sums over the rows the device holds.
-/
module

public import proofs.«01_k».proof.Proof.Value
public import proofs.«01_k».proof.Proof.Gen.ReferenceIdeal
public import Idealize.ShloMosaic.Lib.Layout

@[expose] public section

noncomputable section

namespace Cert.Halving

open Cert.KernelIdeal Cert.KernelIdeal.Gen

open Idealize.ShloMosaic Idealize.ShloMosaic.ValueIdx

/-- The whole product, as the reference computes it. -/
def whole (X : FVec Ideal ⟨2, ![16384, 512]⟩ .f32) (Y : FVec Ideal ⟨2, ![16384, 2048]⟩ .f32) : FVec Ideal ⟨2, ![512, 2048]⟩ .f32 :=
  Host.dotGeneral Cert.ReferenceIdeal.dot_S512x16384_S16384x2048_S512x2048_1_0_0_1_n_n none
    (transpose Cert.ReferenceIdeal.S512x16384 [1, 0] X Cert.ReferenceIdeal.Facts₀.transposes_S16384x512_S512x16384_1_0) Y

theorem whole_at (X : FVec Ideal ⟨2, ![16384, 512]⟩ .f32) (Y : FVec Ideal ⟨2, ![16384, 2048]⟩ .f32) (r : Fin 512) (q : Fin 2048) :
    whole X Y (ix2 r q) = ∑ K : Fin 16384, (X (ix2 K r) * Y (ix2 K q) : EReal) := by
  refine (StackMember.dotGeneral_plain_apply (m := 512) (n := 2048) (k := 16384) none _ Y r q).trans ?_
  refine Finset.sum_congr rfl fun K _ => ?_
  congr 1
  exact congrArg X (idx2_eq rfl rfl)

/-- A sum over all rows, device by device. -/
theorem sum_by_devices (f : Fin 16384 → EReal) :
    ∑ K, f K = ∑ d : Fin 32, ∑ k : Fin 512, f ⟨d.val * 512 + k.val, by have := d.isLt; have := k.isLt; omega⟩ := by
  rw [← (finProdFinEquiv (m := 32) (n := 512)).sum_comp f, Fintype.sum_prod_type]
  refine Finset.sum_congr rfl fun d _ => Finset.sum_congr rfl fun k _ => congrArg f (Fin.ext ?_)
  show k.val + 512 * d.val = d.val * 512 + k.val
  omega

/-- Row `i` of block `c`, in the whole array. -/
theorem block_row_at {R W n : ℕ} (T : Layout.Tiles ⟨2, ![R, W]⟩ ⟨2, ![n, W]⟩ 0 32) (c : Fin 32) (i : (⟨2, ![R, W]⟩ : Shape).Idx) (r : Fin n)
    (hr : r.val = c.val * R + (i 0).val) : T.idx c i = ix2 (n0 := n) (n1 := W) r (i 1) :=
  idx2_eq ((Layout.idx_rows_val T c i).1.trans hr.symm) (Layout.idx_rows_val T c i).2

/-- Each device's result is its block of the whole product. -/
theorem out_whole (X : FVec Ideal ⟨2, ![16384, 512]⟩ .f32) (Y : FVec Ideal ⟨2, ![16384, 2048]⟩ .f32)
    (x : Dev nD → S512x512.Idx → Elt Ideal .f32) (dy : Dev nD → S512x2048.Idx → Elt Ideal .f32)
    (hx : ∀ c, x c = Layout.block ⟨2, ![512, 512]⟩ ⟨2, ![16384, 512]⟩ 0 32 c X)
    (hy : ∀ c, dy c = Layout.block ⟨2, ![512, 2048]⟩ ⟨2, ![16384, 2048]⟩ 0 32 c Y) (c : Dev nD) :
    outAt (prods x dy) c = Layout.block ⟨2, ![16, 2048]⟩ ⟨2, ![512, 2048]⟩ 0 32 c (whole X Y) := by
  funext i
  have hc : c.val < 32 := c.isLt
  have hi : (i 0).val < 16 := (i 0).isLt
  refine (out_value x dy c i).trans (Eq.symm ?_)
  rw [Layout.block_apply, block_row_at _ c i ⟨c.val * 16 + (i 0).val, by omega⟩ rfl]
  refine ((whole_at X Y _ _).trans (sum_by_devices _)).trans ?_
  refine Finset.sum_congr rfl fun d _ => Finset.sum_congr rfl fun k _ => ?_
  rw [hx, hy, Layout.block_apply, Layout.block_apply]
  have hd : d.val < 32 := d.isLt
  have hk : k.val < 512 := k.isLt
  rw [block_row_at _ d (ix2 k _) ⟨d.val * 512 + k.val, by omega⟩ rfl]
  congr 1
  exact congrArg Y (block_row_at _ d (ix2 (n0 := 512) (n1 := 2048) k (i 1)) ⟨d.val * 512 + k.val, by omega⟩ rfl).symm

end Cert.Halving

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The kernel's run, at any values of its operations, leaves the arguments and every semaphore as they were. -/
theorem frame_at {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.Halving.final_x m g c), (h.1 c (1 : Fin 3)).trans (Cert.Halving.final_dy m g c)⟩, h.2⟩)
    (Cert.Halving.run_main m g)

theorem frame_kernelIdeal : Cert.quiescent_KernelIdeal := fun m g _ => frame_at m g

/-- The two printings of the kernel give its one body the same program. -/
theorem same_bodies : Cert.Kernel.defs₀ (F := Bits) = Cert.KernelIdeal.defs₀ (F := Bits) := by
  refine congrArg Defs.onTc ?_
  funext l a
  obtain ⟨_ | _, h⟩ := l
  · obtain ⟨t, s⟩ := a
    rfl
  · exact absurd h (Nat.not_lt.2 (Nat.le_add_left _ _))

/-- The two printings of the kernel are the same program. -/
theorem same_program : Cert.Kernel.defs (F := Bits) = Cert.KernelIdeal.defs (F := Bits) :=
  congrArg (Pipeline.defs Cert.KernelIdeal.pcfgs) same_bodies

/-- The kernel as printed, run at bit patterns. -/
theorem frame_kernel : Cert.quiescent_Kernel := by
  intro m g _
  rw [same_program]
  exact frame_at (F := Bits) m g

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- At exact values each device's result is its block of the reference's product. -/
theorem algebraic : Cert.algebraic_KernelIdeal_ReferenceIdeal := by
  intro m g m' g' _ hagree
  refine ⟨Cert.Halving.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨((h.1 c (2 : Fin 3)).trans (Cert.Halving.final_out m g c)).trans ?_,
      (h.1 c (0 : Fin 3)).trans (Cert.Halving.final_x m g c), (h.1 c (1 : Fin 3)).trans (Cert.Halving.final_dy m g c)⟩)
      (Cert.Halving.run_main (F := Ideal) m g)
    exact Cert.Halving.out_whole _ _ _ _ (fun c => (Cert.Halving.x_eq m c).trans (hagree c).1) (fun c => (Cert.Halving.dy_eq m c).trans (hagree c).2) c
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
